-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  IdealRules.named_const.Statement Cert.Kernel2Ideal.κ "qscale" .f32 0x3E38AA3B#32 ((8⁻¹ * (Real.log 2)⁻¹ : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v33)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v95) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_v98) = v2 c
          ∧ r.2.mem ((c.tc : Thread Cert.Reference4Ideal.nD Cert.Reference4Ideal.τ).loc Cert.Reference4Ideal.main_v101) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x4096x4x2x64 : Shape := ⟨5, ![2, 4096, 4, 2, 64]⟩
abbrev S2x4096x4x128 : Shape := ⟨4, ![2, 4096, 4, 128]⟩
abbrev S2x1x512x4x2x64 : Shape := ⟨6, ![2, 1, 512, 4, 2, 64]⟩
abbrev S2x1x512x4x128 : Shape := ⟨5, ![2, 1, 512, 4, 128]⟩
abbrev S1x64 : Shape := ⟨2, ![1, 64]⟩
abbrev S1x128 : Shape := ⟨2, ![1, 128]⟩
abbrev S_ : Shape := ⟨0, ![]⟩

class Facts : Prop where
  bcast_S_S2x4096x4x2x64 : S_.BroadcastsInDim S2x4096x4x2x64 (![] : Fin 0 → Fin S2x4096x4x2x64.rank)
  reducesTo_S2x4096x4x2x64_S_d0_1_2_3_4 : S2x4096x4x2x64.ReducesTo [0, 1, 2, 3, 4] S_
  h_S_ : 0 < S_.numel
  bcast_S_S2x4096x4x128 : S_.BroadcastsInDim S2x4096x4x128 (![] : Fin 0 → Fin S2x4096x4x128.rank)
  reducesTo_S2x4096x4x128_S_d0_1_2_3 : S2x4096x4x128.ReducesTo [0, 1, 2, 3] S_
  bcast_S_S2x1x512x4x2x64 : S_.BroadcastsInDim S2x1x512x4x2x64 (![] : Fin 0 → Fin S2x1x512x4x2x64.rank)
  reducesTo_S2x1x512x4x2x64_S_d0_1_2_3_4_5 : S2x1x512x4x2x64.ReducesTo [0, 1, 2, 3, 4, 5] S_
  bcast_S_S2x1x512x4x128 : S_.BroadcastsInDim S2x1x512x4x128 (![] : Fin 0 → Fin S2x1x512x4x128.rank)
  reducesTo_S2x1x512x4x128_S_d0_1_2_3_4 : S2x1x512x4x128.ReducesTo [0, 1, 2, 3, 4] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S1x64 .f32) (main_arg8 : FVec F S1x64 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  main_v43

def fn_part1 {F : FTy → Type} [FloatOps F] (main_arg4 : FVec F S2x1x512x4x128 .f32) (main_arg5 : FVec F S1x64 .f32) (main_arg6 : FVec F S1x64 .f32) (main_arg7 : FVec F S1x64 .f32) (main_arg8 : FVec F S1x64 .f32) (main_v13 : IVec S_ 1) (main_v16 : IVec S2x1x512x4x2x64 1) : IVec S_ 1 :=
  let main_c_5 : IVec S_ 1 := constantI S_ 1 1#1
  let main_v17 : IVec S_ 1 := (fun x v => Host.reduce IntOp.andi x v reducesTo_S2x1x512x4x2x64_S_d0_1_2_3_4_5 h_S_) main_v16 main_c_5
  let main_v18 : IVec S_ 1 := andi main_v13 main_v17
  let main_v19 : FVec F S2x1x512x4x128 .f32 := Host.absf main_arg4
  let main_cst_6 : FVec F S_ .f32 := constant S_ .f32 0x7F800000#32
  let main_v20 : FVec F S2x1x512x4x128 .f32 := broadcastInDim S2x1x512x4x128 ![] bcast_S_S2x1x512x4x128 main_cst_6
  let main_v21 : IVec S2x1x512x4x128 1 := cmpf .olt main_v19 main_v20
  let main_c_7 : IVec S_ 1 := constantI S_ 1 1#1
  let main_v22 : IVec S_ 1 := (fun x v => Host.reduce IntOp.andi x v reducesTo_S2x1x512x4x128_S_d0_1_2_3_4 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_v33

def fn {F : FTy → Type} [FloatOps F] (main_arg0 : FVec F S2x4096x4x2x64 .f32) (main_arg1 : FVec F S2x4096x4x2x64 .f32) (main_arg2 : FVec F S2x4096x4x128 .f32) (main_arg3 : FVec F S2x1x512x4x2x64 .f32) (main_arg4 : FVec F S2x1x512x4x128 .f32) (main_arg5 : FVec F S1x64 .f32) (main_arg6 : FVec F S1x64 .f32) (main_arg7 : FVec F S1x64 .f32) (main_arg8 : FVec F S1x64 .f32) (main_arg9 : FVec F S1x128 .f32) : IVec S_ 1 :=
  let main_v0 : FVec F S2x4096x4x2x64 .f32 := Host.absf main_arg0
  let main_cst : FVec F S_ .f32 := constant S_ .f32 0x7F800000#32
  let main_v1 : FVec F S2x4096x4x2x64 .f32 := broadcastInDim S2x4096x4x2x64 ![] bcast_S_S2x4096x4x2x64 main_cst
  let main_v2 : IVec S2x4096x4x2x64 1 := cmpf .olt main_v0 main_v1
  let main_c : IVec S_ 1 := constantI S_ 1 1#1
  let main_v3 : IVec S_ 1 := (fun x v => Host.reduce IntOp.andi x v reducesTo_S2x4096x4x2x64_S_d0_1_2_3_4 h_S_) main_v2 main_c
  let main_v4 : FVec F S2x4096x4x2x64 .f32 := Host.absf main_arg1
  let main_cst_0 : FVec F S_ .f32 := constant S_ .f32 0x7F800000#32
  let main_v5 : FVec F S2x4096x4x2x64 .f32 := broadcastInDim S2x4096x4x2x64 ![] bcast_S_S2x4096x4x2x64 main_cst_0
  let main_v6 : IVec S2x4096x4x2x64 1 := cmpf .olt main_v4 main_v5
  let main_c_1 : IVec S_ 1 := constantI S_ 1 1#1
  let main_v7 : IVec S_ 1 := (fun x v => Host.reduce IntOp.andi x v reducesTo_S2x4096x4x2x64_S_d0_1_2_3_4 h_S_) main_v6 main_c_1
  let main_v8 : IVec S_ 1 := andi main_v3 main_v7
  let main_v9 : FVec F S2x4096x4x128 .f32 := Host.absf main_arg2
  let main_cst_2 : FVec F S_ .f32 := constant S_ .f32 0x7F800000#32
  let main_v10 : FVec F S2x4096x4x128 .f32 := broadcastInDim S2x4096x4x128 ![] bcast_S_S2x4096x4x128 main_cst_2
  let main_v11 : IVec S2x4096x4x128 1 := cmpf .olt main_v9 main_v10
  let main_c_3 : IVec S_ 1 := constantI S_ 1 1#1
  let main_v12 : IVec S_ 1 := (fun x v => Host.reduce IntOp.andi x v reducesTo_S2x4096x4x128_S_d0_1_2_3 h_S_) main_v11 main_c_3
  let main_v13 : IVec S_ 1 := andi main_v8 main_v12
  let main_v14 : FVec F S2x1x512x4x2x64 .f32 := Host.absf main_arg3
  let main_cst_4 : FVec F S_ .f32 := constant S_ .f32 0x7F800000#32
  let main_v15 : FVec F S2x1x512x4x2x64 .f32 := broadcastInDim S2x1x512x4x2x64 ![] bcast_S_S2x1x512x4x2x64 main_cst_4
  let main_v16 : IVec S2x1x512x4x2x64 1 := cmpf .olt main_v14 main_v15
  fn_part1 (F := F) main_arg4 main_arg5 main_arg6 main_arg7 main_arg8 main_v13 main_v16
-- ==== Kernel.lean ====
abbrev S16x256x1024 : Shape := ⟨3, ![16, 256, 1024]⟩
abbrev S16x256x512 : Shape := ⟨3, ![16, 256, 512]⟩
abbrev S2x4096x1024 : Shape := ⟨3, ![2, 4096, 1024]⟩
abbrev S2x4096x512 : Shape := ⟨3, ![2, 4096, 512]⟩
abbrev S2x6144 : Shape := ⟨2, ![2, 6144]⟩
abbrev S2x2x6144 : Shape := ⟨3, ![2, 2, 6144]⟩
abbrev S2x1024 : Shape := ⟨2, ![2, 1024]⟩
abbrev S1x1024x1024 : Shape := ⟨3, ![1, 1024, 1024]⟩
abbrev S2x1024x4096 : Shape := ⟨3, ![2, 1024, 4096]⟩
abbrev S2x1x6144 : Shape := ⟨3, ![2, 1, 6144]⟩
abbrev S_ : Shape := ⟨0, ![]⟩
abbrev S2x5x6144 : Shape := ⟨3, ![2, 5, 6144]⟩
abbrev S2x8x6144 : Shape := ⟨3, ![2, 8, 6144]⟩
abbrev S2x8x6x1x1024 : Shape := ⟨5, ![2, 8, 6, 1, 1024]⟩
abbrev S1x4096x1024 : Shape := ⟨3, ![1, 4096, 1024]⟩
abbrev S1x4096x512 : Shape := ⟨3, ![1, 4096, 512]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S4096x1024 : Shape := ⟨2, ![4096, 1024]⟩
abbrev S1x512x1024 : Shape := ⟨3, ![1, 512, 1024]⟩
abbrev S1x512x512 : Shape := ⟨3, ![1, 512, 512]⟩
abbrev S1x1x1x1x1024 : Shape := ⟨5, ![1, 1, 1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 35
  | .vmem => 28
  | .smem => 0
  | _ => 0

abbrev bufTy : (tb : Table) → Fin (tcTables nBuf tb) → BufTy
  | .hbm, ⟨0, _⟩ => ⟨S16x256x1024, .f32⟩
  | .hbm, ⟨1, _⟩ => ⟨S16x256x512, .f32⟩
  | .hbm, ⟨2, _⟩ => ⟨S16x256x512, .f32⟩
  | .hbm, ⟨3, _⟩ => ⟨S2x4096x1024, .f32⟩
  | .hbm, ⟨4, _⟩ => ⟨S2x4096x512, .f32⟩
  | .hbm, ⟨5, _⟩ => ⟨S2x4096x512, .f32⟩
  | .hbm, ⟨6, _⟩ => ⟨S2x6144, .f32⟩
  | .hbm, ⟨7, _⟩ => ⟨S2x2x6144, .f32⟩
  | .hbm, ⟨8, _⟩ => ⟨S2x1024, .f32⟩
  | .hbm, ⟨9, _⟩ => ⟨S1x1024x1024, .f32⟩
  | .hbm, ⟨10, _⟩ => ⟨S2x1024x4096, .f32⟩
  | .hbm, ⟨11, _⟩ => ⟨S2x4096x1024, .f32⟩
  | .hbm, ⟨12, _⟩ => ⟨S2x1x6144, .f32⟩
  | .hbm, ⟨13, _⟩ => ⟨S_, .f32⟩
  | .hbm, ⟨14, _⟩ => ⟨S2x5x6144, .f32⟩
  | .hbm, ⟨15, _⟩ => ⟨S2x8x6144, .f32⟩
  | .hbm, ⟨16, _⟩ => ⟨S2x8x6x1x1024, .f32⟩
  | .hbm, ⟨17, _⟩ => ⟨S1x4096x1024, .f32⟩
  | .hbm, ⟨18, _⟩ => ⟨S16x256x512, .bf16⟩
  | .hbm, ⟨19, _⟩ => ⟨S1x4096x512, .bf16⟩
  | .hbm, ⟨20, _⟩ => ⟨S16x256x512, .bf16⟩
  | .hbm, ⟨21, _⟩ => ⟨S1x4096x512, .bf16⟩
  | .hbm, ⟨22, _⟩ => ⟨S2x4096x512, .bf16⟩
  | .hbm, ⟨23, _⟩ => ⟨S2x4096x512, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024x4096, .f32⟩
  | .hbm, ⟨28, _⟩ => ⟨S1024x4096, .f32⟩
  | .hbm, ⟨29, _⟩ => ⟨S1024x4096, .bf16⟩
  | .hbm, ⟨30, _⟩ => ⟨S1x4096x1024, .f32⟩
  | .hbm, ⟨31, _⟩ => ⟨S4096x1024, .f32⟩
  | .hbm, ⟨32, _⟩ => ⟨S4096x1024, .bf16⟩
  | .hbm, ⟨33, _⟩ => ⟨S1x4096x1024, .f32⟩
  | .hbm, ⟨34, _⟩ => ⟨S2x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1x1x1x1024, .f32⟩
  | .local _ .vmem, ⟨15, _⟩ => ⟨S1x1x1x1x1024, .f32⟩
  | .local _ .vmem, ⟨16, _⟩ => ⟨S1x1x1x1x1024, .f32⟩
  | .local _ .vmem, ⟨17, _⟩ => ⟨S1x1x1x1x1024, .f32⟩
  | .local _ .vmem, ⟨18, _⟩ => ⟨S1x1x1x1x1024, .f32⟩
  | .local _ .vmem, ⟨19, _⟩ => ⟨S1x1x1x1x1024, .f32⟩
  | .local _ .vmem, ⟨20, _⟩ => ⟨S1x1024, .f32⟩
  | .local _ .vmem, ⟨21, _⟩ => ⟨S1x1024x1024, .f32⟩
  | .local _ .vmem, ⟨22, _⟩ => ⟨S1024x4096, .bf16⟩
  | .local _ .vmem, ⟨23, _⟩ => ⟨S4096x1024, .bf16⟩
  | .local _ .vmem, ⟨24, _⟩ => ⟨S1x512x1024, .f32⟩
  | .local _ .vmem, ⟨25, _⟩ => ⟨S1x512x1024, .f32⟩
  | .local _ .vmem, ⟨26, _⟩ => ⟨S1x512x1024, .f32⟩
  | .local _ .vmem, ⟨27, _⟩ => ⟨S1x512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 3 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_4 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_5 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_6 (i : grid0.Coords) : Fin 5 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.minsi arg0 c7_i32
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v18
  let c8_i32_12 : BitVec 32 := 8#32
  let v30 : BitVec 32 := Scalar.subi arg0 c8_i32_12
  let c0_i32_13 : BitVec 32 := 0#32
  let v31 : BitVec 32 := Scalar.maxsi v30 c0_i32_13
  let c8_i32_14 : BitVec 32 := 8#32
  let v32 : BitVec 32 := Scalar.divsi v31 c8_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c8_i32_14 c0_i32_17
  let v39 : BitVec 32 := Scalar.extui v38
  let c0_i32_18 : BitVec 32 := 0#32
  let v40 : BitVec 1 := Scalar.cmpi .slt c8_i32_14 c0_i32_18
  let v41 : BitVec 32 := Scalar.extui v40
  let v42 : BitVec 32 := Scalar.subi v39 v41
  let v43 : BitVec 1 := Scalar.cmpi .ne v37 v42
  let v44 : BitVec 32 := Scalar.remsi v31 c8_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_24 : BitVec 32 := 0#32
  let v52 : BitVec 1 := Scalar.cmpi .ne v51 c0_i32_24
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let v56 : BitVec 1 := Scalar.andi v55 v52
  let v57 : BitVec 32 := Scalar.addi v51 v50
  let v58 : BitVec 32 := Scalar.select v56 v57 v51
  let c1_i32_27 : BitVec 32 := 1#32
  let v59 : BitVec 32 := Scalar.addi c1_i32_27 v48
  let v60 : BitVec 32 := Scalar.select v0 v29 v59
  let c1_i32_28 : BitVec 32 := 1#32
  let c2_i32 : BitVec 32 := 2#32
  let c0_i32_29 : BitVec 32 := 0#32
  let c0_i32_30 : BitVec 32 := 0#32
  let c0_i32_31 : BitVec 32 := 0#32
  ![c1_i32_28.toNat, v60.toNat, c2_i32.toNat, c0_i32_29.toNat, c0_i32_30.toNat]

def cc0_transform_7 (i : grid0.Coords) : Fin 5 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.minsi arg0 c7_i32
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v18
  let c8_i32_12 : BitVec 32 := 8#32
  let v30 : BitVec 32 := Scalar.subi arg0 c8_i32_12
  let c0_i32_13 : BitVec 32 := 0#32
  let v31 : BitVec 32 := Scalar.maxsi v30 c0_i32_13
  let c8_i32_14 : BitVec 32 := 8#32
  let v32 : BitVec 32 := Scalar.divsi v31 c8_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c8_i32_14 c0_i32_17
  let v39 : BitVec 32 := Scalar.extui v38
  let c0_i32_18 : BitVec 32 := 0#32
  let v40 : BitVec 1 := Scalar.cmpi .slt c8_i32_14 c0_i32_18
  let v41 : BitVec 32 := Scalar.extui v40
  let v42 : BitVec 32 := Scalar.subi v39 v41
  let v43 : BitVec 1 := Scalar.cmpi .ne v37 v42
  let v44 : BitVec 32 := Scalar.remsi v31 c8_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_24 : BitVec 32 := 0#32
  let v52 : BitVec 1 := Scalar.cmpi .ne v51 c0_i32_24
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let v56 : BitVec 1 := Scalar.andi v55 v52
  let v57 : BitVec 32 := Scalar.addi v51 v50
  let v58 : BitVec 32 := Scalar.select v56 v57 v51
  let c1_i32_27 : BitVec 32 := 1#32
  let v59 : BitVec 32 := Scalar.addi c1_i32_27 v48
  let v60 : BitVec 32 := Scalar.select v0 v29 v59
  let c1_i32_28 : BitVec 32 := 1#32
  let c3_i32 : BitVec 32 := 3#32
  let c0_i32_29 : BitVec 32 := 0#32
  let c0_i32_30 : BitVec 32 := 0#32
  let c0_i32_31 : BitVec 32 := 0#32
  ![c1_i32_28.toNat, v60.toNat, c3_i32.toNat, c0_i32_29.toNat, c0_i32_30.toNat]

def cc0_transform_8 (i : grid0.Coords) : Fin 5 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.minsi arg0 c7_i32
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v18
  let c8_i32_12 : BitVec 32 := 8#32
  let v30 : BitVec 32 := Scalar.subi arg0 c8_i32_12
  let c0_i32_13 : BitVec 32 := 0#32
  let v31 : BitVec 32 := Scalar.maxsi v30 c0_i32_13
  let c8_i32_14 : BitVec 32 := 8#32
  let v32 : BitVec 32 := Scalar.divsi v31 c8_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c8_i32_14 c0_i32_17
  let v39 : BitVec 32 := Scalar.extui v38
  let c0_i32_18 : BitVec 32 := 0#32
  let v40 : BitVec 1 := Scalar.cmpi .slt c8_i32_14 c0_i32_18
  let v41 : BitVec 32 := Scalar.extui v40
  let v42 : BitVec 32 := Scalar.subi v39 v41
  let v43 : BitVec 1 := Scalar.cmpi .ne v37 v42
  let v44 : BitVec 32 := Scalar.remsi v31 c8_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_24 : BitVec 32 := 0#32
  let v52 : BitVec 1 := Scalar.cmpi .ne v51 c0_i32_24
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let v56 : BitVec 1 := Scalar.andi v55 v52
  let v57 : BitVec 32 := Scalar.addi v51 v50
  let v58 : BitVec 32 := Scalar.select v56 v57 v51
  let c1_i32_27 : BitVec 32 := 1#32
  let v59 : BitVec 32 := Scalar.addi c1_i32_27 v48
  let v60 : BitVec 32 := Scalar.select v0 v29 v59
  let c1_i32_28 : BitVec 32 := 1#32
  let c4_i32 : BitVec 32 := 4#32
  let c0_i32_29 : BitVec 32 := 0#32
  let c0_i32_30 : BitVec 32 := 0#32
  let c0_i32_31 : BitVec 32 := 0#32
  ![c1_i32_28.toNat, v60.toNat, c4_i32.toNat, c0_i32_29.toNat, c0_i32_30.toNat]

def cc0_transform_9 (i : grid0.Coords) : Fin 5 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.minsi arg0 c7_i32
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v18
  let c8_i32_12 : BitVec 32 := 8#32
  let v30 : BitVec 32 := Scalar.subi arg0 c8_i32_12
  let c0_i32_13 : BitVec 32 := 0#32
  let v31 : BitVec 32 := Scalar.maxsi v30 c0_i32_13
  let c8_i32_14 : BitVec 32 := 8#32
  let v32 : BitVec 32 := Scalar.divsi v31 c8_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c8_i32_14 c0_i32_17
  let v39 : BitVec 32 := Scalar.extui v38
  let c0_i32_18 : BitVec 32 := 0#32
  let v40 : BitVec 1 := Scalar.cmpi .slt c8_i32_14 c0_i32_18
  let v41 : BitVec 32 := Scalar.extui v40
  let v42 : BitVec 32 := Scalar.subi v39 v41
  let v43 : BitVec 1 := Scalar.cmpi .ne v37 v42
  let v44 : BitVec 32 := Scalar.remsi v31 c8_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_24 : BitVec 32 := 0#32
  let v52 : BitVec 1 := Scalar.cmpi .ne v51 c0_i32_24
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let v56 : BitVec 1 := Scalar.andi v55 v52
  let v57 : BitVec 32 := Scalar.addi v51 v50
  let v58 : BitVec 32 := Scalar.select v56 v57 v51
  let c1_i32_27 : BitVec 32 := 1#32
  let v59 : BitVec 32 := Scalar.addi c1_i32_27 v48
  let v60 : BitVec 32 := Scalar.select v0 v29 v59
  let c1_i32_28 : BitVec 32 := 1#32
  let c5_i32 : BitVec 32 := 5#32
  let c0_i32_29 : BitVec 32 := 0#32
  let c0_i32_30 : BitVec 32 := 0#32
  let c0_i32_31 : BitVec 32 := 0#32
  ![c1_i32_28.toNat, v60.toNat, c5_i32.toNat, c0_i32_29.toNat, c0_i32_30.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_15 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S16x256x1024 : Shape := ⟨3, ![16, 256, 1024]⟩
abbrev S16x256x512 : Shape := ⟨3, ![16, 256, 512]⟩
abbrev S2x4096x1024 : Shape := ⟨3, ![2, 4096, 1024]⟩
abbrev S2x4096x512 : Shape := ⟨3, ![2, 4096, 512]⟩
abbrev S2x6144 : Shape := ⟨2, ![2, 6144]⟩
abbrev S2x2x6144 : Shape := ⟨3, ![2, 2, 6144]⟩
abbrev S2x1024 : Shape := ⟨2, ![2, 1024]⟩
abbrev S1x1024x1024 : Shape := ⟨3, ![1, 1024, 1024]⟩
abbrev S2x1024x4096 : Shape := ⟨3, ![2, 1024, 4096]⟩
abbrev S1x6144 : Shape := ⟨2, ![1, 6144]⟩
abbrev S6144 : Shape := ⟨1, ![6144]⟩
abbrev S1x1x6144 : Shape := ⟨3, ![1, 1, 6144]⟩
abbrev S1x1x1024 : Shape := ⟨3, ![1, 1, 1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S16x256x4096 : Shape := ⟨3, ![16, 256, 4096]⟩
abbrev S1x4096x1024 : Shape := ⟨3, ![1, 4096, 1024]⟩
abbrev S4096x1024 : Shape := ⟨2, ![4096, 1024]⟩
abbrev S1x2x6144 : Shape := ⟨3, ![1, 2, 6144]⟩
abbrev S2x1x6144 : Shape := ⟨3, ![2, 1, 6144]⟩
abbrev S2x1x1024 : Shape := ⟨3, ![2, 1, 1024]⟩
abbrev S2x4096 : Shape := ⟨2, ![2, 4096]⟩
abbrev S2x4096x1 : Shape := ⟨3, ![2, 4096, 1]⟩
abbrev S2x4096x4096 : Shape := ⟨3, ![2, 4096, 4096]⟩

abbrev nBuf : Space → Nat
  | .hbm => 120
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x256x512, .f32⟩
  | .hbm, ⟨2, _⟩ => ⟨S16x256x512, .f32⟩
  | .hbm, ⟨3, _⟩ => ⟨S2x4096x1024, .f32⟩
  | .hbm, ⟨4, _⟩ => ⟨S2x4096x512, .f32⟩
  | .hbm, ⟨5, _⟩ => ⟨S2x4096x512, .f32⟩
  | .hbm, ⟨6, _⟩ => ⟨S2x6144, .f32⟩
  | .hbm, ⟨7, _⟩ => ⟨S2x2x6144, .f32⟩
  | .hbm, ⟨8, _⟩ => ⟨S2x1024, .f32⟩
  | .hbm, ⟨9, _⟩ => ⟨S1x1024x1024, .f32⟩
  | .hbm, ⟨10, _⟩ => ⟨S2x1024x4096, .f32⟩
  | .hbm, ⟨11, _⟩ => ⟨S2x4096x1024, .f32⟩
  | .hbm, ⟨12, _⟩ => ⟨S1x6144, .f32⟩
  | .hbm, ⟨13, _⟩ => ⟨S6144, .f32⟩
  | .hbm, ⟨14, _⟩ => ⟨S1x6144, .f32⟩
  | .hbm, ⟨15, _⟩ => ⟨S1x1x6144, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S16x256x1024, .f32⟩
  | .hbm, ⟨23, _⟩ => ⟨S1024x1024, .f32⟩
  | .hbm, ⟨24, _⟩ => ⟨S16x256x1024, .f32⟩
  | .hbm, ⟨25, _⟩ => ⟨S16x256x1024, .f32⟩
  | .hbm, ⟨26, _⟩ => ⟨S16x256x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S16x256, .f32⟩
  | .hbm, ⟨31, _⟩ => ⟨S16x256x1, .f32⟩
  | .hbm, ⟨32, _⟩ => ⟨S_, .f32⟩
  | .hbm, ⟨33, _⟩ => ⟨S16x256x1, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S16x256x1, .f32⟩
  | .hbm, ⟨39, _⟩ => ⟨S16x256x1024, .f32⟩
  | .hbm, ⟨40, _⟩ => ⟨S16x256x1024, .f32⟩
  | .hbm, ⟨41, _⟩ => ⟨S1x1024, .f32⟩
  | .hbm, ⟨42, _⟩ => ⟨S1024, .f32⟩
  | .hbm, ⟨43, _⟩ => ⟨S1x1x1024, .f32⟩
  | .hbm, ⟨44, _⟩ => ⟨S16x256x1024, .f32⟩
  | .hbm, ⟨45, _⟩ => ⟨S16x256x1024, .f32⟩
  | .hbm, ⟨46, _⟩ => ⟨S_, .f32⟩
  | .hbm, ⟨47, _⟩ => ⟨S1x1x1024, .f32⟩
  | .hbm, ⟨48, _⟩ => ⟨S1x1x1024, .f32⟩
  | .hbm, ⟨49, _⟩ => ⟨S16x256x1024, .f32⟩
  | .hbm, ⟨50, _⟩ => ⟨S16x256x1024, .f32⟩
  | .hbm, ⟨51, _⟩ => ⟨S16x256x1024, .f32⟩
  | .hbm, ⟨52, _⟩ => ⟨S16x256x1024, .f32⟩
  | .hbm, ⟨53, _⟩ => ⟨S1x1024x4096, .f32⟩
  | .hbm, ⟨54, _⟩ => ⟨S1024x4096, .f32⟩
  | .hbm, ⟨55, _⟩ => ⟨S16x256x4096, .f32⟩
  | .hbm, ⟨56, _⟩ => ⟨S_, .f32⟩
  | .hbm, ⟨57, _⟩ => ⟨S16x256x4096, .f32⟩
  | .hbm, ⟨58, _⟩ => ⟨S16x256x4096, .f32⟩
  | .hbm, ⟨59, _⟩ => ⟨S16x256x4096, .f32⟩
  | .hbm, ⟨60, _⟩ => ⟨S1x4096x1024, .f32⟩
  | .hbm, ⟨61, _⟩ => ⟨S4096x1024, .f32⟩
  | .hbm, ⟨62, _⟩ => ⟨S16x256x1024, .f32⟩
  | .hbm, ⟨63, _⟩ => ⟨S16x256x1024, .f32⟩
  | .hbm, ⟨64, _⟩ => ⟨S16x256x1024, .f32⟩
  | .hbm, ⟨65, _⟩ => ⟨S16x256x1024, .f32⟩
  | .hbm, ⟨66, _⟩ => ⟨S1x2x6144, .f32⟩
  | .hbm, ⟨67, _⟩ => ⟨S2x6144, .f32⟩
  | .hbm, ⟨68, _⟩ => ⟨S2x1x6144, .f32⟩
  | .hbm, ⟨69, _⟩ => ⟨S2x1x1024, .f32⟩
  | .hbm, ⟨70, _⟩ => ⟨S2x1x1024, .f32⟩
  | .hbm, ⟨71, _⟩ => ⟨S2x1x1024, .f32⟩
  | .hbm, ⟨72, _⟩ => ⟨S2x1x1024, .f32⟩
  | .hbm, ⟨73, _⟩ => ⟨S2x1x1024, .f32⟩
  | .hbm, ⟨74, _⟩ => ⟨S2x1x1024, .f32⟩
  | .hbm, ⟨75, _⟩ => ⟨S2x4096x1024, .f32⟩
  | .hbm, ⟨76, _⟩ => ⟨S1024x1024, .f32⟩
  | .hbm, ⟨77, _⟩ => ⟨S2x4096x1024, .f32⟩
  | .hbm, ⟨78, _⟩ => ⟨S2x4096x1024, .f32⟩
  | .hbm, ⟨79, _⟩ => ⟨S2x4096x1024, .f32⟩
  | .hbm, ⟨80, _⟩ => ⟨S2x4096x1024, .f32⟩
  | .hbm, ⟨81, _⟩ => ⟨S2x4096x1024, .f32⟩
  | .hbm, ⟨82, _⟩ => ⟨S_, .f32⟩
  | .hbm, ⟨83, _⟩ => ⟨S2x4096, .f32⟩
  | .hbm, ⟨84, _⟩ => ⟨S2x4096x1, .f32⟩
  | .hbm, ⟨85, _⟩ => ⟨S_, .f32⟩
  | .hbm, ⟨86, _⟩ => ⟨S2x4096x1, .f32⟩
  | .hbm, ⟨87, _⟩ => ⟨S2x4096x1, .f32⟩
  | .hbm, ⟨88, _⟩ => ⟨S_, .f32⟩
  | .hbm, ⟨89, _⟩ => ⟨S2x4096x1, .f32⟩
  | .hbm, ⟨90, _⟩ => ⟨S2x4096x1, .f32⟩
  | .hbm, ⟨91, _⟩ => ⟨S2x4096x1, .f32⟩
  | .hbm, ⟨92, _⟩ => ⟨S2x4096x1024, .f32⟩
  | .hbm, ⟨93, _⟩ => ⟨S2x4096x1024, .f32⟩
  | .hbm, ⟨94, _⟩ => ⟨S1x1024, .f32⟩
  | .hbm, ⟨95, _⟩ => ⟨S1024, .f32⟩
  | .hbm, ⟨96, _⟩ => ⟨S1x1x1024, .f32⟩
  | .hbm, ⟨97, _⟩ => ⟨S2x4096x1024, .f32⟩
  | .hbm, ⟨98, _⟩ => ⟨S2x4096x1024, .f32⟩
  | .hbm, ⟨99, _⟩ => ⟨S_, .f32⟩
  | .hbm, ⟨100, _⟩ => ⟨S2x1x1024, .f32⟩
  | .hbm, ⟨101, _⟩ => ⟨S2x1x1024, .f32⟩
  | .hbm, ⟨102, _⟩ => ⟨S2x4096x1024, .f32⟩
  | .hbm, ⟨103, _⟩ => ⟨S2x4096x1024, .f32⟩
  | .hbm, ⟨104, _⟩ => ⟨S2x4096x1024, .f32⟩
  | .hbm, ⟨105, _⟩ => ⟨S2x4096x1024, .f32⟩
  | .hbm, ⟨106, _⟩ => ⟨S1x1024x4096, .f32⟩
  | .hbm, ⟨107, _⟩ => ⟨S1024x4096, .f32⟩
  | .hbm, ⟨108, _⟩ => ⟨S2x4096x4096, .f32⟩
  | .hbm, ⟨109, _⟩ => ⟨S_, .f32⟩
  | .hbm, ⟨110, _⟩ => ⟨S2x4096x4096, .f32⟩
  | .hbm, ⟨111, _⟩ => ⟨S2x4096x4096, .f32⟩
  | .hbm, ⟨112, _⟩ => ⟨S2x4096x4096, .f32⟩
  | .hbm, ⟨113, _⟩ => ⟨S1x4096x1024, .f32⟩
  | .hbm, ⟨114, _⟩ => ⟨S4096x1024, .f32⟩
  | .hbm, ⟨115, _⟩ => ⟨S2x4096x1024, .f32⟩
  | .hbm, ⟨116, _⟩ => ⟨S2x4096x1024, .f32⟩
  | .hbm, ⟨117, _⟩ => ⟨S2x4096x1024, .f32⟩
  | .hbm, ⟨118, _⟩ => ⟨S2x4096x1024, .f32⟩
  | .hbm, ⟨119, _⟩ => ⟨S1x4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_3 : Ref sig .tc := ⟨.hbm, 82, rfl⟩
abbrev main_v64 : Ref sig .tc := ⟨.hbm, 83, rfl⟩
abbrev main_v65 : Ref sig .tc := ⟨.hbm, 84, rfl⟩
abbrev main_cst_4 : Ref sig .tc := ⟨.hbm, 85, rfl⟩
abbrev main_v66 : Ref sig .tc := ⟨.hbm, 86, rfl⟩
abbrev main_v67 : Ref sig .tc := ⟨.hbm, 87, rfl⟩
abbrev main_cst_5 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_6 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_call1_cst : Ref sig .tc := ⟨.hbm, 109, rfl⟩
abbrev main_call1_v0 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]
-- ==== Kernel2.lean ====
abbrev S2x4096x4x2x64 : Shape := ⟨5, ![2, 4096, 4, 2, 64]⟩
abbrev S2x4096x4x128 : Shape := ⟨4, ![2, 4096, 4, 128]⟩
abbrev S2x1x512x4x2x64 : Shape := ⟨6, ![2, 1, 512, 4, 2, 64]⟩
abbrev S2x1x512x4x128 : Shape := ⟨5, ![2, 1, 512, 4, 128]⟩
abbrev S1x64 : Shape := ⟨2, ![1, 64]⟩
abbrev S1x128 : Shape := ⟨2, ![1, 128]⟩
abbrev S2x4096x512 : Shape := ⟨3, ![2, 4096, 512]⟩
abbrev S2x512x4x2x64 : Shape := ⟨5, ![2, 512, 4, 2, 64]⟩
abbrev S2x512x512 : Shape := ⟨3, ![2, 512, 512]⟩
abbrev S2x512x4x128 : Shape := ⟨4, ![2, 512, 4, 128]⟩
abbrev S2x4x128x512 : Shape := ⟨4, ![2, 4, 128, 512]⟩
abbrev S_ : Shape := ⟨0, ![]⟩
abbrev S2x4x16x512 : Shape := ⟨4, ![2, 4, 16, 512]⟩
abbrev S1 : Shape := ⟨1, ![1]⟩
abbrev S2x4x512 : Shape := ⟨3, ![2, 4, 512]⟩
abbrev S2x4x144x512 : Shape := ⟨4, ![2, 4, 144, 512]⟩
abbrev S2x4x128x4096 : Shape := ⟨4, ![2, 4, 128, 4096]⟩
abbrev S2x4x16x4096 : Shape := ⟨4, ![2, 4, 16, 4096]⟩
abbrev S2x4x4096 : Shape := ⟨3, ![2, 4, 4096]⟩
abbrev S2x4x144x4096 : Shape := ⟨4, ![2, 4, 144, 4096]⟩
abbrev S1x1x64 : Shape := ⟨3, ![1, 1, 64]⟩
abbrev S1x4x64 : Shape := ⟨3, ![1, 4, 64]⟩
abbrev S4x64 : Shape := ⟨2, ![4, 64]⟩
abbrev S128 : Shape := ⟨1, ![128]⟩
abbrev S1x2048x128 : Shape := ⟨3, ![1, 2048, 128]⟩
abbrev S1x512x128 : Shape := ⟨3, ![1, 512, 128]⟩
abbrev S1x4096x128 : Shape := ⟨3, ![1, 4096, 128]⟩
abbrev S1x1x144x512 : Shape := ⟨4, ![1, 1, 144, 512]⟩
abbrev S1x1x144x4096 : Shape := ⟨4, ![1, 1, 144, 4096]⟩
abbrev S256x128 : Shape := ⟨2, ![256, 128]⟩
abbrev S1x1x1 : Shape := ⟨3, ![1, 1, 1]⟩
abbrev S1x1 : Shape := ⟨2, ![1, 1]⟩
abbrev S1x256x128 : Shape := ⟨3, ![1, 256, 128]⟩
abbrev S512x128 : Shape := ⟨2, ![512, 128]⟩
abbrev S512x512 : Shape := ⟨2, ![512, 512]⟩
abbrev S512 : Shape := ⟨1, ![512]⟩
abbrev S1x512 : Shape := ⟨2, ![1, 512]⟩
abbrev S1x1x128x512 : Shape := ⟨4, ![1, 1, 128, 512]⟩
abbrev S128x512 : Shape := ⟨2, ![128, 512]⟩
abbrev S128x256 : Shape := ⟨2, ![128, 256]⟩
abbrev S1x256 : Shape := ⟨2, ![1, 256]⟩
abbrev S256 : Shape := ⟨1, ![256]⟩
abbrev S256x1 : Shape := ⟨2, ![256, 1]⟩

abbrev nBuf : Space → Nat
  | .hbm => 50
  | .vmem => 14
  | .smem => 0
  | _ => 0

abbrev bufTy : (tb : Table) → Fin (tcTables nBuf tb) → BufTy
  | .hbm, ⟨0, _⟩ => ⟨S2x4096x4x2x64, .f32⟩
  | .hbm, ⟨1, _⟩ => ⟨S2x4096x4x2x64, .f32⟩
  | .hbm, ⟨2, _⟩ => ⟨S2x4096x4x128, .f32⟩
  | .hbm, ⟨3, _⟩ => ⟨S2x1x512x4x2x64, .f32⟩
  | .hbm, ⟨4, _⟩ => ⟨S2x1x512x4x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S2x4096x512, .f32⟩
  | .hbm, ⟨11, _⟩ => ⟨S2x512x4x2x64, .f32⟩
  | .hbm, ⟨12, _⟩ => ⟨S2x512x512, .f32⟩
  | .hbm, ⟨13, _⟩ => ⟨S2x512x512, .bf16⟩
  | .hbm, ⟨14, _⟩ => ⟨S2x4096x512, .f32⟩
  | .hbm, ⟨15, _⟩ => ⟨S2x4096x512, .bf16⟩
  | .hbm, ⟨16, _⟩ => ⟨S2x512x4x128, .f32⟩
  | .hbm, ⟨17, _⟩ => ⟨S2x512x512, .f32⟩
  | .hbm, ⟨18, _⟩ => ⟨S2x512x512, .bf16⟩
  | .hbm, ⟨19, _⟩ => ⟨S2x512x4x128, .bf16⟩
  | .hbm, ⟨20, _⟩ => ⟨S2x4x128x512, .bf16⟩
  | .hbm, ⟨21, _⟩ => ⟨S_, .bf16⟩
  | .hbm, ⟨22, _⟩ => ⟨S2x4x16x512, .bf16⟩
  | .hbm, ⟨23, _⟩ => ⟨S_, .i32⟩
  | .hbm, ⟨24, _⟩ => ⟨S1, .i32⟩
  | .hbm, ⟨25, _⟩ => ⟨S_, .bf16⟩
  | .hbm, ⟨26, _⟩ => ⟨S2x4x512, .bf16⟩
  | .hbm, ⟨27, _⟩ => ⟨S2x4x16x512, .bf16⟩
  | .hbm, ⟨28, _⟩ => ⟨S2x4x144x512, .bf16⟩
  | .hbm, ⟨29, _⟩ => ⟨S2x4096x512, .f32⟩
  | .hbm, ⟨30, _⟩ => ⟨S2x4096x512, .bf16⟩
  | .hbm, ⟨31, _⟩ => ⟨S2x4096x4x128, .bf16⟩
  | .hbm, ⟨32, _⟩ => ⟨S2x4x128x4096, .bf16⟩
  | .hbm, ⟨33, _⟩ => ⟨S_, .bf16⟩
  | .hbm, ⟨34, _⟩ => ⟨S2x4x16x4096, .bf16⟩
  | .hbm, ⟨35, _⟩ => ⟨S_, .i32⟩
  | .hbm, ⟨36, _⟩ => ⟨S1, .i32⟩
  | .hbm, ⟨37, _⟩ => ⟨S_, .bf16⟩
  | .hbm, ⟨38, _⟩ => ⟨S2x4x4096, .bf16⟩
  | .hbm, ⟨39, _⟩ => ⟨S2x4x16x4096, .bf16⟩
  | .hbm, ⟨40, _⟩ => ⟨S2x4x144x4096, .bf16⟩
  | .hbm, ⟨41, _⟩ => ⟨S1x1x64, .f32⟩
  | .hbm, ⟨42, _⟩ => ⟨S1x1x64, .f32⟩
  | .hbm, ⟨43, _⟩ => ⟨S1x1x64, .f32⟩
  | .hbm, ⟨44, _⟩ => ⟨S1x1x64, .f32⟩
  | .hbm, ⟨45, _⟩ => ⟨S1x4x64, .f32⟩
  | .hbm, ⟨46, _⟩ => ⟨S4x64, .f32⟩
  | .hbm, ⟨47, _⟩ => ⟨S128, .f32⟩
  | .hbm, ⟨48, _⟩ => ⟨S1x128, .f32⟩
  | .hbm, ⟨49, _⟩ => ⟨S2x4096x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x512x128, .bf16⟩
  | .local _ .vmem, ⟨3, _⟩ => ⟨S1x512x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x144x512, .bf16⟩
  | .local _ .vmem, ⟨7, _⟩ => ⟨S1x1x144x512, .bf16⟩
  | .local _ .vmem, ⟨8, _⟩ => ⟨S1x1x144x4096, .bf16⟩
  | .local _ .vmem, ⟨9, _⟩ => ⟨S1x1x144x4096, .bf16⟩
  | .local _ .vmem, ⟨10, _⟩ => ⟨S4x64, .f32⟩
  | .local _ .vmem, ⟨11, _⟩ => ⟨S1x128, .f32⟩
  | .local _ .vmem, ⟨12, _⟩ => ⟨S1x2048x128, .bf16⟩
  | .local _ .vmem, ⟨13, _⟩ => ⟨S1x2048x128, .bf16⟩
  | _, _ => ⟨S2x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x144x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel2Ideal.lean ====
variable {F : FTy → Type} [FloatOps F] [Named F]
def κ : String → Option EReal := fun
  | "qscale" => some ((8⁻¹ * (Real.log 2)⁻¹ : ℝ) : EReal)
  | _ => none
-- ==== Reference2Ideal.lean ====
abbrev S2x4096x4x2x64 : Shape := ⟨5, ![2, 4096, 4, 2, 64]⟩
abbrev S2x4096x4x128 : Shape := ⟨4, ![2, 4096, 4, 128]⟩
abbrev S2x1x512x4x2x64 : Shape := ⟨6, ![2, 1, 512, 4, 2, 64]⟩
abbrev S2x1x512x4x128 : Shape := ⟨5, ![2, 1, 512, 4, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S2x512x4x2x64 : Shape := ⟨5, ![2, 512, 4, 2, 64]⟩
abbrev S2x4608x4x2x64 : Shape := ⟨5, ![2, 4608, 4, 2, 64]⟩
abbrev S2x512x4x128 : Shape := ⟨4, ![2, 512, 4, 128]⟩
abbrev S2x4608x4x128 : Shape := ⟨4, ![2, 4608, 4, 128]⟩
abbrev S2x4x2x4096x4608 : Shape := ⟨5, ![2, 4, 2, 4096, 4608]⟩
abbrev S2x4x2x4096 : Shape := ⟨4, ![2, 4, 2, 4096]⟩
abbrev S2x4x2x4096x1 : Shape := ⟨5, ![2, 4, 2, 4096, 1]⟩
abbrev S2x4x1x4096x4608 : Shape := ⟨5, ![2, 4, 1, 4096, 4608]⟩
abbrev S2x4x4096x4608 : Shape := ⟨4, ![2, 4, 4096, 4608]⟩
abbrev S2x4x128x4096 : Shape := ⟨4, ![2, 4, 128, 4096]⟩
abbrev S2x4096x4 : Shape := ⟨3, ![2, 4096, 4]⟩
abbrev S2x4096x4x1 : Shape := ⟨4, ![2, 4096, 4, 1]⟩
abbrev S128 : Shape := ⟨1, ![128]⟩
abbrev S1x1x1x128 : Shape := ⟨4, ![1, 1, 1, 128]⟩
abbrev S2x4096x512 : Shape := ⟨3, ![2, 4096, 512]⟩

abbrev nBuf : Space → Nat
  | .hbm => 78
  | .vmem => 0
  | .smem => 0
  | _ => 0

abbrev bufTy : (tb : Table) → Fin (tcTables nBuf tb) → BufTy
  | .hbm, ⟨0, _⟩ => ⟨S2x4096x4x2x64, .f32⟩
  | .hbm, ⟨1, _⟩ => ⟨S2x4096x4x2x64, .f32⟩
  | .hbm, ⟨2, _⟩ => ⟨S2x4096x4x128, .f32⟩
  | .hbm, ⟨3, _⟩ => ⟨S2x1x512x4x2x64, .f32⟩
  | .hbm, ⟨4, _⟩ => ⟨S2x1x512x4x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x512x4x2x64, .f32⟩
  | .hbm, ⟨26, _⟩ => ⟨S2x4608x4x2x64, .f32⟩
  | .hbm, ⟨27, _⟩ => ⟨S2x512x4x128, .f32⟩
  | .hbm, ⟨28, _⟩ => ⟨S2x4608x4x128, .f32⟩
  | .hbm, ⟨29, _⟩ => ⟨S2x4x2x4096x4608, .f32⟩
  | .hbm, ⟨30, _⟩ => ⟨S_, .f32⟩
  | .hbm, ⟨31, _⟩ => ⟨S2x4x2x4096x4608, .f32⟩
  | .hbm, ⟨32, _⟩ => ⟨S2x4x2x4096x4608, .f32⟩
  | .hbm, ⟨33, _⟩ => ⟨S_, .f32⟩
  | .hbm, ⟨34, _⟩ => ⟨S2x4x2x4096, .f32⟩
  | .hbm, ⟨35, _⟩ => ⟨S_, .f32⟩
  | .hbm, ⟨36, _⟩ => ⟨S2x4x2x4096, .f32⟩
  | .hbm, ⟨37, _⟩ => ⟨S2x4x2x4096, .f32⟩
  | .hbm, ⟨38, _⟩ => ⟨S2x4x2x4096x1, .f32⟩
  | .hbm, ⟨39, _⟩ => ⟨S2x4x2x4096x4608, .f32⟩
  | .hbm, ⟨40, _⟩ => ⟨S2x4x2x4096x4608, .f32⟩
  | .hbm, ⟨41, _⟩ => ⟨S2x4x2x4096x4608, .f32⟩
  | .hbm, ⟨42, _⟩ => ⟨S_, .f32⟩
  | .hbm, ⟨43, _⟩ => ⟨S2x4x2x4096, .f32⟩
  | .hbm, ⟨44, _⟩ => ⟨S2x4x2x4096x1, .f32⟩
  | .hbm, ⟨45, _⟩ => ⟨S2x4x2x4096x4608, .f32⟩
  | .hbm, ⟨46, _⟩ => ⟨S2x4x2x4096x4608, .f32⟩
  | .hbm, ⟨47, _⟩ => ⟨S2x4x1x4096x4608, .f32⟩
  | .hbm, ⟨48, _⟩ => ⟨S2x4x4096x4608, .f32⟩
  | .hbm, ⟨49, _⟩ => ⟨S2x4x1x4096x4608, .f32⟩
  | .hbm, ⟨50, _⟩ => ⟨S2x4x4096x4608, .f32⟩
  | .hbm, ⟨51, _⟩ => ⟨S2x4x4096x4608, .f32⟩
  | .hbm, ⟨52, _⟩ => ⟨S2x4x4096x4608, .f32⟩
  | .hbm, ⟨53, _⟩ => ⟨S2x4x4096x4608, .f32⟩
  | .hbm, ⟨54, _⟩ => ⟨S2x4x128x4096, .f32⟩
  | .hbm, ⟨55, _⟩ => ⟨S2x4096x4x128, .f32⟩
  | .hbm, ⟨56, _⟩ => ⟨S2x4096x4x128, .f32⟩
  | .hbm, ⟨57, _⟩ => ⟨S_, .f32⟩
  | .hbm, ⟨58, _⟩ => ⟨S2x4096x4, .f32⟩
  | .hbm, ⟨59, _⟩ => ⟨S2x4096x4x1, .f32⟩
  | .hbm, ⟨60, _⟩ => ⟨S_, .f32⟩
  | .hbm, ⟨61, _⟩ => ⟨S2x4096x4x1, .f32⟩
  | .hbm, ⟨62, _⟩ => ⟨S2x4096x4x1, .f32⟩
  | .hbm, ⟨63, _⟩ => ⟨S_, .f32⟩
  | .hbm, ⟨64, _⟩ => ⟨S2x4096x4x1, .f32⟩
  | .hbm, ⟨65, _⟩ => ⟨S2x4096x4x1, .f32⟩
  | .hbm, ⟨66, _⟩ => ⟨S2x4096x4x1, .f32⟩
  | .hbm, ⟨67, _⟩ => ⟨S2x4096x4x128, .f32⟩
  | .hbm, ⟨68, _⟩ => ⟨S2x4096x4x128, .f32⟩
  | .hbm, ⟨69, _⟩ => ⟨S128, .f32⟩
  | .hbm, ⟨70, _⟩ => ⟨S1x1x1x128, .f32⟩
  | .hbm, ⟨71, _⟩ => ⟨S2x4096x4x128, .f32⟩
  | .hbm, ⟨72, _⟩ => ⟨S2x4096x4x128, .f32⟩
  | .hbm, ⟨73, _⟩ => ⟨S_, .f32⟩
  | .hbm, ⟨74, _⟩ => ⟨S2x4096x4x128, .f32⟩
  | .hbm, ⟨75, _⟩ => ⟨S2x4096x4x128, .f32⟩
  | .hbm, ⟨76, _⟩ => ⟨S2x4096x512, .f32⟩
  | .hbm, ⟨77, _⟩ => ⟨S2x4096x512, .bf16⟩
  | _, _ => ⟨S2x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel3.lean ====
abbrev S1024 : Shape := ⟨1, ![1024]⟩
abbrev S2x1024 : Shape := ⟨2, ![2, 1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x3072 : Shape := ⟨3, ![1, 1024, 3072]⟩
abbrev S1x1x3072 : Shape := ⟨3, ![1, 1, 3072]⟩
abbrev S1x8x3072 : Shape := ⟨3, ![1, 8, 3072]⟩
abbrev S1024x3072 : Shape := ⟨2, ![1024, 3072]⟩
abbrev S8x3072 : Shape := ⟨2, ![8, 3072]⟩
abbrev S1x3072 : Shape := ⟨2, ![1, 3072]⟩

abbrev nBuf : Space → Nat
  | .hbm => 10
  | .vmem => 7
  | .smem => 0
  | _ => 0

abbrev bufTy : (tb : Table) → Fin (tcTables nBuf tb) → BufTy
  | .hbm, ⟨0, _⟩ => ⟨S1024, .f32⟩
  | .hbm, ⟨1, _⟩ => ⟨S2x1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x8x3072, .f32⟩
  | .local _ .vmem, ⟨6, _⟩ => ⟨S1x8x3072, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S1024 : Shape := ⟨1, ![1024]⟩
abbrev S2x1024 : Shape := ⟨2, ![2, 1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S1024, .f32⟩
  | .hbm, ⟨1, _⟩ => ⟨S2x1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel4.lean ====
abbrev S16x256x1024 : Shape := ⟨3, ![16, 256, 1024]⟩
abbrev S16x256x512 : Shape := ⟨3, ![16, 256, 512]⟩
abbrev S2x4096x1024 : Shape := ⟨3, ![2, 4096, 1024]⟩
abbrev S2x4096x512 : Shape := ⟨3, ![2, 4096, 512]⟩
abbrev S2x6144 : Shape := ⟨2, ![2, 6144]⟩
abbrev S2x2x6144 : Shape := ⟨3, ![2, 2, 6144]⟩
abbrev S2x1024 : Shape := ⟨2, ![2, 1024]⟩
abbrev S1x1024x1024 : Shape := ⟨3, ![1, 1024, 1024]⟩
abbrev S2x1024x4096 : Shape := ⟨3, ![2, 1024, 4096]⟩
abbrev S2x1x6144 : Shape := ⟨3, ![2, 1, 6144]⟩
abbrev S_ : Shape := ⟨0, ![]⟩
abbrev S2x5x6144 : Shape := ⟨3, ![2, 5, 6144]⟩
abbrev S2x8x6144 : Shape := ⟨3, ![2, 8, 6144]⟩
abbrev S2x8x6x1x1024 : Shape := ⟨5, ![2, 8, 6, 1, 1024]⟩
abbrev S1x4096x1024 : Shape := ⟨3, ![1, 4096, 1024]⟩
abbrev S1x4096x512 : Shape := ⟨3, ![1, 4096, 512]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S4096x1024 : Shape := ⟨2, ![4096, 1024]⟩
abbrev S1x512x1024 : Shape := ⟨3, ![1, 512, 1024]⟩
abbrev S1x512x512 : Shape := ⟨3, ![1, 512, 512]⟩
abbrev S1x1x1x1x1024 : Shape := ⟨5, ![1, 1, 1, 1, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 37
  | .vmem => 36
  | .smem => 0
  | _ => 0

abbrev bufTy : (tb : Table) → Fin (tcTables nBuf tb) → BufTy
  | .hbm, ⟨0, _⟩ => ⟨S16x256x1024, .f32⟩
  | .hbm, ⟨1, _⟩ => ⟨S16x256x512, .f32⟩
  | .hbm, ⟨2, _⟩ => ⟨S16x256x512, .f32⟩
  | .hbm, ⟨3, _⟩ => ⟨S2x4096x1024, .f32⟩
  | .hbm, ⟨4, _⟩ => ⟨S2x4096x512, .f32⟩
  | .hbm, ⟨5, _⟩ => ⟨S2x4096x512, .f32⟩
  | .hbm, ⟨6, _⟩ => ⟨S2x6144, .f32⟩
  | .hbm, ⟨7, _⟩ => ⟨S2x2x6144, .f32⟩
  | .hbm, ⟨8, _⟩ => ⟨S2x1024, .f32⟩
  | .hbm, ⟨9, _⟩ => ⟨S1x1024x1024, .f32⟩
  | .hbm, ⟨10, _⟩ => ⟨S2x1024x4096, .f32⟩
  | .hbm, ⟨11, _⟩ => ⟨S2x4096x1024, .f32⟩
  | .hbm, ⟨12, _⟩ => ⟨S2x1x6144, .f32⟩
  | .hbm, ⟨13, _⟩ => ⟨S_, .f32⟩
  | .hbm, ⟨14, _⟩ => ⟨S2x5x6144, .f32⟩
  | .hbm, ⟨15, _⟩ => ⟨S2x8x6144, .f32⟩
  | .hbm, ⟨16, _⟩ => ⟨S2x8x6x1x1024, .f32⟩
  | .hbm, ⟨17, _⟩ => ⟨S1x4096x1024, .f32⟩
  | .hbm, ⟨18, _⟩ => ⟨S16x256x512, .bf16⟩
  | .hbm, ⟨19, _⟩ => ⟨S1x4096x512, .bf16⟩
  | .hbm, ⟨20, _⟩ => ⟨S16x256x512, .bf16⟩
  | .hbm, ⟨21, _⟩ => ⟨S1x4096x512, .bf16⟩
  | .hbm, ⟨22, _⟩ => ⟨S2x4096x512, .bf16⟩
  | .hbm, ⟨23, _⟩ => ⟨S2x4096x512, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024x4096, .f32⟩
  | .hbm, ⟨28, _⟩ => ⟨S1024x4096, .f32⟩
  | .hbm, ⟨29, _⟩ => ⟨S1024x4096, .bf16⟩
  | .hbm, ⟨30, _⟩ => ⟨S1x4096x1024, .f32⟩
  | .hbm, ⟨31, _⟩ => ⟨S4096x1024, .f32⟩
  | .hbm, ⟨32, _⟩ => ⟨S4096x1024, .bf16⟩
  | .hbm, ⟨33, _⟩ => ⟨S1x4096x1024, .f32⟩
  | .hbm, ⟨34, _⟩ => ⟨S2x4096x1024, .f32⟩
  | .hbm, ⟨35, _⟩ => ⟨S1024x4096, .bf16⟩
  | .hbm, ⟨36, _⟩ => ⟨S4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1x1x1x1024, .f32⟩
  | .local _ .vmem, ⟨15, _⟩ => ⟨S1x1x1x1x1024, .f32⟩
  | .local _ .vmem, ⟨16, _⟩ => ⟨S1x1x1x1x1024, .f32⟩
  | .local _ .vmem, ⟨17, _⟩ => ⟨S1x1x1x1x1024, .f32⟩
  | .local _ .vmem, ⟨18, _⟩ => ⟨S1x1x1x1x1024, .f32⟩
  | .local _ .vmem, ⟨19, _⟩ => ⟨S1x1x1x1x1024, .f32⟩
  | .local _ .vmem, ⟨20, _⟩ => ⟨S1x1024, .f32⟩
  | .local _ .vmem, ⟨21, _⟩ => ⟨S1x1024x1024, .f32⟩
  | .local _ .vmem, ⟨22, _⟩ => ⟨S1024x4096, .bf16⟩
  | .local _ .vmem, ⟨23, _⟩ => ⟨S4096x1024, .bf16⟩
  | .local _ .vmem, ⟨24, _⟩ => ⟨S1x1024x256, .f32⟩
  | .local _ .vmem, ⟨25, _⟩ => ⟨S1x1024x256, .f32⟩
  | .local _ .vmem, ⟨26, _⟩ => ⟨S1x256x1024, .f32⟩
  | .local _ .vmem, ⟨27, _⟩ => ⟨S1x256x1024, .f32⟩
  | .local _ .vmem, ⟨28, _⟩ => ⟨S1x512x1024, .f32⟩
  | .local _ .vmem, ⟨29, _⟩ => ⟨S1x512x1024, .f32⟩
  | .local _ .vmem, ⟨30, _⟩ => ⟨S1x512x1024, .f32⟩
  | .local _ .vmem, ⟨31, _⟩ => ⟨S1x512x1024, .f32⟩
  | .local _ .vmem, ⟨32, _⟩ => ⟨S1024x256, .bf16⟩
  | .local _ .vmem, ⟨33, _⟩ => ⟨S1024x256, .bf16⟩
  | .local _ .vmem, ⟨34, _⟩ => ⟨S256x1024, .bf16⟩
  | .local _ .vmem, ⟨35, _⟩ => ⟨S256x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c8_i32 : BitVec 32 := 8#32
  let v8 : BitVec 1 := Scalar.cmpi .slt arg0 c8_i32
  let v9 : BitVec 32 := Scalar.extui v8
  let c0_i32 : BitVec 32 := 0#32
  let v10 : BitVec 1 := Scalar.cmpi .ne v9 c0_i32
  v10

def k0_cond2 (i : grid0.Coords) : BitVec 1 :=
  let arg0 : BitVec 32 := BitVec.ofNat 32 (i 0).val
  let c8_i32_9 : BitVec 32 := 8#32
  let v11 : BitVec 1 := Scalar.cmpi .sge arg0 c8_i32_9
  let v12 : BitVec 32 := Scalar.extui v11
  let c0_i32_10 : BitVec 32 := 0#32
  let v13 : BitVec 1 := Scalar.cmpi .ne v12 c0_i32_10
  v13

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 3 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_4 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_5 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_6 (i : grid0.Coords) : Fin 5 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.minsi arg0 c7_i32
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v18
  let c8_i32_12 : BitVec 32 := 8#32
  let v30 : BitVec 32 := Scalar.subi arg0 c8_i32_12
  let c0_i32_13 : BitVec 32 := 0#32
  let v31 : BitVec 32 := Scalar.maxsi v30 c0_i32_13
  let c8_i32_14 : BitVec 32 := 8#32
  let v32 : BitVec 32 := Scalar.divsi v31 c8_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c8_i32_14 c0_i32_17
  let v39 : BitVec 32 := Scalar.extui v38
  let c0_i32_18 : BitVec 32 := 0#32
  let v40 : BitVec 1 := Scalar.cmpi .slt c8_i32_14 c0_i32_18
  let v41 : BitVec 32 := Scalar.extui v40
  let v42 : BitVec 32 := Scalar.subi v39 v41
  let v43 : BitVec 1 := Scalar.cmpi .ne v37 v42
  let v44 : BitVec 32 := Scalar.remsi v31 c8_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_24 : BitVec 32 := 0#32
  let v52 : BitVec 1 := Scalar.cmpi .ne v51 c0_i32_24
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let v56 : BitVec 1 := Scalar.andi v55 v52
  let v57 : BitVec 32 := Scalar.addi v51 v50
  let v58 : BitVec 32 := Scalar.select v56 v57 v51
  let c1_i32_27 : BitVec 32 := 1#32
  let v59 : BitVec 32 := Scalar.addi c1_i32_27 v48
  let v60 : BitVec 32 := Scalar.select v0 v29 v59
  let c0_i32_28 : BitVec 32 := 0#32
  let c2_i32 : BitVec 32 := 2#32
  let c0_i32_29 : BitVec 32 := 0#32
  let c0_i32_30 : BitVec 32 := 0#32
  let c0_i32_31 : BitVec 32 := 0#32
  ![c0_i32_28.toNat, v60.toNat, c2_i32.toNat, c0_i32_29.toNat, c0_i32_30.toNat]

def cc0_transform_7 (i : grid0.Coords) : Fin 5 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.minsi arg0 c7_i32
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v18
  let c8_i32_12 : BitVec 32 := 8#32
  let v30 : BitVec 32 := Scalar.subi arg0 c8_i32_12
  let c0_i32_13 : BitVec 32 := 0#32
  let v31 : BitVec 32 := Scalar.maxsi v30 c0_i32_13
  let c8_i32_14 : BitVec 32 := 8#32
  let v32 : BitVec 32 := Scalar.divsi v31 c8_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c8_i32_14 c0_i32_17
  let v39 : BitVec 32 := Scalar.extui v38
  let c0_i32_18 : BitVec 32 := 0#32
  let v40 : BitVec 1 := Scalar.cmpi .slt c8_i32_14 c0_i32_18
  let v41 : BitVec 32 := Scalar.extui v40
  let v42 : BitVec 32 := Scalar.subi v39 v41
  let v43 : BitVec 1 := Scalar.cmpi .ne v37 v42
  let v44 : BitVec 32 := Scalar.remsi v31 c8_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_24 : BitVec 32 := 0#32
  let v52 : BitVec 1 := Scalar.cmpi .ne v51 c0_i32_24
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let v56 : BitVec 1 := Scalar.andi v55 v52
  let v57 : BitVec 32 := Scalar.addi v51 v50
  let v58 : BitVec 32 := Scalar.select v56 v57 v51
  let c1_i32_27 : BitVec 32 := 1#32
  let v59 : BitVec 32 := Scalar.addi c1_i32_27 v48
  let v60 : BitVec 32 := Scalar.select v0 v29 v59
  let c0_i32_28 : BitVec 32 := 0#32
  let c3_i32 : BitVec 32 := 3#32
  let c0_i32_29 : BitVec 32 := 0#32
  let c0_i32_30 : BitVec 32 := 0#32
  let c0_i32_31 : BitVec 32 := 0#32
  ![c0_i32_28.toNat, v60.toNat, c3_i32.toNat, c0_i32_29.toNat, c0_i32_30.toNat]

def cc0_transform_8 (i : grid0.Coords) : Fin 5 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.minsi arg0 c7_i32
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v18
  let c8_i32_12 : BitVec 32 := 8#32
  let v30 : BitVec 32 := Scalar.subi arg0 c8_i32_12
  let c0_i32_13 : BitVec 32 := 0#32
  let v31 : BitVec 32 := Scalar.maxsi v30 c0_i32_13
  let c8_i32_14 : BitVec 32 := 8#32
  let v32 : BitVec 32 := Scalar.divsi v31 c8_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c8_i32_14 c0_i32_17
  let v39 : BitVec 32 := Scalar.extui v38
  let c0_i32_18 : BitVec 32 := 0#32
  let v40 : BitVec 1 := Scalar.cmpi .slt c8_i32_14 c0_i32_18
  let v41 : BitVec 32 := Scalar.extui v40
  let v42 : BitVec 32 := Scalar.subi v39 v41
  let v43 : BitVec 1 := Scalar.cmpi .ne v37 v42
  let v44 : BitVec 32 := Scalar.remsi v31 c8_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_24 : BitVec 32 := 0#32
  let v52 : BitVec 1 := Scalar.cmpi .ne v51 c0_i32_24
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let v56 : BitVec 1 := Scalar.andi v55 v52
  let v57 : BitVec 32 := Scalar.addi v51 v50
  let v58 : BitVec 32 := Scalar.select v56 v57 v51
  let c1_i32_27 : BitVec 32 := 1#32
  let v59 : BitVec 32 := Scalar.addi c1_i32_27 v48
  let v60 : BitVec 32 := Scalar.select v0 v29 v59
  let c0_i32_28 : BitVec 32 := 0#32
  let c4_i32 : BitVec 32 := 4#32
  let c0_i32_29 : BitVec 32 := 0#32
  let c0_i32_30 : BitVec 32 := 0#32
  let c0_i32_31 : BitVec 32 := 0#32
  ![c0_i32_28.toNat, v60.toNat, c4_i32.toNat, c0_i32_29.toNat, c0_i32_30.toNat]

def cc0_transform_9 (i : grid0.Coords) : Fin 5 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.minsi arg0 c7_i32
  let c8_i32_0 : BitVec 32 := 8#32
  let v2 : BitVec 32 := Scalar.divsi v1 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32_0 c0_i32_2
  let v9 : BitVec 32 := Scalar.extui v8
  let c0_i32_3 : BitVec 32 := 0#32
  let v10 : BitVec 1 := Scalar.cmpi .slt c8_i32_0 c0_i32_3
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi c0_i32_11 v18
  let c8_i32_12 : BitVec 32 := 8#32
  let v30 : BitVec 32 := Scalar.subi arg0 c8_i32_12
  let c0_i32_13 : BitVec 32 := 0#32
  let v31 : BitVec 32 := Scalar.maxsi v30 c0_i32_13
  let c8_i32_14 : BitVec 32 := 8#32
  let v32 : BitVec 32 := Scalar.divsi v31 c8_i32_14
  let c0_i32_15 : BitVec 32 := 0#32
  let v33 : BitVec 1 := Scalar.cmpi .sgt v31 c0_i32_15
  let v34 : BitVec 32 := Scalar.extui v33
  let c0_i32_16 : BitVec 32 := 0#32
  let v35 : BitVec 1 := Scalar.cmpi .slt v31 c0_i32_16
  let v36 : BitVec 32 := Scalar.extui v35
  let v37 : BitVec 32 := Scalar.subi v34 v36
  let c0_i32_17 : BitVec 32 := 0#32
  let v38 : BitVec 1 := Scalar.cmpi .sgt c8_i32_14 c0_i32_17
  let v39 : BitVec 32 := Scalar.extui v38
  let c0_i32_18 : BitVec 32 := 0#32
  let v40 : BitVec 1 := Scalar.cmpi .slt c8_i32_14 c0_i32_18
  let v41 : BitVec 32 := Scalar.extui v40
  let v42 : BitVec 32 := Scalar.subi v39 v41
  let v43 : BitVec 1 := Scalar.cmpi .ne v37 v42
  let v44 : BitVec 32 := Scalar.remsi v31 c8_i32_14
  let c0_i32_19 : BitVec 32 := 0#32
  let v45 : BitVec 1 := Scalar.cmpi .ne v44 c0_i32_19
  let v46 : BitVec 1 := Scalar.andi v43 v45
  let c1_i32_20 : BitVec 32 := 1#32
  let v47 : BitVec 32 := Scalar.subi v32 c1_i32_20
  let v48 : BitVec 32 := Scalar.select v46 v47 v32
  let c8_i32_21 : BitVec 32 := 8#32
  let c0_i32_22 : BitVec 32 := 0#32
  let v49 : BitVec 1 := Scalar.cmpi .eq c8_i32_21 c0_i32_22
  let c1_i32_23 : BitVec 32 := 1#32
  let v50 : BitVec 32 := Scalar.select v49 c1_i32_23 c8_i32_21
  let v51 : BitVec 32 := Scalar.remsi v31 v50
  let c0_i32_24 : BitVec 32 := 0#32
  let v52 : BitVec 1 := Scalar.cmpi .ne v51 c0_i32_24
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let v56 : BitVec 1 := Scalar.andi v55 v52
  let v57 : BitVec 32 := Scalar.addi v51 v50
  let v58 : BitVec 32 := Scalar.select v56 v57 v51
  let c1_i32_27 : BitVec 32 := 1#32
  let v59 : BitVec 32 := Scalar.addi c1_i32_27 v48
  let v60 : BitVec 32 := Scalar.select v0 v29 v59
  let c0_i32_28 : BitVec 32 := 0#32
  let c5_i32 : BitVec 32 := 5#32
  let c0_i32_29 : BitVec 32 := 0#32
  let c0_i32_30 : BitVec 32 := 0#32
  let c0_i32_31 : BitVec 32 := 0#32
  ![c0_i32_28.toNat, v60.toNat, c5_i32.toNat, c0_i32_29.toNat, c0_i32_30.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, c0_i32.toNat, v0.toNat]

def cc0_transform_15 (i : grid0.Coords) : Fin 3 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  ![c1_i32.toNat, v0.toNat, c0_i32.toNat]

def cc0_transform_16 (i : grid0.Coords) : Fin 3 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_17 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_18 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_19 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S16x256x1024 : Shape := ⟨3, ![16, 256, 1024]⟩
abbrev S16x256x512 : Shape := ⟨3, ![16, 256, 512]⟩
abbrev S2x4096x1024 : Shape := ⟨3, ![2, 4096, 1024]⟩
abbrev S2x4096x512 : Shape := ⟨3, ![2, 4096, 512]⟩
abbrev S2x6144 : Shape := ⟨2, ![2, 6144]⟩
abbrev S2x2x6144 : Shape := ⟨3, ![2, 2, 6144]⟩
abbrev S2x1024 : Shape := ⟨2, ![2, 1024]⟩
abbrev S1x1024x1024 : Shape := ⟨3, ![1, 1024, 1024]⟩
abbrev S2x1024x4096 : Shape := ⟨3, ![2, 1024, 4096]⟩
abbrev S1x6144 : Shape := ⟨2, ![1, 6144]⟩
abbrev S6144 : Shape := ⟨1, ![6144]⟩
abbrev S1x1x6144 : Shape := ⟨3, ![1, 1, 6144]⟩
abbrev S1x1x1024 : Shape := ⟨3, ![1, 1, 1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S16x256x4096 : Shape := ⟨3, ![16, 256, 4096]⟩
abbrev S1x4096x1024 : Shape := ⟨3, ![1, 4096, 1024]⟩
abbrev S4096x1024 : Shape := ⟨2, ![4096, 1024]⟩
abbrev S1x2x6144 : Shape := ⟨3, ![1, 2, 6144]⟩
abbrev S2x1x6144 : Shape := ⟨3, ![2, 1, 6144]⟩
abbrev S2x1x1024 : Shape := ⟨3, ![2, 1, 1024]⟩
abbrev S2x4096 : Shape := ⟨2, ![2, 4096]⟩
abbrev S2x4096x1 : Shape := ⟨3, ![2, 4096, 1]⟩
abbrev S2x4096x4096 : Shape := ⟨3, ![2, 4096, 4096]⟩

abbrev nBuf : Space → Nat
  | .hbm => 126
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x256x512, .f32⟩
  | .hbm, ⟨2, _⟩ => ⟨S16x256x512, .f32⟩
  | .hbm, ⟨3, _⟩ => ⟨S2x4096x1024, .f32⟩
  | .hbm, ⟨4, _⟩ => ⟨S2x4096x512, .f32⟩
  | .hbm, ⟨5, _⟩ => ⟨S2x4096x512, .f32⟩
  | .hbm, ⟨6, _⟩ => ⟨S2x6144, .f32⟩
  | .hbm, ⟨7, _⟩ => ⟨S2x2x6144, .f32⟩
  | .hbm, ⟨8, _⟩ => ⟨S2x1024, .f32⟩
  | .hbm, ⟨9, _⟩ => ⟨S1x1024x1024, .f32⟩
  | .hbm, ⟨10, _⟩ => ⟨S2x1024x4096, .f32⟩
  | .hbm, ⟨11, _⟩ => ⟨S2x4096x1024, .f32⟩
  | .hbm, ⟨12, _⟩ => ⟨S1x6144, .f32⟩
  | .hbm, ⟨13, _⟩ => ⟨S6144, .f32⟩
  | .hbm, ⟨14, _⟩ => ⟨S1x6144, .f32⟩
  | .hbm, ⟨15, _⟩ => ⟨S1x1x6144, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S16x256x1024, .f32⟩
  | .hbm, ⟨23, _⟩ => ⟨S1024x1024, .f32⟩
  | .hbm, ⟨24, _⟩ => ⟨S16x256x1024, .f32⟩
  | .hbm, ⟨25, _⟩ => ⟨S16x256x1024, .f32⟩
  | .hbm, ⟨26, _⟩ => ⟨S16x256x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S16x256, .f32⟩
  | .hbm, ⟨31, _⟩ => ⟨S16x256x1, .f32⟩
  | .hbm, ⟨32, _⟩ => ⟨S_, .f32⟩
  | .hbm, ⟨33, _⟩ => ⟨S16x256x1, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S16x256x1, .f32⟩
  | .hbm, ⟨39, _⟩ => ⟨S16x256x1024, .f32⟩
  | .hbm, ⟨40, _⟩ => ⟨S16x256x1024, .f32⟩
  | .hbm, ⟨41, _⟩ => ⟨S1x1024, .f32⟩
  | .hbm, ⟨42, _⟩ => ⟨S1024, .f32⟩
  | .hbm, ⟨43, _⟩ => ⟨S1x1x1024, .f32⟩
  | .hbm, ⟨44, _⟩ => ⟨S16x256x1024, .f32⟩
  | .hbm, ⟨45, _⟩ => ⟨S16x256x1024, .f32⟩
  | .hbm, ⟨46, _⟩ => ⟨S_, .f32⟩
  | .hbm, ⟨47, _⟩ => ⟨S1x1x1024, .f32⟩
  | .hbm, ⟨48, _⟩ => ⟨S1x1x1024, .f32⟩
  | .hbm, ⟨49, _⟩ => ⟨S16x256x1024, .f32⟩
  | .hbm, ⟨50, _⟩ => ⟨S16x256x1024, .f32⟩
  | .hbm, ⟨51, _⟩ => ⟨S16x256x1024, .f32⟩
  | .hbm, ⟨52, _⟩ => ⟨S16x256x1024, .f32⟩
  | .hbm, ⟨53, _⟩ => ⟨S1x1024x4096, .f32⟩
  | .hbm, ⟨54, _⟩ => ⟨S1024x4096, .f32⟩
  | .hbm, ⟨55, _⟩ => ⟨S16x256x4096, .f32⟩
  | .hbm, ⟨56, _⟩ => ⟨S_, .f32⟩
  | .hbm, ⟨57, _⟩ => ⟨S16x256x4096, .f32⟩
  | .hbm, ⟨58, _⟩ => ⟨S16x256x4096, .f32⟩
  | .hbm, ⟨59, _⟩ => ⟨S16x256x4096, .f32⟩
  | .hbm, ⟨60, _⟩ => ⟨S1x4096x1024, .f32⟩
  | .hbm, ⟨61, _⟩ => ⟨S4096x1024, .f32⟩
  | .hbm, ⟨62, _⟩ => ⟨S16x256x1024, .f32⟩
  | .hbm, ⟨63, _⟩ => ⟨S16x256x1024, .f32⟩
  | .hbm, ⟨64, _⟩ => ⟨S16x256x1024, .f32⟩
  | .hbm, ⟨65, _⟩ => ⟨S16x256x1024, .f32⟩
  | .hbm, ⟨66, _⟩ => ⟨S1x2x6144, .f32⟩
  | .hbm, ⟨67, _⟩ => ⟨S2x6144, .f32⟩
  | .hbm, ⟨68, _⟩ => ⟨S2x1x6144, .f32⟩
  | .hbm, ⟨69, _⟩ => ⟨S2x1x1024, .f32⟩
  | .hbm, ⟨70, _⟩ => ⟨S2x1x1024, .f32⟩
  | .hbm, ⟨71, _⟩ => ⟨S2x1x1024, .f32⟩
  | .hbm, ⟨72, _⟩ => ⟨S2x1x1024, .f32⟩
  | .hbm, ⟨73, _⟩ => ⟨S2x1x1024, .f32⟩
  | .hbm, ⟨74, _⟩ => ⟨S2x1x1024, .f32⟩
  | .hbm, ⟨75, _⟩ => ⟨S2x4096x1024, .f32⟩
  | .hbm, ⟨76, _⟩ => ⟨S1024x1024, .f32⟩
  | .hbm, ⟨77, _⟩ => ⟨S2x4096x1024, .f32⟩
  | .hbm, ⟨78, _⟩ => ⟨S2x4096x1024, .f32⟩
  | .hbm, ⟨79, _⟩ => ⟨S2x4096x1024, .f32⟩
  | .hbm, ⟨80, _⟩ => ⟨S2x4096x1024, .f32⟩
  | .hbm, ⟨81, _⟩ => ⟨S2x4096x1024, .f32⟩
  | .hbm, ⟨82, _⟩ => ⟨S_, .f32⟩
  | .hbm, ⟨83, _⟩ => ⟨S2x4096, .f32⟩
  | .hbm, ⟨84, _⟩ => ⟨S2x4096x1, .f32⟩
  | .hbm, ⟨85, _⟩ => ⟨S_, .f32⟩
  | .hbm, ⟨86, _⟩ => ⟨S2x4096x1, .f32⟩
  | .hbm, ⟨87, _⟩ => ⟨S2x4096x1, .f32⟩
  | .hbm, ⟨88, _⟩ => ⟨S_, .f32⟩
  | .hbm, ⟨89, _⟩ => ⟨S2x4096x1, .f32⟩
  | .hbm, ⟨90, _⟩ => ⟨S2x4096x1, .f32⟩
  | .hbm, ⟨91, _⟩ => ⟨S2x4096x1, .f32⟩
  | .hbm, ⟨92, _⟩ => ⟨S2x4096x1024, .f32⟩
  | .hbm, ⟨93, _⟩ => ⟨S2x4096x1024, .f32⟩
  | .hbm, ⟨94, _⟩ => ⟨S1x1024, .f32⟩
  | .hbm, ⟨95, _⟩ => ⟨S1024, .f32⟩
  | .hbm, ⟨96, _⟩ => ⟨S1x1x1024, .f32⟩
  | .hbm, ⟨97, _⟩ => ⟨S2x4096x1024, .f32⟩
  | .hbm, ⟨98, _⟩ => ⟨S2x4096x1024, .f32⟩
  | .hbm, ⟨99, _⟩ => ⟨S_, .f32⟩
  | .hbm, ⟨100, _⟩ => ⟨S2x1x1024, .f32⟩
  | .hbm, ⟨101, _⟩ => ⟨S2x1x1024, .f32⟩
  | .hbm, ⟨102, _⟩ => ⟨S2x4096x1024, .f32⟩
  | .hbm, ⟨103, _⟩ => ⟨S2x4096x1024, .f32⟩
  | .hbm, ⟨104, _⟩ => ⟨S2x4096x1024, .f32⟩
  | .hbm, ⟨105, _⟩ => ⟨S2x4096x1024, .f32⟩
  | .hbm, ⟨106, _⟩ => ⟨S1x1024x4096, .f32⟩
  | .hbm, ⟨107, _⟩ => ⟨S1024x4096, .f32⟩
  | .hbm, ⟨108, _⟩ => ⟨S2x4096x4096, .f32⟩
  | .hbm, ⟨109, _⟩ => ⟨S_, .f32⟩
  | .hbm, ⟨110, _⟩ => ⟨S2x4096x4096, .f32⟩
  | .hbm, ⟨111, _⟩ => ⟨S2x4096x4096, .f32⟩
  | .hbm, ⟨112, _⟩ => ⟨S2x4096x4096, .f32⟩
  | .hbm, ⟨113, _⟩ => ⟨S1x4096x1024, .f32⟩
  | .hbm, ⟨114, _⟩ => ⟨S4096x1024, .f32⟩
  | .hbm, ⟨115, _⟩ => ⟨S2x4096x1024, .f32⟩
  | .hbm, ⟨116, _⟩ => ⟨S2x4096x1024, .f32⟩
  | .hbm, ⟨117, _⟩ => ⟨S2x4096x1024, .f32⟩
  | .hbm, ⟨118, _⟩ => ⟨S2x4096x1024, .f32⟩
  | .hbm, ⟨119, _⟩ => ⟨S1x4096x1024, .f32⟩
  | .hbm, ⟨120, _⟩ => ⟨S1x1024x4096, .f32⟩
  | .hbm, ⟨121, _⟩ => ⟨S1024x4096, .f32⟩
  | .hbm, ⟨122, _⟩ => ⟨S1024x4096, .bf16⟩
  | .hbm, ⟨123, _⟩ => ⟨S1x4096x1024, .f32⟩
  | .hbm, ⟨124, _⟩ => ⟨S4096x1024, .f32⟩
  | .hbm, ⟨125, _⟩ => ⟨S4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_3 : Ref sig .tc := ⟨.hbm, 82, rfl⟩
abbrev main_v64 : Ref sig .tc := ⟨.hbm, 83, rfl⟩
abbrev main_v65 : Ref sig .tc := ⟨.hbm, 84, rfl⟩
abbrev main_cst_4 : Ref sig .tc := ⟨.hbm, 85, rfl⟩
abbrev main_v66 : Ref sig .tc := ⟨.hbm, 86, rfl⟩
abbrev main_v67 : Ref sig .tc := ⟨.hbm, 87, rfl⟩
abbrev main_cst_5 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_6 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_call1_cst : Ref sig .tc := ⟨.hbm, 109, rfl⟩
abbrev main_call1_v0 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩

abbrev nD : Nat := 1
abbrev τ : Topo := Topo.v7x

variable {F : FTy → Type} [FloatOps F]
-- ==== Proof.Attn.Tile.lean ====
module

public import proofs.«01_k».proof.Proof.Gen.Kernel2Ideal.Frame

/-!
The body of the differential attention call, restated.  The call works through eight tiles of 256 query rows; for each it
walks through nine chunks of 512 keys with a running maximum, a running sum and a running weighted sum of the values.
Here one tile is written as a function of its queries and of the nine chunks, and the block that the body leaves is shown
to consist of eight such tiles.
-/

@[expose] public section

set_option maxRecDepth 16384

noncomputable section

namespace Cert.Attn

open Idealize.ShloMosaic Idealize.ShloMosaic.TcCoe Idealize.SL.Sem Cert.Kernel2Ideal Cert.Kernel2Ideal.Gen

variable {F : FTy → Type} [FloatOps F] [Named F]

/-- The scores of one chunk of keys (rows) against the stacked queries of a tile (columns). -/
def sc (qq : FVec F S512x128 .bf16) (k : Vec F S1x512x128 .bf16) : FVec F S512x512 .f32 :=
  matmul dot_S512x128_S512x128_S512x512_1_1_0_0_n_n none (shapeCast S512x128 k shapeCasts_S1x512x128_S512x128) qq
    (constant S512x512 .f32 0x00000000#32)

/-- The largest score of each column of a chunk. -/
def cmax (s : FVec F S512x512 .f32) : FVec F S1x512 .f32 :=
  shapeCast S1x512 (multiReduction .maximumf [0] S512 s 0xFF800000#32 reduces_S512x512_S512 (.inl rfl) rfl)
    shapeCasts_S512_S1x512

/-- The weights of a chunk: two to the power of the score less the running maximum. -/
def wts (s : FVec F S512x512 .f32) (m : FVec F S1x512 .f32) : FVec F S512x512 .f32 :=
  exp2 (subf s (broadcastTo S512x512 m broadcasts_S1x512_S512x512))

/-- The sum of the weights of a chunk, column by column. -/
def wsum (e : FVec F S512x512 .f32) : FVec F S1x512 .f32 :=
  shapeCast S1x512 (multiReduction .add [0] S512 e 0x00000000#32 reduces_S512x512_S512 (.inl rfl) rfl)
    shapeCasts_S512_S1x512

/-- The values of a chunk summed with its weights. -/
def wval (e : FVec F S512x512 .f32) (v : Vec F S1x1x128x512 .bf16) : FVec F S128x512 .f32 :=
  matmul dot_S128x512_S512x512_S128x512_1_0_0_1_n_n none (shapeCast S128x512 v shapeCasts_S1x1x128x512_S128x512)
    (truncf .bf16 e bitsLt_bf16_f32) (constant S128x512 .f32 0x00000000#32)

/-- What is carried from one chunk to the next: the running maximum, sum of weights, and weighted sum of values. -/
structure St (F : FTy → Type) [FloatOps F] where
  m : FVec F S1x512 .f32
  l : FVec F S1x512 .f32
  a : FVec F S128x512 .f32

/-- The state after the first chunk. -/
def first (s : FVec F S512x512 .f32) (v : Vec F S1x1x128x512 .bf16) : St F where
  m := cmax s
  l := wsum (wts s (cmax s))
  a := wval (wts s (cmax s)) v

/-- The state after one more chunk: what was summed is scaled down to the new maximum. -/
def next (st : St F) (s : FVec F S512x512 .f32) (v : Vec F S1x1x128x512 .bf16) : St F where
  m := maximumf st.m (cmax s)
  l := addf (mulf st.l (exp2 (subf st.m (maximumf st.m (cmax s))))) (wsum (wts s (maximumf st.m (cmax s))))
  a := addf (mulf st.a (broadcastTo S128x512 (exp2 (subf st.m (maximumf st.m (cmax s)))) broadcasts_S1x512_S128x512))
    (wval (wts s (maximumf st.m (cmax s))) v)

/-- The difference of the two attention outputs of a tile, values by query rows. -/
def diff (lam : FVec F S1x1 .f32) (st : St F) : FVec F S256x128 .f32 :=
  have inv : FVec F S1x512 .f32 := divf (broadcast S1x512 (Scalar.ofBits .f32 0x3F800000#32)) st.l
  transpose S256x128 [1, 0]
    (subf
      (mulf (extractStridedSlice S128x256 ![0, 0] st.a slices_S128x512_o0_0_S128x256)
        (broadcastTo S128x256 (extractStridedSlice S1x256 ![0, 0] inv slices_S1x512_o0_0_S1x256)
          broadcasts_S1x256_S128x256))
      (mulf (extractStridedSlice S128x256 ![0, 256] st.a slices_S128x512_o0_256_S128x256)
        (broadcastTo S128x256
          (mulf (extractStridedSlice S1x256 ![0, 256] inv slices_S1x512_o0_256_S1x256)
            (broadcastTo S1x256 lam broadcasts_S1x1_S1x256))
          broadcasts_S1x256_S128x256)))
    transposes_S128x256_p1_0_S256x128

/-- The difference normalised row by row, weighted and scaled. -/
def norm (o : FVec F S256x128 .f32) (g : Vec F S1x128 .f32) : FVec F S1x256x128 .bf16 :=
  have ms : FVec F S256x1 .f32 := divf
    (shapeCast S256x1 (multiReduction .add [1] S256 (mulf o o) 0x00000000#32 reduces_S256x128_S256 (.inl rfl) rfl)
      shapeCasts_S256_S256x1)
    (broadcast S256x1 (Scalar.ofBits .f32 0x43000000#32))
  have r : FVec F S256x1 .f32 := rsqrt (addf ms (broadcast S256x1 (Scalar.ofBits .f32 0x358637BD#32)))
  shapeCast S1x256x128
    (truncf .bf16
      (mulf
        (mulf (mulf o (broadcastTo S256x128 r broadcasts_S256x1_S256x128))
          (broadcastTo S256x128 (shapeCast S1x128 g shapeCasts_S1x128_S1x128) broadcasts_S1x128_S256x128))
        (broadcast S256x128 (Scalar.ofBits .f32 0x3F24FD5C#32)))
      bitsLt_bf16_f32)
    shapeCasts_S256x128_S1x256x128

/-- The state of a tile after all nine chunks. -/
def walk (qq : FVec F S512x128 .bf16) (k0 k1 k2 k3 k4 k5 k6 k7 k8 : Vec F S1x512x128 .bf16)
    (v0 v1 v2 v3 v4 v5 v6 v7 v8 : Vec F S1x1x128x512 .bf16) : St F :=
  next (next (next (next (next (next (next (next (first (sc qq k0) v0)
    (sc qq k1) v1) (sc qq k2) v2) (sc qq k3) v3) (sc qq k4) v4) (sc qq k5) v5) (sc qq k6) v6) (sc qq k7) v7) (sc qq k8) v8

/-- One tile of the result. -/
def tile (lam : FVec F S1x1 .f32) (g : Vec F S1x128 .f32) (q : Vec F S1x256x128 .f32)
    (k0 k1 k2 k3 k4 k5 k6 k7 k8 : Vec F S1x512x128 .bf16)
    (v0 v1 v2 v3 v4 v5 v6 v7 v8 : Vec F S1x1x128x512 .bf16) : FVec F S1x256x128 .bf16 :=
  norm (diff lam (walk (k0_pay3 q) k0 k1 k2 k3 k4 k5 k6 k7 k8 v0 v1 v2 v3 v4 v5 v6 v7 v8)) g

/-- One tile of the block, of the queries read at one place and of the chunks of the two key and value arrays. -/
def tileOf (x0 : Vec F S1x2048x128 .f32) (x1 : Vec F S1x512x128 .bf16) (x2 : Vec F S1x4096x128 .bf16)
    (x3 : Vec F S1x1x144x512 .bf16) (x4 : Vec F S1x1x144x4096 .bf16) (x5 : Vec F S4x64 .f32) (x6 : Vec F S1x128 .f32)
    (q : Vec F S1x256x128 .f32) : FVec F S1x256x128 .bf16 :=
  tile (k0_pay2 (View.ld x5 r0_0)) (View.ld x6 r0_21) q
    (View.ld x1 r0_2) (View.ld x2 r0_3) (View.ld x2 r0_4) (View.ld x2 r0_5) (View.ld x2 r0_7) (View.ld x2 r0_9) (View.ld x2 r0_11) (View.ld x2 r0_13) (View.ld x2 r0_15)
    (View.ld x3 r0_6) (View.ld x4 r0_8) (View.ld x4 r0_10) (View.ld x4 r0_12) (View.ld x4 r0_14) (View.ld x4 r0_16) (View.ld x4 r0_18) (View.ld x4 r0_19) (View.ld x4 r0_20)

end Cert.Attn

end
-- ==== Proof.Attn.Softmax.lean ====
module

public import Idealize.ShloMosaic.Lib.Pointwise

/-!
Real-number facts about a softmax: a weighted mean with weights `exp (score)` does not depend on what is subtracted from
the scores, nor on the base of the powers once the scores are rescaled.
-/

@[expose] public section

noncomputable section

namespace Cert.Attn

open Idealize.ShloMosaic

/-- The pattern of minus infinity is the least extended real. -/
theorem ofBits_neg_inf : Ideal.ofBits .f32 0xFF800000#32 = ⊥ := by
  simp [Ideal.ofBits, Ideal.ieee]

/-- A finite sum of real numbers, taken in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The largest of finitely many real numbers is a real number. -/
theorem fold_max_real {n : ℕ} (f : Fin (n + 1) → EReal) (h : ∀ k, ∃ r : ℝ, f k = r) :
    ∃ M : ℝ, Finset.univ.fold max (Ideal.ofBits .f32 0xFF800000#32) f = M := by
  rw [ofBits_neg_inf]
  have key : ∀ s : Finset (Fin (n + 1)), s.fold max ⊥ f = ⊥ ∧ s = ∅ ∨ ∃ M : ℝ, s.fold max ⊥ f = M := by
    intro s
    induction s using Finset.induction_on with
    | empty => left; simp
    | insert a s ha ih =>
      right
      obtain ⟨r, hr⟩ := h a
      rw [Finset.fold_insert ha, hr]
      rcases ih with ⟨h0, -⟩ | ⟨M, hM⟩
      · exact ⟨r, by rw [h0]; simp⟩
      · exact ⟨max r M, by rw [hM]; exact (EReal.coe_strictMono.monotone.map_max).symm⟩
  rcases key Finset.univ with ⟨-, h0⟩ | h1
  · exact absurd h0 (Finset.univ_nonempty.ne_empty)
  · exact h1

/-- The mean of the values `v` with the weights `exp (s k)`. -/
def att {n : ℕ} (s v : Fin n → ℝ) : ℝ := (∑ k, v k * Real.exp (s k)) / ∑ k, Real.exp (s k)

/-- Subtracting one number from all scores changes nothing. -/
theorem att_shift {n : ℕ} (s v : Fin n → ℝ) (M : ℝ) :
    (∑ k, v k * Real.exp (s k - M)) / ∑ k, Real.exp (s k - M) = att s v := by
  have h : ∀ k, Real.exp (s k - M) = Real.exp (s k) * Real.exp (-M) := fun k => by rw [← Real.exp_add, sub_eq_add_neg]
  simp only [h, ← mul_assoc, ← Finset.sum_mul]
  exact mul_div_mul_right _ _ (Real.exp_pos _).ne'

/-- The same mean with powers of two, of scores divided by the logarithm of two. -/
theorem att_two {n : ℕ} (s v : Fin n → ℝ) (M : ℝ) :
    (∑ k, v k * (2 : ℝ) ^ (s k - M)) / ∑ k, (2 : ℝ) ^ (s k - M) = att (fun k => Real.log 2 * s k) v := by
  have h : ∀ k, (2 : ℝ) ^ (s k - M) = Real.exp (Real.log 2 * s k - Real.log 2 * M) := fun k => by
    rw [Real.rpow_def_of_pos two_pos, mul_sub]
  simp only [h]
  exact att_shift _ _ _

/-- A sum of powers of two over at least one term is positive. -/
theorem sum_two_pos {n : ℕ} (s : Fin (n + 1) → ℝ) : 0 < ∑ k, (2 : ℝ) ^ (s k) :=
  Finset.sum_pos (fun _ _ => Real.rpow_pos_of_pos two_pos _) Finset.univ_nonempty

/-- A sum of exponentials over at least one term is positive. -/
theorem sum_exp_pos {n : ℕ} (s : Fin (n + 1) → ℝ) : 0 < ∑ k, Real.exp (s k) :=
  Finset.sum_pos (fun _ _ => Real.exp_pos _) Finset.univ_nonempty

/-- The mean with the weights divided by their sum one by one. -/
theorem att_each {n : ℕ} (s v : Fin n → ℝ) (M : ℝ) :
    ∑ k, v k * (Real.exp (s k - M) / ∑ j, Real.exp (s j - M)) = att s v := by
  rw [← att_shift s v M, Finset.sum_div]
  exact Finset.sum_congr rfl fun k _ => (mul_div_assoc ..).symm

/-- Adding up in nine runs of 512 what is indexed by position. -/
theorem sum_runs (f : ℕ → ℝ) : ∑ j ∈ Finset.range 9, ∑ k : Fin 512, f (512 * j + k) = ∑ k : Fin 4608, f k := by
  rw [Fin.sum_univ_tiles 9 512 rfl (fun k : Fin 4608 => f k), Finset.sum_range]
  exact Finset.sum_congr rfl fun j _ => Finset.sum_congr rfl fun k _ => by rw [mul_comm]

end Cert.Attn

end
-- ==== Proof.Attn.Online.lean ====
module

public import proofs.«01_k».proof.Proof.Attn.Tile
public import proofs.«01_k».proof.Proof.Attn.Softmax

/-!
The running maximum and the running sums of one tile, column by column, over the real numbers.  Whatever the numbers the
running maximum takes, the two sums are those of the weights two to the power of score less maximum.
-/

@[expose] public section

set_option maxRecDepth 16384

noncomputable section

namespace Cert.Attn

open Idealize.ShloMosaic Idealize.ShloMosaic.TcCoe Idealize.SL.Sem Cert.Kernel2Ideal Cert.Kernel2Ideal.Gen

/-- The largest score of a column, as a maximum over its keys. -/
theorem cmax_at (s : FVec Ideal S512x512 .f32) (c : Fin 512) :
    cmax s (ix2 0 c) = Finset.univ.fold max (Ideal.ofBits .f32 0xFF800000#32) fun k : Fin 512 => s (ix2 k c) := by
  pointwise [cmax]

/-- A weight at an index. -/
theorem wts_at (s : FVec Ideal S512x512 .f32) (m : FVec Ideal S1x512 .f32) (k c : Fin 512) :
    wts s m (ix2 k c) = Ideal.exp2 (s (ix2 k c) - m (ix2 0 c)) := by
  pointwise [wts]
  rfl

/-- The sum of a chunk's weights in a column. -/
theorem wsum_at (e : FVec Ideal S512x512 .f32) (c : Fin 512) :
    wsum e (ix2 0 c) = ∑ k : Fin 512, e (ix2 k c) := by
  pointwise [wsum]

/-- The weighted sum of a chunk's values in a column. -/
theorem wval_at (e : FVec Ideal S512x512 .f32) (v : Vec Ideal S1x1x128x512 .bf16) (d : Fin 128) (c : Fin 512) :
    wval e v (ix2 d c) = ∑ k : Fin 512, v (ix4 0 0 d k) * e (ix2 k c) := by
  pointwise [wval]

/-- The weights of a column whose scores and maximum are real numbers. -/
theorem wts_real (s : FVec Ideal S512x512 .f32) (m : FVec Ideal S1x512 .f32) (c : Fin 512) (r : Fin 512 → ℝ) (M : ℝ)
    (hs : ∀ k, s (ix2 k c) = (r k : EReal)) (hm : m (ix2 0 c) = (M : EReal)) (k : Fin 512) :
    wts s m (ix2 k c) = (((2 : ℝ) ^ (r k - M) : ℝ) : EReal) := by
  rw [wts_at, hs, hm, ← EReal.coe_sub, Ideal.exp2_coe]
  rfl

/-- The sum of such weights. -/
theorem wsum_real (s : FVec Ideal S512x512 .f32) (m : FVec Ideal S1x512 .f32) (c : Fin 512) (r : Fin 512 → ℝ) (M : ℝ)
    (hs : ∀ k, s (ix2 k c) = (r k : EReal)) (hm : m (ix2 0 c) = (M : EReal)) :
    wsum (wts s m) (ix2 0 c) = ((∑ k, (2 : ℝ) ^ (r k - M) : ℝ) : EReal) := by
  rw [wsum_at, ← coe_sum]
  exact Finset.sum_congr rfl fun k _ => wts_real s m c r M hs hm k

/-- The sum of real values with such weights. -/
theorem wval_real (s : FVec Ideal S512x512 .f32) (m : FVec Ideal S1x512 .f32) (c : Fin 512) (r : Fin 512 → ℝ) (M : ℝ)
    (hs : ∀ k, s (ix2 k c) = (r k : EReal)) (hm : m (ix2 0 c) = (M : EReal)) (v : Vec Ideal S1x1x128x512 .bf16)
    (d : Fin 128) (u : Fin 512 → ℝ) (hv : ∀ k, v (ix4 0 0 d k) = (u k : EReal)) :
    wval (wts s m) v (ix2 d c) = ((∑ k, u k * (2 : ℝ) ^ (r k - M) : ℝ) : EReal) := by
  rw [wval_at, ← coe_sum]
  refine Finset.sum_congr rfl fun k _ => ?_
  rw [wts_real s m c r M hs hm k, hv k, ← EReal.coe_mul]

/-- Column `c` of a state is that of `n` chunks of the scores `s` and the values `v`, both indexed by position: for some
    number `M`, the running maximum is `M` and the sums are those of the weights `2 ^ (s - M)`. -/
def Inv (st : St Ideal) (c : Fin 512) (n : ℕ) (s : ℕ → ℝ) (v : Fin 128 → ℕ → ℝ) : Prop :=
  ∃ M : ℝ, st.m (ix2 0 c) = (M : EReal)
    ∧ st.l (ix2 0 c) = ((∑ j ∈ Finset.range n, ∑ k : Fin 512, (2 : ℝ) ^ (s (512 * j + k) - M) : ℝ) : EReal)
    ∧ ∀ d, st.a (ix2 d c)
        = ((∑ j ∈ Finset.range n, ∑ k : Fin 512, v d (512 * j + k) * (2 : ℝ) ^ (s (512 * j + k) - M) : ℝ) : EReal)

/-- The first chunk. -/
theorem inv_first (x : FVec Ideal S512x512 .f32) (w : Vec Ideal S1x1x128x512 .bf16) (c : Fin 512) (s : ℕ → ℝ)
    (v : Fin 128 → ℕ → ℝ) (hx : ∀ k : Fin 512, x (ix2 k c) = (s (512 * 0 + k) : EReal))
    (hw : ∀ d (k : Fin 512), w (ix4 0 0 d k) = (v d (512 * 0 + k) : EReal)) : Inv (first x w) c 1 s v := by
  obtain ⟨M, hM⟩ := fold_max_real (fun k : Fin 512 => x (ix2 k c)) fun k => ⟨_, hx k⟩
  have hc : cmax x (ix2 0 c) = (M : EReal) := (cmax_at x c).trans hM
  have hf : (first x w).m = cmax x := by dsimp only [first]
  refine ⟨M, by rw [hf]; exact hc, ?_, fun d => ?_⟩
  · rw [Finset.sum_range_one]
    show wsum (wts x (cmax x)) (ix2 0 c) = _
    exact wsum_real x _ c (fun k => s (512 * 0 + k)) M hx hc
  · rw [Finset.sum_range_one]
    show wval (wts x (cmax x)) w (ix2 d c) = _
    exact wval_real x _ c (fun k => s (512 * 0 + k)) M hx hc w d _ (hw d)

/-- The state after one more chunk, at an index. -/
theorem next_at (st : St Ideal) (x : FVec Ideal S512x512 .f32) (w : Vec Ideal S1x1x128x512 .bf16) (c : Fin 512)
    (d : Fin 128) :
    (next st x w).m (ix2 0 c) = max (st.m (ix2 0 c)) (cmax x (ix2 0 c))
      ∧ (next st x w).l (ix2 0 c)
        = st.l (ix2 0 c) * Ideal.exp2 (st.m (ix2 0 c) - (next st x w).m (ix2 0 c))
          + wsum (wts x (next st x w).m) (ix2 0 c)
      ∧ (next st x w).a (ix2 d c)
        = st.a (ix2 d c) * Ideal.exp2 (st.m (ix2 0 c) - (next st x w).m (ix2 0 c))
          + wval (wts x (next st x w).m) w (ix2 d c) := by
  refine ⟨rfl, rfl, ?_⟩
  have h : ∀ y : FVec Ideal S1x512 .f32, broadcastTo S128x512 y broadcasts_S1x512_S128x512 (ix2 d c) = y (ix2 0 c) := by
    intro y; pointwise
  show st.a (ix2 d c) * broadcastTo S128x512 _ broadcasts_S1x512_S128x512 (ix2 d c) + _ = _
  rw [h]
  rfl

/-- Rescaling a sum of powers of two to another maximum. -/
theorem rescale (n : ℕ) (f : ℕ → Fin 512 → ℝ) (g : ℕ → Fin 512 → ℝ) (M M' : ℝ) :
    (∑ j ∈ Finset.range n, ∑ k, f j k * (2 : ℝ) ^ (g j k - M)) * (2 : ℝ) ^ (M - M')
      = ∑ j ∈ Finset.range n, ∑ k, f j k * (2 : ℝ) ^ (g j k - M') := by
  rw [Finset.sum_mul]
  refine Finset.sum_congr rfl fun j _ => ?_
  rw [Finset.sum_mul]
  refine Finset.sum_congr rfl fun k _ => ?_
  rw [mul_assoc, ← Real.rpow_add two_pos, sub_add_sub_cancel]

/-- One more chunk. -/
theorem inv_next (st : St Ideal) (x : FVec Ideal S512x512 .f32) (w : Vec Ideal S1x1x128x512 .bf16) (c : Fin 512) (n : ℕ)
    (s : ℕ → ℝ) (v : Fin 128 → ℕ → ℝ) (h : Inv st c n s v) (hx : ∀ k : Fin 512, x (ix2 k c) = (s (512 * n + k) : EReal))
    (hw : ∀ d (k : Fin 512), w (ix4 0 0 d k) = (v d (512 * n + k) : EReal)) : Inv (next st x w) c (n + 1) s v := by
  obtain ⟨M, hm, hl, ha⟩ := h
  obtain ⟨M₁, hM₁⟩ := fold_max_real (fun k : Fin 512 => x (ix2 k c)) fun k => ⟨_, hx k⟩
  have hc : cmax x (ix2 0 c) = (M₁ : EReal) := (cmax_at x c).trans hM₁
  have hn : (next st x w).m (ix2 0 c) = ((max M M₁ : ℝ) : EReal) := by
    rw [(next_at st x w c 0).1, hm, hc]
    exact (EReal.coe_strictMono.monotone.map_max).symm
  have he : Ideal.exp2 (st.m (ix2 0 c) - (next st x w).m (ix2 0 c)) = (((2 : ℝ) ^ (M - max M M₁) : ℝ) : EReal) := by
    rw [hm, hn, ← EReal.coe_sub, Ideal.exp2_coe]
    rfl
  refine ⟨max M M₁, hn, ?_, fun d => ?_⟩
  · have r := rescale n (fun _ _ => 1) (fun j k => s (512 * j + k)) M (max M M₁)
    simp only [one_mul] at r
    rw [(next_at st x w c 0).2.1, he, hl, wsum_real x _ c (fun k => s (512 * n + k)) _ hx hn, ← EReal.coe_mul,
      ← EReal.coe_add, Finset.sum_range_succ, r]
  · have r := rescale n (fun j k => v d (512 * j + k)) (fun j k => s (512 * j + k)) M (max M M₁)
    rw [(next_at st x w c d).2.2, he, ha d, wval_real x _ c (fun k => s (512 * n + k)) _ hx hn w d _ (hw d),
      ← EReal.coe_mul, ← EReal.coe_add, Finset.sum_range_succ, r]

/-- A tile's difference at an index. -/
theorem diff_at (lam : FVec Ideal S1x1 .f32) (st : St Ideal) (r : Fin 256) (d : Fin 128) :
    diff lam st (ix2 r d)
      = st.a (ix2 d ⟨r, by omega⟩) * Ideal.div 1 (st.l (ix2 0 ⟨r, by omega⟩))
        - st.a (ix2 d ⟨256 + r, by omega⟩) * (Ideal.div 1 (st.l (ix2 0 ⟨256 + r, by omega⟩)) * lam (ix2 0 0)) := by
  pointwise [diff]

/-- A quotient of the two sums of a column after nine chunks. -/
theorem inv_div (st : St Ideal) (c : Fin 512) (s : ℕ → ℝ) (v : Fin 128 → ℕ → ℝ) (h : Inv st c 9 s v) (d : Fin 128) :
    ∃ a l : ℝ, st.a (ix2 d c) = (a : EReal) ∧ Ideal.div 1 (st.l (ix2 0 c)) = (l : EReal)
      ∧ a * l = att (fun k : Fin 4608 => Real.log 2 * s k) (fun k => v d k) := by
  obtain ⟨M, -, hl, ha⟩ := h
  have h1 := sum_runs fun i => (2 : ℝ) ^ (s i - M)
  have h2 := sum_runs fun i => v d i * (2 : ℝ) ^ (s i - M)
  have hp : (0 : ℝ) < ∑ k : Fin 4608, (2 : ℝ) ^ (s k - M) := sum_two_pos fun k : Fin (4607 + 1) => s k - M
  refine ⟨_, 1 / ∑ k : Fin 4608, (2 : ℝ) ^ (s k - M), (ha d).trans (by rw [h2]), ?_, ?_⟩
  · rw [hl, h1, Ideal.div_coe hp.ne', one_mul]
  · rw [mul_one_div]
    exact att_two (fun k : Fin 4608 => s k) (fun k => v d k) M

/-- The difference of a tile whose columns are known: the first softmax mean less `L` times the second. -/
theorem diff_real (lam : FVec Ideal S1x1 .f32) (st : St Ideal) (L : ℝ) (hL : lam (ix2 0 0) = (L : EReal)) (r : Fin 256)
    (s₀ s₁ : ℕ → ℝ) (v : Fin 128 → ℕ → ℝ) (h₀ : Inv st ⟨r, by omega⟩ 9 s₀ v) (h₁ : Inv st ⟨256 + r, by omega⟩ 9 s₁ v)
    (d : Fin 128) :
    diff lam st (ix2 r d) = ((att (fun k : Fin 4608 => Real.log 2 * s₀ k) (fun k => v d k)
      - L * att (fun k : Fin 4608 => Real.log 2 * s₁ k) (fun k => v d k) : ℝ) : EReal) := by
  obtain ⟨a₀, l₀, ha₀, hl₀, e₀⟩ := inv_div st _ s₀ v h₀ d
  obtain ⟨a₁, l₁, ha₁, hl₁, e₁⟩ := inv_div st _ s₁ v h₁ d
  rw [diff_at, ha₀, hl₀, ha₁, hl₁, hL, ← EReal.coe_mul, ← EReal.coe_mul, ← EReal.coe_mul, ← EReal.coe_sub, ← e₀, ← e₁]
  congr 1
  ring

/-- A tile normalised, at an index. -/
theorem norm_at (o : FVec Ideal S256x128 .f32) (g : Vec Ideal S1x128 .f32) (r : Fin 256) (d : Fin 128) :
    norm o g (ix3 0 r d)
      = o (ix2 r d) * Ideal.rsqrt (Ideal.div (∑ x : Fin 128, o (ix2 r x) * o (ix2 r x)) (Ideal.ofBits .f32 0x43000000#32)
          + Ideal.ofBits .f32 0x358637BD#32) * g (ix2 0 d) * Ideal.ofBits .f32 0x3F24FD5C#32 := by
  pointwise [norm]

end Cert.Attn

end
-- ==== Proof.Attn.TileVal.lean ====
module

public import proofs.«01_k».proof.Proof.Attn.Online

/-!
One tile of the differential attention at an index, for queries, keys and values that are real numbers.
-/

@[expose] public section

set_option maxRecDepth 16384

noncomputable section

namespace Cert.Attn

open Idealize.ShloMosaic Idealize.ShloMosaic.TcCoe Idealize.SL.Sem Cert.Kernel2Ideal Cert.Kernel2Ideal.Gen

/-- The factor on the queries: an eighth, over the logarithm of two. -/
def qs : ℝ := 8⁻¹ * (Real.log 2)⁻¹

/-- A score at an index. -/
theorem sc_at (q : FVec Ideal S512x128 .bf16) (k : Vec Ideal S1x512x128 .bf16) (r c : Fin 512) :
    sc q k (ix2 r c) = ∑ d : Fin 128, k (ix3 0 r d) * q (ix2 c d) := by
  pointwise [sc]

/-- The named factor. -/
theorem qs_eq : Named.named (F := Ideal) κ "qscale" (φ := .f32) 0x3E38AA3B#32 = (qs : EReal) :=
  IdealRules.named_const.ideal_named_scalar κ "qscale" _ _ rfl

/-- Which lanes are below 64. -/
theorem lane_lt : ∀ d : Fin 64, IntOp.cmpi .slt (BitVec.ofNat 32 (d : ℕ)) 64#32 = 1#1
    ∧ IntOp.cmpi .sge (BitVec.ofNat 32 (d : ℕ)) 64#32 = 0#1
    ∧ IntOp.cmpi .slt (BitVec.ofNat 32 (64 + d : ℕ)) 64#32 = 0#1
    ∧ IntOp.cmpi .sge (BitVec.ofNat 32 (64 + d : ℕ)) 64#32 = 1#1 := by decide

/-- The stacked queries of a tile: the first 256 rows keep the low lanes. -/
theorem stack_lo (q : Vec Ideal S1x256x128 .f32) (r : Fin 256) (d : Fin 64) :
    k0_pay3 q (ix2 ⟨r, by omega⟩ ⟨d, by omega⟩) = q (ix3 0 r ⟨d, by omega⟩) * (qs : EReal)
      ∧ k0_pay3 q (ix2 ⟨r, by omega⟩ ⟨64 + d, by omega⟩) = 0 := by
  obtain ⟨h1, -, h3, -⟩ := lane_lt d
  have hr : (r : ℕ) < 256 := r.2
  constructor
  · pointwise [k0_pay3]
    simp only [dif_pos hr, h1, qs_eq]
    rfl
  · pointwise [k0_pay3]
    simp only [dif_pos hr, h3]
    rfl

/-- The last 256 rows keep the high lanes. -/
theorem stack_hi (q : Vec Ideal S1x256x128 .f32) (r : Fin 256) (d : Fin 64) :
    k0_pay3 q (ix2 ⟨256 + r, by omega⟩ ⟨d, by omega⟩) = 0
      ∧ k0_pay3 q (ix2 ⟨256 + r, by omega⟩ ⟨64 + d, by omega⟩) = q (ix3 0 r ⟨64 + d, by omega⟩) * (qs : EReal) := by
  obtain ⟨-, h2, -, h4⟩ := lane_lt d
  have hr : ¬ (256 + (r : ℕ) < 256) := by omega
  have e : (⟨256 + (r : ℕ) - 256, by omega⟩ : Fin 256) = r := Fin.ext (by simp)
  constructor
  · pointwise [k0_pay3]
    simp only [dif_neg hr, h2]
    rfl
  · pointwise [k0_pay3]
    simp only [dif_neg hr, h4, qs_eq, e]
    rfl

/-- A score of the first component. -/
theorem score_lo (q : Vec Ideal S1x256x128 .f32) (k : Vec Ideal S1x512x128 .bf16) (r : Fin 256) (j : Fin 512)
    (u w : Fin 128 → ℝ) (hu : ∀ d, q (ix3 0 r d) = (u d : EReal)) (hw : ∀ d, k (ix3 0 j d) = (w d : EReal)) :
    sc (k0_pay3 q) k (ix2 j ⟨r, by omega⟩)
      = ((∑ d : Fin 64, w ⟨d, by omega⟩ * (u ⟨d, by omega⟩ * qs) : ℝ) : EReal) := by
  rw [sc_at, Fin.sum_univ_two_halves 64 64 rfl]
  simp only [(stack_lo q r _).1, (stack_lo q r _).2, mul_zero, Finset.sum_const_zero, add_zero, hu, hw, ← EReal.coe_mul]
  exact coe_sum _ _

/-- A score of the second component. -/
theorem score_hi (q : Vec Ideal S1x256x128 .f32) (k : Vec Ideal S1x512x128 .bf16) (r : Fin 256) (j : Fin 512)
    (u w : Fin 128 → ℝ) (hu : ∀ d, q (ix3 0 r d) = (u d : EReal)) (hw : ∀ d, k (ix3 0 j d) = (w d : EReal)) :
    sc (k0_pay3 q) k (ix2 j ⟨256 + r, by omega⟩)
      = ((∑ d : Fin 64, w ⟨64 + d, by omega⟩ * (u ⟨64 + d, by omega⟩ * qs) : ℝ) : EReal) := by
  rw [sc_at, Fin.sum_univ_two_halves 64 64 rfl]
  simp only [(stack_hi q r _).1, (stack_hi q r _).2, mul_zero, Finset.sum_const_zero, zero_add, hu, hw, ← EReal.coe_mul]
  exact coe_sum _ _

/-- The column of a walk over nine chunks whose scores and values are known. -/
theorem inv_walk (qq : FVec Ideal S512x128 .bf16) (k0 k1 k2 k3 k4 k5 k6 k7 k8 : Vec Ideal S1x512x128 .bf16)
    (v0 v1 v2 v3 v4 v5 v6 v7 v8 : Vec Ideal S1x1x128x512 .bf16) (c : Fin 512) (s : ℕ → ℝ) (v : Fin 128 → ℕ → ℝ)
    (h : ∀ p ∈ [(k0, v0, 0), (k1, v1, 1), (k2, v2, 2), (k3, v3, 3), (k4, v4, 4), (k5, v5, 5), (k6, v6, 6), (k7, v7, 7),
      (k8, v8, 8)], (∀ k : Fin 512, sc qq p.1 (ix2 k c) = (s (512 * p.2.2 + k) : EReal))
        ∧ ∀ d (k : Fin 512), p.2.1 (ix4 0 0 d k) = (v d (512 * p.2.2 + k) : EReal)) :
    Inv (walk qq k0 k1 k2 k3 k4 k5 k6 k7 k8 v0 v1 v2 v3 v4 v5 v6 v7 v8) c 9 s v := by
  simp only [List.forall_mem_cons, List.not_mem_nil, false_imp_iff, implies_true, and_true] at h
  obtain ⟨a0, a1, a2, a3, a4, a5, a6, a7, a8⟩ := h
  unfold walk
  exact inv_next _ _ _ _ _ _ _ (inv_next _ _ _ _ _ _ _ (inv_next _ _ _ _ _ _ _ (inv_next _ _ _ _ _ _ _
    (inv_next _ _ _ _ _ _ _ (inv_next _ _ _ _ _ _ _ (inv_next _ _ _ _ _ _ _ (inv_next _ _ _ _ _ _ _
      (inv_first _ _ _ _ _ a0.1 a0.2) a1.1 a1.2) a2.1 a2.2) a3.1 a3.2) a4.1 a4.2) a5.1 a5.2) a6.1 a6.2) a7.1 a7.2) a8.1 a8.2

/-- A row of attention outputs normalised, weighted and scaled. -/
def nrm (o : Fin 128 → EReal) (g : Fin 128 → EReal) (d : Fin 128) : EReal :=
  o d * Ideal.rsqrt (Ideal.div (∑ x : Fin 128, o x * o x) (Ideal.ofBits .f32 0x43000000#32)
    + Ideal.ofBits .f32 0x358637BD#32) * g d * Ideal.ofBits .f32 0x3F24FD5C#32

/-- The difference of the two softmax means, for one query's two components `u₀ u₁`, the keys' components `w₀ w₁`, and
    the values `v`. -/
def dif (L : ℝ) (u₀ u₁ : Fin 64 → ℝ) (w₀ w₁ : ℕ → Fin 64 → ℝ) (v : ℕ → ℝ) : ℝ :=
  att (fun k : Fin 4608 => (∑ d, u₀ d * w₀ k d) * 8⁻¹) (fun k => v k)
    - L * att (fun k : Fin 4608 => (∑ d, u₁ d * w₁ k d) * 8⁻¹) (fun k => v k)

/-- The logarithm of two cancels in a score. -/
theorem score_log (u w : Fin 64 → ℝ) : Real.log 2 * ∑ d, w d * (u d * qs) = (∑ d, u d * w d) * 8⁻¹ := by
  have h : Real.log 2 ≠ 0 := (Real.log_pos one_lt_two).ne'
  rw [Finset.mul_sum, Finset.sum_mul]
  refine Finset.sum_congr rfl fun d _ => ?_
  rw [qs]
  field_simp

/-- A tile at an index. -/
theorem tile_at (lam : FVec Ideal S1x1 .f32) (g : Vec Ideal S1x128 .f32) (q : Vec Ideal S1x256x128 .f32)
    (k0 k1 k2 k3 k4 k5 k6 k7 k8 : Vec Ideal S1x512x128 .bf16)
    (v0 v1 v2 v3 v4 v5 v6 v7 v8 : Vec Ideal S1x1x128x512 .bf16) (L : ℝ) (hL : lam (ix2 0 0) = (L : EReal)) (r : Fin 256)
    (u : Fin 128 → ℝ) (hu : ∀ d, q (ix3 0 r d) = (u d : EReal)) (w : ℕ → Fin 128 → ℝ) (v : Fin 128 → ℕ → ℝ)
    (h : ∀ p ∈ [(k0, v0, 0), (k1, v1, 1), (k2, v2, 2), (k3, v3, 3), (k4, v4, 4), (k5, v5, 5), (k6, v6, 6), (k7, v7, 7),
      (k8, v8, 8)], (∀ (k : Fin 512) d, p.1 (ix3 0 k d) = (w (512 * p.2.2 + k) d : EReal))
        ∧ ∀ d (k : Fin 512), p.2.1 (ix4 0 0 d k) = (v d (512 * p.2.2 + k) : EReal)) (d : Fin 128) :
    tile lam g q k0 k1 k2 k3 k4 k5 k6 k7 k8 v0 v1 v2 v3 v4 v5 v6 v7 v8 (ix3 0 r d)
      = nrm (fun x => (dif L (fun i => u ⟨i, by omega⟩) (fun i => u ⟨64 + i, by omega⟩) (fun k i => w k ⟨i, by omega⟩)
          (fun k i => w k ⟨64 + i, by omega⟩) (v x) : EReal)) (fun x => g (ix2 0 x)) d := by
  have h₀ := inv_walk (k0_pay3 q) k0 k1 k2 k3 k4 k5 k6 k7 k8 v0 v1 v2 v3 v4 v5 v6 v7 v8 ⟨r, by omega⟩
    (fun n => ∑ d : Fin 64, w n ⟨d, by omega⟩ * (u ⟨d, by omega⟩ * qs)) v
    (fun p hp => ⟨fun k => score_lo q p.1 r k u _ hu ((h p hp).1 k), (h p hp).2⟩)
  have h₁ := inv_walk (k0_pay3 q) k0 k1 k2 k3 k4 k5 k6 k7 k8 v0 v1 v2 v3 v4 v5 v6 v7 v8 ⟨256 + r, by omega⟩
    (fun n => ∑ d : Fin 64, w n ⟨64 + d, by omega⟩ * (u ⟨64 + d, by omega⟩ * qs)) v
    (fun p hp => ⟨fun k => score_hi q p.1 r k u _ hu ((h p hp).1 k), (h p hp).2⟩)
  have e := diff_real lam _ L hL r _ _ v h₀ h₁
  rw [tile, norm_at, nrm]
  simp only [e, score_log]
  rfl

end Cert.Attn

end
-- ==== Proof.Attn.Spec.lean ====
module

public import proofs.«01_k».proof.Proof.Attn.TileVal

/-!
The differential attention as one formula over the argument arrays: queries, keys and values (the cached ones first), the
four vectors of the factor, and the weights of the normalisation.
-/

@[expose] public section

set_option maxRecDepth 16384

noncomputable section

namespace Cert.Attn

open Idealize.ShloMosaic Idealize.ShloMosaic.TcCoe Cert.Kernel2Ideal

/-- Every entry of an array is a real number. -/
def IsReal {S : Shape} (X : S.Idx → EReal) : Prop := ∀ i, X i = ((X i).toReal : EReal)

/-- The queries as real numbers. -/
def qR (X0 : FVec Ideal S2x4096x4x2x64 .f32) (b : Fin 2) (n : Fin 4096) (h : Fin 4) (c : Fin 2) (d : Fin 64) : ℝ :=
  (X0 (ix5 b n h c d) : EReal).toReal

/-- The key at a position: the cached ones come first. -/
def kR (X1 : FVec Ideal S2x4096x4x2x64 .f32) (X3 : FVec Ideal S2x1x512x4x2x64 .f32) (b : Fin 2) (h : Fin 4) (c : Fin 2)
    (n : ℕ) (d : Fin 64) : ℝ :=
  if h₀ : n < 512 then (X3 (ix6 b 0 ⟨n, h₀⟩ h c d) : EReal).toReal
  else if h₁ : n - 512 < 4096 then (X1 (ix5 b ⟨n - 512, h₁⟩ h c d) : EReal).toReal else 0

/-- The value at a position: the cached ones come first. -/
def vR (X2 : FVec Ideal S2x4096x4x128 .f32) (X4 : FVec Ideal S2x1x512x4x128 .f32) (b : Fin 2) (h : Fin 4) (e : Fin 128)
    (n : ℕ) : ℝ :=
  if h₀ : n < 512 then (X4 (ix5 b 0 ⟨n, h₀⟩ h e) : EReal).toReal
  else if h₁ : n - 512 < 4096 then (X2 (ix4 b ⟨n - 512, h₁⟩ h e) : EReal).toReal else 0

/-- The factor on the second softmax. -/
def lamE (X5 X6 X7 X8 : FVec Ideal S1x64 .f32) : EReal :=
  Ideal.exp (∑ d : Fin 64, X5 (ix2 0 d) * X6 (ix2 0 d)) - Ideal.exp (∑ d : Fin 64, X7 (ix2 0 d) * X8 (ix2 0 d))
    + Ideal.ofBits .f32 0x3EB60549#32

/-- The result: for batch `b`, query `n`, head `h` and value lane `e`. -/
def out (X0 X1 : FVec Ideal S2x4096x4x2x64 .f32) (X2 : FVec Ideal S2x4096x4x128 .f32)
    (X3 : FVec Ideal S2x1x512x4x2x64 .f32) (X4 : FVec Ideal S2x1x512x4x128 .f32) (X5 X6 X7 X8 : FVec Ideal S1x64 .f32)
    (X9 : FVec Ideal S1x128 .f32) (b : Fin 2) (n : Fin 4096) (h : Fin 4) (e : Fin 128) : EReal :=
  nrm (fun x => (dif (lamE X5 X6 X7 X8).toReal (qR X0 b n h 0) (qR X0 b n h 1) (kR X1 X3 b h 0) (kR X1 X3 b h 1)
    (vR X2 X4 b h x) : EReal)) (fun x => X9 (ix2 0 x)) e

/-- The specification as an array. -/
def outArr (X0 X1 : FVec Ideal S2x4096x4x2x64 .f32) (X2 : FVec Ideal S2x4096x4x128 .f32)
    (X3 : FVec Ideal S2x1x512x4x2x64 .f32) (X4 : FVec Ideal S2x1x512x4x128 .f32) (X5 X6 X7 X8 : FVec Ideal S1x64 .f32)
    (X9 : FVec Ideal S1x128 .f32) : FVec Ideal S2x4096x512 .bf16 := fun i =>
  out X0 X1 X2 X3 X4 X5 X6 X7 X8 X9 (i 0) (i 1) ⟨(i 2 : ℕ) / 128, by have : (i 2 : ℕ) < 512 := (i 2).isLt; omega⟩
    ⟨(i 2 : ℕ) % 128, by omega⟩

/-- The specification's array at an index. -/
theorem outArr_at (X0 X1 : FVec Ideal S2x4096x4x2x64 .f32) (X2 : FVec Ideal S2x4096x4x128 .f32)
    (X3 : FVec Ideal S2x1x512x4x2x64 .f32) (X4 : FVec Ideal S2x1x512x4x128 .f32) (X5 X6 X7 X8 : FVec Ideal S1x64 .f32)
    (X9 : FVec Ideal S1x128 .f32) (b : Fin 2) (n : Fin 4096) (h : Fin 4) (d : Fin 128) :
    outArr X0 X1 X2 X3 X4 X5 X6 X7 X8 X9 (ix3 b n ⟨128 * h + d, by omega⟩) = out X0 X1 X2 X3 X4 X5 X6 X7 X8 X9 b n h d := by
  show out X0 X1 X2 X3 X4 X5 X6 X7 X8 X9 b n ⟨(128 * (h : ℕ) + d) / 128, _⟩ ⟨(128 * (h : ℕ) + d) % 128, _⟩ = _
  have e1 : (128 * (h : ℕ) + d) / 128 = h := by omega
  have e2 : (128 * (h : ℕ) + d) % 128 = d := by omega
  simp only [e1, e2]

/-- The factor is a real number when its vectors are. -/
theorem lamE_real (X5 X6 X7 X8 : FVec Ideal S1x64 .f32) (h5 : IsReal X5) (h6 : IsReal X6) (h7 : IsReal X7)
    (h8 : IsReal X8) : lamE X5 X6 X7 X8 = ((lamE X5 X6 X7 X8).toReal : EReal) := by
  have hr : ∃ r : ℝ, lamE X5 X6 X7 X8 = r := by
    have hc : ∃ r : ℝ, Ideal.ofBits .f32 0x3EB60549#32 = r := ⟨_, by simp [Ideal.ofBits, Ideal.ieee, -EReal.coe_mul]; rfl⟩
    obtain ⟨r, hr⟩ := hc
    have hs : ∀ X Y : FVec Ideal S1x64 .f32, IsReal X → IsReal Y →
        ∃ r : ℝ, Ideal.exp (∑ d : Fin 64, X (ix2 0 d) * Y (ix2 0 d)) = r := by
      intro X Y hX hY
      have e : ∑ d : Fin 64, X (ix2 0 d) * Y (ix2 0 d)
          = ((∑ d : Fin 64, (X (ix2 0 d) : EReal).toReal * (Y (ix2 0 d) : EReal).toReal : ℝ) : EReal) := by
        rw [← coe_sum]
        exact Finset.sum_congr rfl fun d _ => by rw [EReal.coe_mul, ← hX, ← hY]
      exact ⟨_, by rw [e, Ideal.exp_coe]⟩
    obtain ⟨a, ha⟩ := hs X5 X6 h5 h6
    obtain ⟨b, hb⟩ := hs X7 X8 h7 h8
    exact ⟨a - b + r, by rw [lamE, ha, hb, hr, ← EReal.coe_sub, ← EReal.coe_add]⟩
  obtain ⟨r, hr⟩ := hr
  rw [hr, EReal.toReal_coe]

end Cert.Attn

end
-- ==== Proof.Attn.Host.lean ====
module

public import proofs.«01_k».proof.Proof.Attn.Spec
public import Idealize.ShloMosaic.Lib.Pipeline.ValueKit
public import Idealize.ShloMosaic.Lib.Claim

/-!
The arrays that the call is given, at an index, as the arguments' entries.
-/

@[expose] public section

set_option maxRecDepth 16384

noncomputable section

namespace Cert.Attn

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- Operations run one list after the other. -/
theorem after_append (a b : List (HloOp τ sig (Elt Ideal))) (σ : Valuation τ sig (Elt Ideal)) :
    StableHlo.after (a ++ b) σ = StableHlo.after b (StableHlo.after a σ) := by
  induction a generalizing σ with
  | nil => rfl
  | cons x a ih => exact ih _

/-- Four rows stacked and reshaped. -/
theorem stack4 (a b x y : FVec Ideal S1x1x64 .f32) (i : Fin 4) (d : Fin 64) :
    (shapeCast S4x64 (concatenate S1x4x64 1 [⟨S1x1x64, a⟩, ⟨S1x1x64, b⟩, ⟨S1x1x64, x⟩, ⟨S1x1x64, y⟩]
      concatenates_S1x1x64_S1x1x64_S1x1x64_S1x1x64_S1x4x64_d1) shapeCasts_S1x4x64_S4x64 : FVec Ideal S4x64 .f32) (ix2 i d)
    = if (i : ℕ) = 0 then a (ix3 0 0 d) else if (i : ℕ) = 1 then b (ix3 0 0 d) else if (i : ℕ) = 2 then x (ix3 0 0 d)
      else y (ix3 0 0 d) := by
  pointwise
  fin_cases i <;> (try rfl)

/-- The four vectors, stacked. -/
theorem stack_ops (σ : Valuation τ sig (Elt Ideal)) (i : Fin 4) (d : Fin 64) :
    (StableHlo.after ((hostOps0 (F := Ideal)).drop 31) σ (Proc.tc.devRef main_v30) : FVec Ideal S4x64 .f32) (ix2 i d) =
    if (i : ℕ) = 0 then (σ (Proc.tc.devRef main_arg5) : FVec Ideal S1x64 .f32) (ix2 0 d)
    else if (i : ℕ) = 1 then (σ (Proc.tc.devRef main_arg6) : FVec Ideal S1x64 .f32) (ix2 0 d)
    else if (i : ℕ) = 2 then (σ (Proc.tc.devRef main_arg7) : FVec Ideal S1x64 .f32) (ix2 0 d)
    else (σ (Proc.tc.devRef main_arg8) : FVec Ideal S1x64 .f32) (ix2 0 d) := by
  simp only [hostOps0, List.drop_succ_cons, List.drop_zero, StableHlo.after_cons, StableHlo.after_nil]
  after_results_simp
  refine (stack4 _ _ _ _ i d).trans ?_
  refine congr (congrArg _ ?_) (congr (congrArg _ ?_) (congr (congrArg _ ?_) ?_))
  · show HloOp.result _ _ (Proc.tc.devRef main_v25) _ = _
    after_results_simp
    pointwise
  · show HloOp.result _ _ (Proc.tc.devRef main_v26) _ = _
    after_results_simp
    pointwise
  · show HloOp.result _ _ (Proc.tc.devRef main_v27) _ = _
    after_results_simp
    pointwise
  · show HloOp.result _ _ (Proc.tc.devRef main_v28) _ = _
    after_results_simp
    pointwise

/-- The queries' array. -/
theorem V0_at (b : Fin 2) (n : Fin 4096) (h : Fin 4) (l : Fin 128) :
    (V m c main_v0 : FVec Ideal S2x4096x512 .f32) (ix3 b n ⟨128 * h + l, by omega⟩)
      = (m ((c : Thread nD τ).loc main_arg0) : FVec Ideal S2x4096x4x2x64 .f32)
          (ix5 b n h ⟨l / 64, by omega⟩ ⟨l % 64, by omega⟩) := by
  entry_read
  pointwise
  have e1 : (128 * (h : ℕ) + l) / 64 % 2 = l / 64 := by omega
  have e2 : (128 * (h : ℕ) + l) % 64 = l % 64 := by omega
  have e3 : (128 * (h : ℕ) + l) / 128 = h := by omega
  simp only [e1, e2, e3]

/-- The cached keys' array. -/
theorem V3_at (b : Fin 2) (n : Fin 512) (h : Fin 4) (l : Fin 128) :
    (V m c main_v3 : FVec Ideal S2x512x512 .bf16) (ix3 b n ⟨128 * h + l, by omega⟩)
      = (m ((c : Thread nD τ).loc main_arg3) : FVec Ideal S2x1x512x4x2x64 .f32)
          (ix6 b 0 n h ⟨l / 64, by omega⟩ ⟨l % 64, by omega⟩) := by
  entry_read
  pointwise
  have e1 : (128 * (h : ℕ) + l) / 64 % 2 = l / 64 := by omega
  have e2 : (128 * (h : ℕ) + l) % 64 = l % 64 := by omega
  have e3 : (128 * (h : ℕ) + l) / 128 = h := by omega
  simp only [e1, e2, e3]

/-- The cached values' array, transposed, in its rows below the row of ones. -/
theorem V15_at (b : Fin 2) (h : Fin 4) (d : Fin 128) (n : Fin 512) :
    (V m c main_v15 : FVec Ideal S2x4x144x512 .bf16) (ix4 b h ⟨d, by omega⟩ n)
      = (m ((c : Thread nD τ).loc main_arg4) : FVec Ideal S2x1x512x4x128 .f32)
          (ix5 b 0 n h d) := by
  entry_read
  pointwise

/-- The keys' array. -/
theorem V5_at (b : Fin 2) (n : Fin 4096) (h : Fin 4) (l : Fin 128) :
    (V m c main_v5 : FVec Ideal S2x4096x512 .bf16) (ix3 b n ⟨128 * h + l, by omega⟩)
      = (m ((c : Thread nD τ).loc main_arg1) : FVec Ideal S2x4096x4x2x64 .f32)
          (ix5 b n h ⟨l / 64, by omega⟩ ⟨l % 64, by omega⟩) := by
  entry_read
  pointwise
  have e1 : (128 * (h : ℕ) + l) / 64 % 2 = l / 64 := by omega
  have e2 : (128 * (h : ℕ) + l) % 64 = l % 64 := by omega
  have e3 : (128 * (h : ℕ) + l) / 128 = h := by omega
  simp only [e1, e2, e3]

set_option maxRecDepth 200000 in
/-- The values' array, transposed, in its rows below the row of ones. -/
theorem V24_at (b : Fin 2) (h : Fin 4) (d : Fin 128) (n : Fin 4096) :
    (V m c main_v24 : FVec Ideal S2x4x144x4096 .bf16) (ix4 b h ⟨d, by omega⟩ n)
      = (m ((c : Thread nD τ).loc main_arg2) : FVec Ideal S2x4096x4x128 .f32)
          (ix4 b n h d) := by
  entry_read
  pointwise
  have e1 : ((h : ℕ) * 128 + d) / 128 = h := by omega
  have e2 : ((h : ℕ) * 128 + d) % 128 = d := by omega
  simp only [e1, e2]

/-- The stacked vectors. -/
theorem V30_at (i : Fin 4) (d : Fin 64) : (V m c main_v30 : FVec Ideal S4x64 .f32) (ix2 i d) =
    if (i : ℕ) = 0 then (m ((c : Thread nD τ).loc main_arg5) : FVec Ideal S1x64 .f32) (ix2 0 d)
    else if (i : ℕ) = 1 then (m ((c : Thread nD τ).loc main_arg6) : FVec Ideal S1x64 .f32) (ix2 0 d)
    else if (i : ℕ) = 2 then (m ((c : Thread nD τ).loc main_arg7) : FVec Ideal S1x64 .f32) (ix2 0 d)
    else (m ((c : Thread nD τ).loc main_arg8) : FVec Ideal S1x64 .f32) (ix2 0 d) := by
  have hs : V m c main_v30 = StableHlo.after ((hostOps0 (F := Ideal)).drop 31)
      (StableHlo.after ((hostOps0 (F := Ideal)).take 31) (fun b => m (c, b))) (Proc.tc.devRef main_v30) := by
    rw [← after_append, List.take_append_drop]
  rw [hs, stack_ops]
  have ha : ∀ b : Ref sig .tc, b ∈ [main_arg5, main_arg6, main_arg7, main_arg8] →
      StableHlo.after ((hostOps0 (F := Ideal)).take 31) (fun b => m (c, b)) (Proc.tc.devRef b) = m ((c : Thread nD τ).loc b) := by
    intro b hb
    simp only [List.mem_cons, List.not_mem_nil, or_false] at hb
    rcases hb with rfl | rfl | rfl | rfl <;>
    · simp only [hostOps0, List.take_succ_cons, List.take_zero, StableHlo.after_cons, StableHlo.after_nil]
      after_results_simp
      try rfl
  rw [ha main_arg5 (by simp), ha main_arg6 (by simp), ha main_arg7 (by simp), ha main_arg8 (by simp)]

/-- The scale's array. -/
theorem V32_at (d : Fin 128) :
    (V m c main_v32 : FVec Ideal S1x128 .f32) (ix2 0 d) = (m ((c : Thread nD τ).loc main_arg9) : FVec Ideal S1x128 .f32) (ix2 0 d) := by
  entry_read
  pointwise

end Cert.Attn

end
-- ==== Proof.Attn.Pieces.lean ====
module

public import proofs.«01_k».proof.Proof.Attn.Tile

/-!
The block that the body of the differential attention call leaves, piece by piece: every piece is a tile of its own
256 query rows.
-/

@[expose] public section

set_option maxRecDepth 16384

noncomputable section

namespace Cert.Attn

open Idealize.ShloMosaic Idealize.ShloMosaic.TcCoe Idealize.SL.Sem Cert.Kernel2Ideal Cert.Kernel2Ideal.Gen

variable {F : FTy → Type} [FloatOps F] [Named F]

/-- The piece stored at row 0 is the tile of the queries there. -/
theorem piece0 (x0 : Vec F S1x2048x128 .f32) (x1 : Vec F S1x512x128 .bf16) (x2 : Vec F S1x4096x128 .bf16)
    (x3 : Vec F S1x1x144x512 .bf16) (x4 : Vec F S1x1x144x4096 .bf16) (x5 : Vec F S4x64 .f32) (x6 : Vec F S1x128 .f32) :
    k0_pay56 (k0_pay55 (k0_pay424 x0 x1 x2 x3 x4 x5 x6) (k0_pay438 x0 x1 x2 x3 x4 x5 x6) (k0_pay48 (k0_pay436 x0 x1 x2 x3 x4 x5 x6) (k0_pay443 x0 x1 x2 x3 x4 x5 x6)) (k0_pay51 (k0_pay436 x0 x1 x2 x3 x4 x5 x6) (k0_pay440 x0 x1 x2 x3 x4 x5 x6) (k0_pay39 (k0_pay432 x0 x1 x2 x3 x4 x5 x6) (k0_pay437 x0 x1 x2 x3 x4 x5 x6) (k0_pay32 (k0_pay430 x0 x1 x2 x3 x4 x5 x6) (k0_pay433 x0 x1 x2 x3 x4 x5 x6) (k0_pay21 (k0_pay427 x0 x1 x2 x3 x4 x5 x6) (k0_pay429 x0 x1 x2 x3 x4 x5 x6) (k0_pay11 (k0_pay426 x0 x1 x2 x3 x4 x5 x6) (View.ld x3 r0_6)) (k0_pay431 x0 x1 x2 x3 x4 x5 x6) (k0_pay14 (k0_pay425 x0 x1 x2 x3 x4 x5 x6) (k0_pay426 x0 x1 x2 x3 x4 x5 x6) (View.ld x2 r0_3)) (View.ld x4 r0_8) (View.ld x4 r0_10)) (k0_pay435 x0 x1 x2 x3 x4 x5 x6) (k0_pay25 (k0_pay427 x0 x1 x2 x3 x4 x5 x6) (k0_pay428 x0 x1 x2 x3 x4 x5 x6) (k0_pay431 x0 x1 x2 x3 x4 x5 x6)) (View.ld x4 r0_12) (View.ld x4 r0_14)) (k0_pay439 x0 x1 x2 x3 x4 x5 x6) (View.ld x4 r0_16)) (k0_pay443 x0 x1 x2 x3 x4 x5 x6) (k0_pay44 (k0_pay434 x0 x1 x2 x3 x4 x5 x6) (k0_pay437 x0 x1 x2 x3 x4 x5 x6) (k0_pay439 x0 x1 x2 x3 x4 x5 x6)) (View.ld x4 r0_18) (View.ld x4 r0_19)) (k0_pay52 (k0_pay436 x0 x1 x2 x3 x4 x5 x6) (k0_pay440 x0 x1 x2 x3 x4 x5 x6) (k0_pay40 (k0_pay432 x0 x1 x2 x3 x4 x5 x6) (k0_pay437 x0 x1 x2 x3 x4 x5 x6) (k0_pay33 (k0_pay430 x0 x1 x2 x3 x4 x5 x6) (k0_pay433 x0 x1 x2 x3 x4 x5 x6) (k0_pay22 (k0_pay427 x0 x1 x2 x3 x4 x5 x6) (k0_pay429 x0 x1 x2 x3 x4 x5 x6) (k0_pay10 (k0_pay426 x0 x1 x2 x3 x4 x5 x6)) (k0_pay431 x0 x1 x2 x3 x4 x5 x6) (k0_pay15 (k0_pay425 x0 x1 x2 x3 x4 x5 x6) (k0_pay426 x0 x1 x2 x3 x4 x5 x6) (View.ld x2 r0_3))) (k0_pay435 x0 x1 x2 x3 x4 x5 x6) (k0_pay26 (k0_pay427 x0 x1 x2 x3 x4 x5 x6) (k0_pay428 x0 x1 x2 x3 x4 x5 x6) (k0_pay431 x0 x1 x2 x3 x4 x5 x6))) (k0_pay439 x0 x1 x2 x3 x4 x5 x6)) (k0_pay443 x0 x1 x2 x3 x4 x5 x6) (k0_pay45 (k0_pay434 x0 x1 x2 x3 x4 x5 x6) (k0_pay437 x0 x1 x2 x3 x4 x5 x6) (k0_pay439 x0 x1 x2 x3 x4 x5 x6))) (k0_pay54 (k0_pay436 x0 x1 x2 x3 x4 x5 x6) (k0_pay438 x0 x1 x2 x3 x4 x5 x6) (k0_pay443 x0 x1 x2 x3 x4 x5 x6)) (View.ld x4 r0_20) (View.ld x6 r0_21))
      = tileOf x0 x1 x2 x3 x4 x5 x6 (View.ld x0 r0_1) := by
  dsimp only [
    k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35,
    k0_pay36, k0_pay37, k0_pay38, k0_pay39, k0_pay40, k0_pay43, k0_pay44, k0_pay45, k0_pay46, k0_pay48, k0_pay49,
    k0_pay50, k0_pay51, k0_pay52, k0_pay54, k0_pay55, k0_pay56, k0_pay424, k0_pay425, k0_pay426, k0_pay427,
    k0_pay428, k0_pay429, k0_pay430, k0_pay431, k0_pay432, k0_pay433, k0_pay434, k0_pay435, k0_pay436, k0_pay437,
    k0_pay438, k0_pay439, k0_pay440, k0_pay443,
    tileOf, tile, norm, diff, walk, next, first, sc, cmax, wts, wsum, wval]

/-- The piece stored at row 256 is the tile of the queries there. -/
theorem piece1 (x0 : Vec F S1x2048x128 .f32) (x1 : Vec F S1x512x128 .bf16) (x2 : Vec F S1x4096x128 .bf16)
    (x3 : Vec F S1x1x144x512 .bf16) (x4 : Vec F S1x1x144x4096 .bf16) (x5 : Vec F S4x64 .f32) (x6 : Vec F S1x128 .f32) :
    k0_pay109 (k0_pay424 x0 x1 x2 x3 x4 x5 x6) (k0_pay100 (k0_pay454 x0 x1 x2 x3 x4 x5 x6) (k0_pay460 x0 x1 x2 x3 x4 x5 x6)) (k0_pay103 (k0_pay454 x0 x1 x2 x3 x4 x5 x6) (k0_pay457 x0 x1 x2 x3 x4 x5 x6) (k0_pay90 (k0_pay455 x0 x1 x2 x3 x4 x5 x6) (k0_pay83 (k0_pay447 x0 x1 x2 x3 x4 x5 x6) (k0_pay451 x0 x1 x2 x3 x4 x5 x6) (k0_pay72 (k0_pay445 x0 x1 x2 x3 x4 x5 x6) (k0_pay61 (k0_pay442 x0 x1 x2 x3 x4 x5 x6) (View.ld x3 r0_6)) (k0_pay448 x0 x1 x2 x3 x4 x5 x6) (k0_pay66 (k0_pay442 x0 x1 x2 x3 x4 x5 x6) (k0_pay444 x0 x1 x2 x3 x4 x5 x6) (View.ld x4 r0_8)) (k0_pay449 x0 x1 x2 x3 x4 x5 x6) (View.ld x4 r0_10)) (k0_pay453 x0 x1 x2 x3 x4 x5 x6) (k0_pay76 (k0_pay445 x0 x1 x2 x3 x4 x5 x6) (k0_pay446 x0 x1 x2 x3 x4 x5 x6) (k0_pay448 x0 x1 x2 x3 x4 x5 x6)) (View.ld x4 r0_12) (View.ld x4 r0_14)) (k0_pay457 x0 x1 x2 x3 x4 x5 x6) (k0_pay87 (k0_pay447 x0 x1 x2 x3 x4 x5 x6) (k0_pay450 x0 x1 x2 x3 x4 x5 x6) (k0_pay453 x0 x1 x2 x3 x4 x5 x6)) (View.ld x4 r0_16)) (k0_pay460 x0 x1 x2 x3 x4 x5 x6) (k0_pay95 (k0_pay452 x0 x1 x2 x3 x4 x5 x6) (k0_pay457 x0 x1 x2 x3 x4 x5 x6)) (k0_pay97 (View.ld x4 r0_18)) (View.ld x4 r0_19)) (k0_pay104 (k0_pay454 x0 x1 x2 x3 x4 x5 x6) (k0_pay457 x0 x1 x2 x3 x4 x5 x6) (k0_pay91 (k0_pay455 x0 x1 x2 x3 x4 x5 x6) (k0_pay84 (k0_pay447 x0 x1 x2 x3 x4 x5 x6) (k0_pay451 x0 x1 x2 x3 x4 x5 x6) (k0_pay73 (k0_pay445 x0 x1 x2 x3 x4 x5 x6) (k0_pay60 (k0_pay442 x0 x1 x2 x3 x4 x5 x6)) (k0_pay448 x0 x1 x2 x3 x4 x5 x6) (k0_pay65 (k0_pay442 x0 x1 x2 x3 x4 x5 x6) (k0_pay444 x0 x1 x2 x3 x4 x5 x6)) (k0_pay449 x0 x1 x2 x3 x4 x5 x6)) (k0_pay453 x0 x1 x2 x3 x4 x5 x6) (k0_pay77 (k0_pay445 x0 x1 x2 x3 x4 x5 x6) (k0_pay446 x0 x1 x2 x3 x4 x5 x6) (k0_pay448 x0 x1 x2 x3 x4 x5 x6))) (k0_pay457 x0 x1 x2 x3 x4 x5 x6) (k0_pay88 (k0_pay447 x0 x1 x2 x3 x4 x5 x6) (k0_pay450 x0 x1 x2 x3 x4 x5 x6) (k0_pay453 x0 x1 x2 x3 x4 x5 x6))) (k0_pay460 x0 x1 x2 x3 x4 x5 x6) (k0_pay96 (k0_pay452 x0 x1 x2 x3 x4 x5 x6) (k0_pay457 x0 x1 x2 x3 x4 x5 x6))) (k0_pay106 (k0_pay454 x0 x1 x2 x3 x4 x5 x6) (k0_pay456 x0 x1 x2 x3 x4 x5 x6) (k0_pay460 x0 x1 x2 x3 x4 x5 x6)) (k0_pay107 (k0_pay454 x0 x1 x2 x3 x4 x5 x6) (k0_pay456 x0 x1 x2 x3 x4 x5 x6) (k0_pay460 x0 x1 x2 x3 x4 x5 x6)) (k0_pay108 (k0_pay454 x0 x1 x2 x3 x4 x5 x6) (k0_pay456 x0 x1 x2 x3 x4 x5 x6) (k0_pay460 x0 x1 x2 x3 x4 x5 x6)) (View.ld x4 r0_20) (View.ld x6 r0_21)
      = tileOf x0 x1 x2 x3 x4 x5 x6 (View.ld x0 r0_17) := by
  dsimp only [
    k0_pay2, k0_pay3, k0_pay41, k0_pay42, k0_pay47, k0_pay53, k0_pay57, k0_pay58, k0_pay59, k0_pay60, k0_pay61,
    k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay94, k0_pay95, k0_pay96,
    k0_pay97, k0_pay98, k0_pay100, k0_pay101, k0_pay102, k0_pay103, k0_pay104, k0_pay106, k0_pay107, k0_pay108,
    k0_pay109, k0_pay423, k0_pay424, k0_pay441, k0_pay442, k0_pay444, k0_pay445, k0_pay446, k0_pay447, k0_pay448,
    k0_pay449, k0_pay450, k0_pay451, k0_pay452, k0_pay453, k0_pay454, k0_pay455, k0_pay456, k0_pay457, k0_pay460,
    tileOf, tile, norm, diff, walk, next, first, sc, cmax, wts, wsum, wval]

/-- The piece stored at row 512 is the tile of the queries there. -/
theorem piece2 (x0 : Vec F S1x2048x128 .f32) (x1 : Vec F S1x512x128 .bf16) (x2 : Vec F S1x4096x128 .bf16)
    (x3 : Vec F S1x1x144x512 .bf16) (x4 : Vec F S1x1x144x4096 .bf16) (x5 : Vec F S4x64 .f32) (x6 : Vec F S1x128 .f32) :
    k0_pay163 (k0_pay424 x0 x1 x2 x3 x4 x5 x6) (k0_pay153 (k0_pay470 x0 x1 x2 x3 x4 x5 x6) (k0_pay476 x0 x1 x2 x3 x4 x5 x6)) (k0_pay156 (k0_pay470 x0 x1 x2 x3 x4 x5 x6) (k0_pay142 (k0_pay471 x0 x1 x2 x3 x4 x5 x6) (k0_pay135 (k0_pay464 x0 x1 x2 x3 x4 x5 x6) (k0_pay123 (k0_pay462 x0 x1 x2 x3 x4 x5 x6) (k0_pay465 x0 x1 x2 x3 x4 x5 x6) (k0_pay117 (k0_pay459 x0 x1 x2 x3 x4 x5 x6) (k0_pay461 x0 x1 x2 x3 x4 x5 x6) (View.ld x3 r0_6) (View.ld x4 r0_8)) (View.ld x4 r0_10)) (k0_pay468 x0 x1 x2 x3 x4 x5 x6) (k0_pay129 (k0_pay462 x0 x1 x2 x3 x4 x5 x6) (k0_pay463 x0 x1 x2 x3 x4 x5 x6) (k0_pay465 x0 x1 x2 x3 x4 x5 x6) (View.ld x4 r0_12)) (k0_pay469 x0 x1 x2 x3 x4 x5 x6) (View.ld x4 r0_14)) (k0_pay473 x0 x1 x2 x3 x4 x5 x6) (k0_pay139 (k0_pay464 x0 x1 x2 x3 x4 x5 x6) (k0_pay466 x0 x1 x2 x3 x4 x5 x6) (k0_pay468 x0 x1 x2 x3 x4 x5 x6)) (View.ld x4 r0_16)) (k0_pay476 x0 x1 x2 x3 x4 x5 x6) (k0_pay149 (k0_pay467 x0 x1 x2 x3 x4 x5 x6) (k0_pay473 x0 x1 x2 x3 x4 x5 x6) (View.ld x4 r0_18)) (k0_pay151 (k0_pay467 x0 x1 x2 x3 x4 x5 x6) (k0_pay473 x0 x1 x2 x3 x4 x5 x6)) (View.ld x4 r0_19)) (k0_pay157 (k0_pay470 x0 x1 x2 x3 x4 x5 x6) (k0_pay143 (k0_pay471 x0 x1 x2 x3 x4 x5 x6) (k0_pay136 (k0_pay464 x0 x1 x2 x3 x4 x5 x6) (k0_pay124 (k0_pay462 x0 x1 x2 x3 x4 x5 x6) (k0_pay465 x0 x1 x2 x3 x4 x5 x6) (k0_pay118 (k0_pay459 x0 x1 x2 x3 x4 x5 x6) (k0_pay461 x0 x1 x2 x3 x4 x5 x6))) (k0_pay468 x0 x1 x2 x3 x4 x5 x6) (k0_pay128 (k0_pay462 x0 x1 x2 x3 x4 x5 x6) (k0_pay463 x0 x1 x2 x3 x4 x5 x6) (k0_pay465 x0 x1 x2 x3 x4 x5 x6)) (k0_pay469 x0 x1 x2 x3 x4 x5 x6)) (k0_pay473 x0 x1 x2 x3 x4 x5 x6) (k0_pay140 (k0_pay464 x0 x1 x2 x3 x4 x5 x6) (k0_pay466 x0 x1 x2 x3 x4 x5 x6) (k0_pay468 x0 x1 x2 x3 x4 x5 x6))) (k0_pay476 x0 x1 x2 x3 x4 x5 x6) (k0_pay148 (k0_pay467 x0 x1 x2 x3 x4 x5 x6) (k0_pay473 x0 x1 x2 x3 x4 x5 x6)) (k0_pay150 (k0_pay467 x0 x1 x2 x3 x4 x5 x6) (k0_pay473 x0 x1 x2 x3 x4 x5 x6))) (k0_pay159 (k0_pay470 x0 x1 x2 x3 x4 x5 x6) (k0_pay472 x0 x1 x2 x3 x4 x5 x6) (k0_pay476 x0 x1 x2 x3 x4 x5 x6)) (k0_pay160 (k0_pay470 x0 x1 x2 x3 x4 x5 x6) (k0_pay472 x0 x1 x2 x3 x4 x5 x6) (k0_pay476 x0 x1 x2 x3 x4 x5 x6)) (k0_pay161 (k0_pay470 x0 x1 x2 x3 x4 x5 x6) (k0_pay472 x0 x1 x2 x3 x4 x5 x6) (k0_pay476 x0 x1 x2 x3 x4 x5 x6)) (k0_pay162 (View.ld x4 r0_20)) (View.ld x6 r0_21)
      = tileOf x0 x1 x2 x3 x4 x5 x6 (View.ld x0 r0_22) := by
  dsimp only [
    k0_pay2, k0_pay3, k0_pay92, k0_pay93, k0_pay99, k0_pay105, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay146, k0_pay147, k0_pay148, k0_pay149, k0_pay150, k0_pay151, k0_pay153, k0_pay154, k0_pay155, k0_pay156,
    k0_pay157, k0_pay159, k0_pay160, k0_pay161, k0_pay162, k0_pay163, k0_pay423, k0_pay424, k0_pay458, k0_pay459,
    k0_pay461, k0_pay462, k0_pay463, k0_pay464, k0_pay465, k0_pay466, k0_pay467, k0_pay468, k0_pay469, k0_pay470,
    k0_pay471, k0_pay472, k0_pay473, k0_pay476,
    tileOf, tile, norm, diff, walk, next, first, sc, cmax, wts, wsum, wval]

/-- The piece stored at row 768 is the tile of the queries there. -/
theorem piece3 (x0 : Vec F S1x2048x128 .f32) (x1 : Vec F S1x512x128 .bf16) (x2 : Vec F S1x4096x128 .bf16)
    (x3 : Vec F S1x1x144x512 .bf16) (x4 : Vec F S1x1x144x4096 .bf16) (x5 : Vec F S4x64 .f32) (x6 : Vec F S1x128 .f32) :
    k0_pay216 (k0_pay424 x0 x1 x2 x3 x4 x5 x6) (k0_pay207 (k0_pay485 x0 x1 x2 x3 x4 x5 x6) (k0_pay491 x0 x1 x2 x3 x4 x5 x6) (k0_pay201 (k0_pay483 x0 x1 x2 x3 x4 x5 x6) (k0_pay188 (k0_pay480 x0 x1 x2 x3 x4 x5 x6) (k0_pay484 x0 x1 x2 x3 x4 x5 x6) (k0_pay182 (k0_pay478 x0 x1 x2 x3 x4 x5 x6) (k0_pay479 x0 x1 x2 x3 x4 x5 x6) (k0_pay481 x0 x1 x2 x3 x4 x5 x6) (k0_pay172 (k0_pay475 x0 x1 x2 x3 x4 x5 x6) (k0_pay477 x0 x1 x2 x3 x4 x5 x6) (View.ld x3 r0_6) (View.ld x4 r0_8)) (View.ld x4 r0_10) (View.ld x4 r0_12)) (View.ld x4 r0_14)) (k0_pay487 x0 x1 x2 x3 x4 x5 x6) (k0_pay194 (k0_pay480 x0 x1 x2 x3 x4 x5 x6) (k0_pay482 x0 x1 x2 x3 x4 x5 x6) (k0_pay484 x0 x1 x2 x3 x4 x5 x6) (View.ld x4 r0_16)) (k0_pay488 x0 x1 x2 x3 x4 x5 x6) (View.ld x4 r0_18)) (View.ld x4 r0_19)) (k0_pay208 (k0_pay485 x0 x1 x2 x3 x4 x5 x6) (k0_pay491 x0 x1 x2 x3 x4 x5 x6) (k0_pay202 (k0_pay483 x0 x1 x2 x3 x4 x5 x6) (k0_pay189 (k0_pay480 x0 x1 x2 x3 x4 x5 x6) (k0_pay484 x0 x1 x2 x3 x4 x5 x6) (k0_pay183 (k0_pay478 x0 x1 x2 x3 x4 x5 x6) (k0_pay479 x0 x1 x2 x3 x4 x5 x6) (k0_pay481 x0 x1 x2 x3 x4 x5 x6) (k0_pay173 (k0_pay475 x0 x1 x2 x3 x4 x5 x6) (k0_pay477 x0 x1 x2 x3 x4 x5 x6)))) (k0_pay487 x0 x1 x2 x3 x4 x5 x6) (k0_pay193 (k0_pay480 x0 x1 x2 x3 x4 x5 x6) (k0_pay482 x0 x1 x2 x3 x4 x5 x6) (k0_pay484 x0 x1 x2 x3 x4 x5 x6)) (k0_pay488 x0 x1 x2 x3 x4 x5 x6))) (k0_pay212 (k0_pay485 x0 x1 x2 x3 x4 x5 x6) (k0_pay486 x0 x1 x2 x3 x4 x5 x6) (k0_pay491 x0 x1 x2 x3 x4 x5 x6)) (k0_pay213 (k0_pay485 x0 x1 x2 x3 x4 x5 x6) (k0_pay486 x0 x1 x2 x3 x4 x5 x6) (k0_pay491 x0 x1 x2 x3 x4 x5 x6) (View.ld x4 r0_20)) (k0_pay214 (k0_pay485 x0 x1 x2 x3 x4 x5 x6) (k0_pay486 x0 x1 x2 x3 x4 x5 x6) (k0_pay491 x0 x1 x2 x3 x4 x5 x6)) (k0_pay215 (k0_pay485 x0 x1 x2 x3 x4 x5 x6) (k0_pay486 x0 x1 x2 x3 x4 x5 x6) (k0_pay491 x0 x1 x2 x3 x4 x5 x6)) (View.ld x6 r0_21)
      = tileOf x0 x1 x2 x3 x4 x5 x6 (View.ld x0 r0_23) := by
  dsimp only [
    k0_pay2, k0_pay3, k0_pay144, k0_pay145, k0_pay152, k0_pay158, k0_pay164, k0_pay165, k0_pay166, k0_pay167,
    k0_pay168, k0_pay169, k0_pay170, k0_pay171, k0_pay172, k0_pay173, k0_pay174, k0_pay175, k0_pay176, k0_pay177,
    k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay198, k0_pay199,
    k0_pay200, k0_pay201, k0_pay202, k0_pay204, k0_pay205, k0_pay206, k0_pay207, k0_pay208, k0_pay210, k0_pay211,
    k0_pay212, k0_pay213, k0_pay214, k0_pay215, k0_pay216, k0_pay423, k0_pay424, k0_pay474, k0_pay475, k0_pay477,
    k0_pay478, k0_pay479, k0_pay480, k0_pay481, k0_pay482, k0_pay483, k0_pay484, k0_pay485, k0_pay486, k0_pay487,
    k0_pay488, k0_pay491,
    tileOf, tile, norm, diff, walk, next, first, sc, cmax, wts, wsum, wval]

/-- The piece stored at row 1024 is the tile of the queries there. -/
theorem piece4 (x0 : Vec F S1x2048x128 .f32) (x1 : Vec F S1x512x128 .bf16) (x2 : Vec F S1x4096x128 .bf16)
    (x3 : Vec F S1x1x144x512 .bf16) (x4 : Vec F S1x1x144x4096 .bf16) (x5 : Vec F S4x64 .f32) (x6 : Vec F S1x128 .f32) :
    k0_pay266 (k0_pay424 x0 x1 x2 x3 x4 x5 x6) (k0_pay263 (k0_pay504 x0 x1 x2 x3 x4 x5 x6) (k0_pay505 x0 x1 x2 x3 x4 x5 x6) (k0_pay509 x0 x1 x2 x3 x4 x5 x6) (k0_pay253 (k0_pay502 x0 x1 x2 x3 x4 x5 x6) (k0_pay506 x0 x1 x2 x3 x4 x5 x6) (k0_pay246 (k0_pay497 x0 x1 x2 x3 x4 x5 x6) (k0_pay499 x0 x1 x2 x3 x4 x5 x6) (k0_pay503 x0 x1 x2 x3 x4 x5 x6) (k0_pay236 (k0_pay494 x0 x1 x2 x3 x4 x5 x6) (k0_pay498 x0 x1 x2 x3 x4 x5 x6) (k0_pay225 (k0_pay490 x0 x1 x2 x3 x4 x5 x6) (k0_pay492 x0 x1 x2 x3 x4 x5 x6) (k0_pay495 x0 x1 x2 x3 x4 x5 x6) (k0_pay496 x0 x1 x2 x3 x4 x5 x6) (View.ld x3 r0_6) (View.ld x4 r0_8)) (k0_pay500 x0 x1 x2 x3 x4 x5 x6) (k0_pay501 x0 x1 x2 x3 x4 x5 x6) (View.ld x4 r0_10) (View.ld x4 r0_12)) (View.ld x4 r0_14) (View.ld x4 r0_16)) (View.ld x4 r0_18)) (View.ld x4 r0_19) (View.ld x4 r0_20)) (k0_pay264 (k0_pay504 x0 x1 x2 x3 x4 x5 x6) (k0_pay505 x0 x1 x2 x3 x4 x5 x6) (k0_pay509 x0 x1 x2 x3 x4 x5 x6) (k0_pay254 (k0_pay502 x0 x1 x2 x3 x4 x5 x6) (k0_pay506 x0 x1 x2 x3 x4 x5 x6) (k0_pay247 (k0_pay497 x0 x1 x2 x3 x4 x5 x6) (k0_pay499 x0 x1 x2 x3 x4 x5 x6) (k0_pay503 x0 x1 x2 x3 x4 x5 x6) (k0_pay237 (k0_pay494 x0 x1 x2 x3 x4 x5 x6) (k0_pay498 x0 x1 x2 x3 x4 x5 x6) (k0_pay226 (k0_pay490 x0 x1 x2 x3 x4 x5 x6) (k0_pay492 x0 x1 x2 x3 x4 x5 x6) (k0_pay495 x0 x1 x2 x3 x4 x5 x6) (k0_pay496 x0 x1 x2 x3 x4 x5 x6)) (k0_pay500 x0 x1 x2 x3 x4 x5 x6) (k0_pay501 x0 x1 x2 x3 x4 x5 x6))))) (k0_pay265 (F := F)) (View.ld x6 r0_21)
      = tileOf x0 x1 x2 x3 x4 x5 x6 (View.ld x0 r0_24) := by
  dsimp only [
    k0_pay2, k0_pay3, k0_pay196, k0_pay197, k0_pay203, k0_pay209, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay250, k0_pay251, k0_pay252,
    k0_pay253, k0_pay254, k0_pay256, k0_pay257, k0_pay258, k0_pay260, k0_pay261, k0_pay262, k0_pay263, k0_pay264,
    k0_pay265, k0_pay266, k0_pay423, k0_pay424, k0_pay489, k0_pay490, k0_pay492, k0_pay493, k0_pay494, k0_pay495,
    k0_pay496, k0_pay497, k0_pay498, k0_pay499, k0_pay500, k0_pay501, k0_pay502, k0_pay503, k0_pay504, k0_pay505,
    k0_pay506, k0_pay509,
    tileOf, tile, norm, diff, walk, next, first, sc, cmax, wts, wsum, wval]

/-- The piece stored at row 1280 is the tile of the queries there. -/
theorem piece5 (x0 : Vec F S1x2048x128 .f32) (x1 : Vec F S1x512x128 .bf16) (x2 : Vec F S1x4096x128 .bf16)
    (x3 : Vec F S1x1x144x512 .bf16) (x4 : Vec F S1x1x144x4096 .bf16) (x5 : Vec F S4x64 .f32) (x6 : Vec F S1x128 .f32) :
    k0_pay320 (k0_pay424 x0 x1 x2 x3 x4 x5 x6) (k0_pay317 (k0_pay523 x0 x1 x2 x3 x4 x5 x6) (k0_pay529 x0 x1 x2 x3 x4 x5 x6) (k0_pay531 x0 x1 x2 x3 x4 x5 x6) (k0_pay533 x0 x1 x2 x3 x4 x5 x6) (k0_pay534 x0 x1 x2 x3 x4 x5 x6)) (k0_pay318 (k0_pay523 x0 x1 x2 x3 x4 x5 x6) (k0_pay529 x0 x1 x2 x3 x4 x5 x6) (k0_pay530 x0 x1 x2 x3 x4 x5 x6) (k0_pay531 x0 x1 x2 x3 x4 x5 x6) (k0_pay533 x0 x1 x2 x3 x4 x5 x6) (k0_pay534 x0 x1 x2 x3 x4 x5 x6) (View.ld x4 r0_19) (View.ld x4 r0_20)) (k0_pay319 (k0_pay523 x0 x1 x2 x3 x4 x5 x6) (k0_pay529 x0 x1 x2 x3 x4 x5 x6) (k0_pay530 x0 x1 x2 x3 x4 x5 x6) (k0_pay533 x0 x1 x2 x3 x4 x5 x6) (k0_pay534 x0 x1 x2 x3 x4 x5 x6) (View.ld x4 r0_19) (View.ld x4 r0_20)) (View.ld x6 r0_21)
      = tileOf x0 x1 x2 x3 x4 x5 x6 (View.ld x0 r0_25) := by
  dsimp only [
    k0_pay2, k0_pay3, k0_pay248, k0_pay249, k0_pay255, k0_pay259, k0_pay267, k0_pay268, k0_pay269, k0_pay270,
    k0_pay271, k0_pay272, k0_pay273, k0_pay274, k0_pay275, k0_pay276, k0_pay277, k0_pay278, k0_pay279, k0_pay280,
    k0_pay281, k0_pay282, k0_pay283, k0_pay284, k0_pay285, k0_pay286, k0_pay287, k0_pay288, k0_pay289, k0_pay290,
    k0_pay291, k0_pay292, k0_pay293, k0_pay294, k0_pay295, k0_pay296, k0_pay297, k0_pay298, k0_pay303, k0_pay304,
    k0_pay305, k0_pay306, k0_pay307, k0_pay309, k0_pay310, k0_pay311, k0_pay313, k0_pay314, k0_pay315, k0_pay316,
    k0_pay317, k0_pay318, k0_pay319, k0_pay320, k0_pay423, k0_pay424, k0_pay507, k0_pay508, k0_pay510, k0_pay511,
    k0_pay512, k0_pay513, k0_pay514, k0_pay515, k0_pay516, k0_pay517, k0_pay518, k0_pay519, k0_pay520, k0_pay521,
    k0_pay522, k0_pay523, k0_pay524, k0_pay529, k0_pay530, k0_pay531, k0_pay533, k0_pay534,
    tileOf, tile, norm, diff, walk, next, first, sc, cmax, wts, wsum, wval]

/-- The piece stored at row 1536 is the tile of the queries there. -/
theorem piece6 (x0 : Vec F S1x2048x128 .f32) (x1 : Vec F S1x512x128 .bf16) (x2 : Vec F S1x4096x128 .bf16)
    (x3 : Vec F S1x1x144x512 .bf16) (x4 : Vec F S1x1x144x4096 .bf16) (x5 : Vec F S4x64 .f32) (x6 : Vec F S1x128 .f32) :
    k0_pay373 (k0_pay372 (k0_pay424 x0 x1 x2 x3 x4 x5 x6) (k0_pay351 (k0_pay527 x0 x1 x2 x3 x4 x5 x6) (View.ld x2 r0_15)) (k0_pay362 (k0_pay542 x0 x1 x2 x3 x4 x5 x6) (k0_pay546 x0 x1 x2 x3 x4 x5 x6)) (k0_pay365 (k0_pay542 x0 x1 x2 x3 x4 x5 x6) (k0_pay546 x0 x1 x2 x3 x4 x5 x6) (k0_pay355 (k0_pay540 x0 x1 x2 x3 x4 x5 x6) (k0_pay543 x0 x1 x2 x3 x4 x5 x6) (k0_pay344 (k0_pay536 x0 x1 x2 x3 x4 x5 x6) (k0_pay539 x0 x1 x2 x3 x4 x5 x6) (k0_pay331 (k0_pay532 x0 x1 x2 x3 x4 x5 x6) (k0_pay537 x0 x1 x2 x3 x4 x5 x6) (k0_pay325 (View.ld x3 r0_6)) (k0_pay326 (k0_pay528 x0 x1 x2 x3 x4 x5 x6)) (View.ld x4 r0_8)) (k0_pay541 x0 x1 x2 x3 x4 x5 x6) (k0_pay337 (View.ld x4 r0_10)) (k0_pay338 (k0_pay532 x0 x1 x2 x3 x4 x5 x6) (k0_pay535 x0 x1 x2 x3 x4 x5 x6) (k0_pay537 x0 x1 x2 x3 x4 x5 x6)) (constant S128x512 .f32 0x00000000#32) (View.ld x4 r0_12)) (k0_pay545 x0 x1 x2 x3 x4 x5 x6) (k0_pay348 (k0_pay536 x0 x1 x2 x3 x4 x5 x6) (k0_pay538 x0 x1 x2 x3 x4 x5 x6) (k0_pay541 x0 x1 x2 x3 x4 x5 x6)) (View.ld x4 r0_14) (View.ld x4 r0_16)) (View.ld x4 r0_18)) (k0_pay366 (k0_pay542 x0 x1 x2 x3 x4 x5 x6) (k0_pay546 x0 x1 x2 x3 x4 x5 x6) (k0_pay356 (k0_pay540 x0 x1 x2 x3 x4 x5 x6) (k0_pay543 x0 x1 x2 x3 x4 x5 x6) (k0_pay345 (k0_pay536 x0 x1 x2 x3 x4 x5 x6) (k0_pay539 x0 x1 x2 x3 x4 x5 x6) (k0_pay332 (k0_pay532 x0 x1 x2 x3 x4 x5 x6) (k0_pay537 x0 x1 x2 x3 x4 x5 x6) (k0_pay324 (k0_pay528 x0 x1 x2 x3 x4 x5 x6))) (k0_pay541 x0 x1 x2 x3 x4 x5 x6) (k0_pay336 (k0_pay532 x0 x1 x2 x3 x4 x5 x6) (k0_pay535 x0 x1 x2 x3 x4 x5 x6) (k0_pay537 x0 x1 x2 x3 x4 x5 x6))) (k0_pay545 x0 x1 x2 x3 x4 x5 x6) (k0_pay349 (k0_pay536 x0 x1 x2 x3 x4 x5 x6) (k0_pay538 x0 x1 x2 x3 x4 x5 x6) (k0_pay541 x0 x1 x2 x3 x4 x5 x6)))) (k0_pay368 (k0_pay542 x0 x1 x2 x3 x4 x5 x6) (k0_pay544 x0 x1 x2 x3 x4 x5 x6) (k0_pay546 x0 x1 x2 x3 x4 x5 x6)) (k0_pay369 (k0_pay542 x0 x1 x2 x3 x4 x5 x6) (k0_pay544 x0 x1 x2 x3 x4 x5 x6) (k0_pay546 x0 x1 x2 x3 x4 x5 x6)) (k0_pay370 (k0_pay542 x0 x1 x2 x3 x4 x5 x6) (k0_pay544 x0 x1 x2 x3 x4 x5 x6) (k0_pay546 x0 x1 x2 x3 x4 x5 x6)) (View.ld x4 r0_19) (View.ld x4 r0_20)) (View.ld x6 r0_21)
      = tileOf x0 x1 x2 x3 x4 x5 x6 (View.ld x0 r0_26) := by
  dsimp only [
    k0_pay2, k0_pay3, k0_pay299, k0_pay300, k0_pay301, k0_pay302, k0_pay308, k0_pay312, k0_pay321, k0_pay322,
    k0_pay323, k0_pay324, k0_pay325, k0_pay326, k0_pay327, k0_pay328, k0_pay329, k0_pay330, k0_pay331, k0_pay332,
    k0_pay333, k0_pay334, k0_pay335, k0_pay336, k0_pay337, k0_pay338, k0_pay339, k0_pay340, k0_pay341, k0_pay342,
    k0_pay343, k0_pay344, k0_pay345, k0_pay346, k0_pay347, k0_pay348, k0_pay349, k0_pay350, k0_pay351, k0_pay352,
    k0_pay353, k0_pay354, k0_pay355, k0_pay356, k0_pay362, k0_pay363, k0_pay364, k0_pay365, k0_pay366, k0_pay368,
    k0_pay369, k0_pay370, k0_pay372, k0_pay373, k0_pay423, k0_pay424, k0_pay525, k0_pay526, k0_pay527, k0_pay528,
    k0_pay532, k0_pay535, k0_pay536, k0_pay537, k0_pay538, k0_pay539, k0_pay540, k0_pay541, k0_pay542, k0_pay543,
    k0_pay544, k0_pay545, k0_pay546,
    tileOf, tile, norm, diff, walk, next, first, sc, cmax, wts, wsum, wval]

/-- The piece stored at row 1792 is the tile of the queries there. -/
theorem piece7 (x0 : Vec F S1x2048x128 .f32) (x1 : Vec F S1x512x128 .bf16) (x2 : Vec F S1x4096x128 .bf16)
    (x3 : Vec F S1x1x144x512 .bf16) (x4 : Vec F S1x1x144x4096 .bf16) (x5 : Vec F S4x64 .f32) (x6 : Vec F S1x128 .f32) :
    k0_pay1 (k0_pay422 (k0_pay424 x0 x1 x2 x3 x4 x5 x6) (k0_pay420 (k0_pay561 x0 x1 x2 x3 x4 x5 x6) (k0_pay563 x0 x1 x2 x3 x4 x5 x6) (k0_pay564 x0 x1 x2 x3 x4 x5 x6) (k0_pay407 (k0_pay557 x0 x1 x2 x3 x4 x5 x6) (k0_pay560 x0 x1 x2 x3 x4 x5 x6) (k0_pay394 (k0_pay554 x0 x1 x2 x3 x4 x5 x6) (k0_pay558 x0 x1 x2 x3 x4 x5 x6) (k0_pay389 (k0_pay552 x0 x1 x2 x3 x4 x5 x6) (k0_pay553 x0 x1 x2 x3 x4 x5 x6) (k0_pay555 x0 x1 x2 x3 x4 x5 x6) (k0_pay378 (k0_pay551 x0 x1 x2 x3 x4 x5 x6) (View.ld x3 r0_6)) (View.ld x4 r0_8) (View.ld x4 r0_10)) (View.ld x4 r0_12)) (k0_pay562 x0 x1 x2 x3 x4 x5 x6) (k0_pay400 (View.ld x4 r0_14)) (k0_pay401 (k0_pay554 x0 x1 x2 x3 x4 x5 x6) (k0_pay556 x0 x1 x2 x3 x4 x5 x6) (k0_pay558 x0 x1 x2 x3 x4 x5 x6)) (constant S128x512 .f32 0x00000000#32) (View.ld x4 r0_16)) (k0_pay565 x0 x1 x2 x3 x4 x5 x6) (k0_pay412 (k0_pay557 x0 x1 x2 x3 x4 x5 x6) (k0_pay559 x0 x1 x2 x3 x4 x5 x6) (k0_pay562 x0 x1 x2 x3 x4 x5 x6) (View.ld x4 r0_18)) (View.ld x4 r0_19) (View.ld x4 r0_20)) (k0_pay421 (k0_pay561 x0 x1 x2 x3 x4 x5 x6) (k0_pay563 x0 x1 x2 x3 x4 x5 x6) (k0_pay564 x0 x1 x2 x3 x4 x5 x6) (k0_pay408 (k0_pay557 x0 x1 x2 x3 x4 x5 x6) (k0_pay560 x0 x1 x2 x3 x4 x5 x6) (k0_pay395 (k0_pay554 x0 x1 x2 x3 x4 x5 x6) (k0_pay383 (k0_pay552 x0 x1 x2 x3 x4 x5 x6) (k0_pay555 x0 x1 x2 x3 x4 x5 x6) (k0_pay377 (k0_pay551 x0 x1 x2 x3 x4 x5 x6))) (k0_pay558 x0 x1 x2 x3 x4 x5 x6) (k0_pay387 (k0_pay552 x0 x1 x2 x3 x4 x5 x6) (k0_pay553 x0 x1 x2 x3 x4 x5 x6) (k0_pay555 x0 x1 x2 x3 x4 x5 x6)) (k0_pay388 (k0_pay552 x0 x1 x2 x3 x4 x5 x6) (k0_pay553 x0 x1 x2 x3 x4 x5 x6) (k0_pay555 x0 x1 x2 x3 x4 x5 x6))) (k0_pay562 x0 x1 x2 x3 x4 x5 x6) (k0_pay399 (k0_pay554 x0 x1 x2 x3 x4 x5 x6) (k0_pay556 x0 x1 x2 x3 x4 x5 x6) (k0_pay558 x0 x1 x2 x3 x4 x5 x6))) (k0_pay565 x0 x1 x2 x3 x4 x5 x6) (k0_pay411 (k0_pay557 x0 x1 x2 x3 x4 x5 x6) (k0_pay559 x0 x1 x2 x3 x4 x5 x6) (k0_pay562 x0 x1 x2 x3 x4 x5 x6))) (Scalar.ofBits .f32 0x3F800000#32)) (View.ld x6 r0_21)
      = tileOf x0 x1 x2 x3 x4 x5 x6 (View.ld x0 r0_27) := by
  dsimp only [
    k0_pay1, k0_pay2, k0_pay3, k0_pay357, k0_pay358, k0_pay359, k0_pay360, k0_pay361, k0_pay367, k0_pay371,
    k0_pay374, k0_pay375, k0_pay376, k0_pay377, k0_pay378, k0_pay379, k0_pay380, k0_pay381, k0_pay382, k0_pay383,
    k0_pay384, k0_pay385, k0_pay386, k0_pay387, k0_pay388, k0_pay389, k0_pay390, k0_pay391, k0_pay392, k0_pay393,
    k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413,
    k0_pay414, k0_pay415, k0_pay416, k0_pay417, k0_pay418, k0_pay419, k0_pay420, k0_pay421, k0_pay422, k0_pay423,
    k0_pay424, k0_pay547, k0_pay548, k0_pay549, k0_pay550, k0_pay551, k0_pay552, k0_pay553, k0_pay554, k0_pay555,
    k0_pay556, k0_pay557, k0_pay558, k0_pay559, k0_pay560, k0_pay561, k0_pay562, k0_pay563, k0_pay564, k0_pay565,
    tileOf, tile, norm, diff, walk, next, first, sc, cmax, wts, wsum, wval]

/-- The block is eight tiles, each stored at its own rows. -/
theorem block (x0 : Vec F S1x2048x128 .f32) (x1 : Vec F S1x512x128 .bf16) (x2 : Vec F S1x4096x128 .bf16)
    (x3 : Vec F S1x1x144x512 .bf16) (x4 : Vec F S1x1x144x4096 .bf16) (x5 : Vec F S4x64 .f32) (x6 : Vec F S1x128 .f32) :
    out0_7 x0 x1 x2 x3 x4 x5 x6 = View.canon [
      ⟨r0_27, tileOf x0 x1 x2 x3 x4 x5 x6 (View.ld x0 r0_27)⟩,
      ⟨r0_26, tileOf x0 x1 x2 x3 x4 x5 x6 (View.ld x0 r0_26)⟩,
      ⟨r0_25, tileOf x0 x1 x2 x3 x4 x5 x6 (View.ld x0 r0_25)⟩,
      ⟨r0_24, tileOf x0 x1 x2 x3 x4 x5 x6 (View.ld x0 r0_24)⟩,
      ⟨r0_23, tileOf x0 x1 x2 x3 x4 x5 x6 (View.ld x0 r0_23)⟩,
      ⟨r0_22, tileOf x0 x1 x2 x3 x4 x5 x6 (View.ld x0 r0_22)⟩,
      ⟨r0_17, tileOf x0 x1 x2 x3 x4 x5 x6 (View.ld x0 r0_17)⟩,
      ⟨r0_1, tileOf x0 x1 x2 x3 x4 x5 x6 (View.ld x0 r0_1)⟩] := by
  unfold out0_7
  rw [piece7, piece6, piece5, piece4, piece3, piece2, piece1, piece0]

end Cert.Attn

end
-- ==== Proof.Attn.Block.lean ====
module

public import proofs.«01_k».proof.Proof.Attn.Pieces
public import proofs.«01_k».proof.Proof.Attn.TileVal
public import Idealize.ShloMosaic.Lib.Pipeline.ValueKit

/-!
The block that the body leaves, at an index, for input blocks of real numbers.
-/

@[expose] public section

set_option maxRecDepth 16384

noncomputable section

namespace Cert.Attn

open Idealize.ShloMosaic Idealize.ShloMosaic.TcCoe Idealize.SL.Sem Cert.Kernel2Ideal Cert.Kernel2Ideal.Gen

variable (x0 : Vec Ideal S1x2048x128 .f32) (x1 : Vec Ideal S1x512x128 .bf16) (x2 : Vec Ideal S1x4096x128 .bf16)
    (x3 : Vec Ideal S1x1x144x512 .bf16) (x4 : Vec Ideal S1x1x144x4096 .bf16) (x5 : Vec Ideal S4x64 .f32)
    (x6 : Vec Ideal S1x128 .f32)

/-- A tile over the blocks, at an index: `w` and `v` are the keys and the values by position, the cached ones first. -/
theorem tileOf_at (q : Vec Ideal S1x256x128 .f32) (L : ℝ) (hL : k0_pay2 x5 (ix2 0 0) = (L : EReal)) (r : Fin 256)
    (u : Fin 128 → ℝ) (hu : ∀ d, q (ix3 0 r d) = (u d : EReal)) (w : ℕ → Fin 128 → ℝ) (v : Fin 128 → ℕ → ℝ)
    (h1 : ∀ (k : Fin 512) d, x1 (ix3 0 k d) = (w k d : EReal))
    (h2 : ∀ (k : Fin 4096) d, x2 (ix3 0 k d) = (w (512 + k) d : EReal))
    (h3 : ∀ (d : Fin 128) (k : Fin 512), x3 (ix4 0 0 ⟨d, by omega⟩ k) = (v d k : EReal))
    (h4 : ∀ (d : Fin 128) (k : Fin 4096), x4 (ix4 0 0 ⟨d, by omega⟩ k) = (v d (512 + k) : EReal)) (d : Fin 128) :
    tileOf x0 x1 x2 x3 x4 x5 x6 q (ix3 0 r d)
      = nrm (fun x => (dif L (fun i => u ⟨i, by omega⟩) (fun i => u ⟨64 + i, by omega⟩) (fun k i => w k ⟨i, by omega⟩)
          (fun k i => w k ⟨64 + i, by omega⟩) (v x) : EReal)) (fun x => x6 (ix2 0 x)) d := by
  have h5 : View.ld x5 r0_0 = x5 := by funext j; idx_vars j; pointwise
  have h6 : View.ld x6 r0_21 = x6 := by funext j; idx_vars j; pointwise; rw [Subsingleton.elim j0 0]
  rw [tileOf, h5, h6]
  refine tile_at _ _ _ _ _ _ _ _ _ _ _ _ _ _ _ _ _ _ _ _ _ L hL r u hu w v ?_ d
  simp only [List.forall_mem_cons, List.not_mem_nil, false_imp_iff, implies_true, and_true]
  refine ⟨⟨?_, ?_⟩, ⟨?_, ?_⟩, ⟨?_, ?_⟩, ⟨?_, ?_⟩, ⟨?_, ?_⟩, ⟨?_, ?_⟩, ⟨?_, ?_⟩, ⟨?_, ?_⟩, ⟨?_, ?_⟩⟩ <;> intro a b <;> pointwise
  all_goals first
    | exact (h1 a b).trans (congrArg (fun n => ((w n b : ℝ) : EReal)) (by omega))
    | exact (h3 a b).trans (congrArg (fun n => ((v a n : ℝ) : EReal)) (by omega))
    | exact (h2 ⟨_, _⟩ b).trans (congrArg (fun n => ((w n b : ℝ) : EReal)) (by first | omega | (dsimp only <;> omega)))
    | exact (h4 a ⟨_, _⟩).trans (congrArg (fun n => ((v a n : ℝ) : EReal)) (by first | omega | (dsimp only <;> omega)))

/-- The whole block at an index, `U` its queries. -/
theorem block_at (L : ℝ) (hL : k0_pay2 x5 (ix2 0 0) = (L : EReal)) (U : Fin 2048 → Fin 128 → ℝ)
    (e0 : ∀ (n : Fin 2048) d, x0 (ix3 0 n d) = (U n d : EReal)) (w : ℕ → Fin 128 → ℝ) (v : Fin 128 → ℕ → ℝ)
    (e1 : ∀ (k : Fin 512) d, x1 (ix3 0 k d) = (w k d : EReal))
    (e2 : ∀ (k : Fin 4096) d, x2 (ix3 0 k d) = (w (512 + k) d : EReal))
    (e3 : ∀ (d : Fin 128) (k : Fin 512), x3 (ix4 0 0 ⟨d, by omega⟩ k) = (v d k : EReal))
    (e4 : ∀ (d : Fin 128) (k : Fin 4096), x4 (ix4 0 0 ⟨d, by omega⟩ k) = (v d (512 + k) : EReal)) (n : Fin 2048)
    (d : Fin 128) :
    out0_7 x0 x1 x2 x3 x4 x5 x6 (ix3 0 n d)
      = nrm (fun x => (dif L (fun i => U n ⟨i, by omega⟩) (fun i => U n ⟨64 + i, by omega⟩) (fun k i => w k ⟨i, by omega⟩)
          (fun k i => w k ⟨64 + i, by omega⟩) (v x) : EReal)) (fun x => x6 (ix2 0 x)) d := by
  rw [block]
  canon_tiles y h
  all_goals
    idx_vars y
    obtain rfl : y0 = 0 := Subsingleton.elim _ _
    obtain rfl : y2 = d := Fin.ext h2.symm
    refine tileOf_at _ _ _ _ _ _ _ _ L hL _ (U n) (fun j => ?_) w v e1 e2 e3 e4 _
    pointwise
    exact (congrArg (fun i => x0 (ix3 0 i j)) (Fin.ext h1.symm)).trans (e0 n j)

end Cert.Attn

end
-- ==== Proof.Attn.Array.lean ====
module

public import proofs.«01_k».proof.Proof.Attn.Host
public import proofs.«01_k».proof.Proof.Attn.Block
public import proofs.«01_k».proof.Proof.Gen.Kernel2Ideal.Frame
public import Idealize.ShloMosaic.Lib.Pipeline.ValueKit

/-!
The array that the call returns: every block is the specification's.
-/

@[expose] public section

set_option maxRecDepth 16384

noncomputable section

namespace Cert.Attn

open Idealize.ShloMosaic Idealize.ShloMosaic.TcCoe Idealize.SL.Sem Cert.Kernel2Ideal Cert.Kernel2Ideal.Gen
open Idealize.ShloMosaic.Pipeline (Dat)

/-- The blocks' places. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 1).val, 0, 0]
    ∧ win0_4.index t = ![(grid0.coords t 0).val, (grid0.coords t 1).val, 0, 0]
    ∧ win0_5.index t = ![0, 0] ∧ win0_6.index t = ![0, 0]
    ∧ win0_7.index t = ![(grid0.coords t 0).val, (grid0.coords t 2).val, (grid0.coords t 1).val] :=
  (by decide +kernel : ∀ t : Fin grid0.N, _)

variable (m : (ℓ : Loc nD τ sig) → Buf (Elt Ideal) ℓ) (c : Dev nD)

/-- The queries' block. -/
theorem blk0 (t : Fin cfg0.N) (b : Fin 2) (h : Fin 4) (i : Fin 2) (hb : (grid0.coords t 0).val = b)
    (hh : (grid0.coords t 1).val = h) (hi : (grid0.coords t 2).val = i) (n : Fin 2048) (l : Fin 128) :
    (iblk m c 0 t : Vec Ideal S1x2048x128 .f32) (ix3 0 n l)
      = (m ((c : Thread nD τ).loc main_arg0) : FVec Ideal S2x4096x4x2x64 .f32)
          (ix5 b ⟨2048 * i + n, by omega⟩ h ⟨l / 64, by omega⟩ ⟨l % 64, by omega⟩) := by
  rw [← V0_at m c b ⟨2048 * i + n, by omega⟩ h l]
  blk_ext [iblk, idx t, hb, hh, hi]

/-- The cached keys' block. -/
theorem blk1 (t : Fin cfg0.N) (b : Fin 2) (h : Fin 4) (hb : (grid0.coords t 0).val = b)
    (hh : (grid0.coords t 1).val = h) (n : Fin 512) (l : Fin 128) :
    (iblk m c 1 t : Vec Ideal S1x512x128 .bf16) (ix3 0 n l)
      = (m ((c : Thread nD τ).loc main_arg3) : FVec Ideal S2x1x512x4x2x64 .f32) (ix6 b 0 n h ⟨l / 64, by omega⟩ ⟨l % 64, by omega⟩) := by
  rw [← V3_at m c b n h l]
  blk_ext [iblk, idx t, hb, hh]

/-- The keys' block. -/
theorem blk2 (t : Fin cfg0.N) (b : Fin 2) (h : Fin 4) (hb : (grid0.coords t 0).val = b)
    (hh : (grid0.coords t 1).val = h) (n : Fin 4096) (l : Fin 128) :
    (iblk m c 2 t : Vec Ideal S1x4096x128 .bf16) (ix3 0 n l)
      = (m ((c : Thread nD τ).loc main_arg1) : FVec Ideal S2x4096x4x2x64 .f32) (ix5 b n h ⟨l / 64, by omega⟩ ⟨l % 64, by omega⟩) := by
  rw [← V5_at m c b n h l]
  blk_ext [iblk, idx t, hb, hh]

/-- The cached values' block. -/
theorem blk3 (t : Fin cfg0.N) (b : Fin 2) (h : Fin 4) (hb : (grid0.coords t 0).val = b)
    (hh : (grid0.coords t 1).val = h) (d : Fin 128) (n : Fin 512) :
    (iblk m c 3 t : Vec Ideal S1x1x144x512 .bf16) (ix4 0 0 ⟨d, by omega⟩ n)
      = (m ((c : Thread nD τ).loc main_arg4) : FVec Ideal S2x1x512x4x128 .f32) (ix5 b 0 n h d) := by
  rw [← V15_at m c b h d n]
  blk_ext [iblk, idx t, hb, hh]

/-- The values' block. -/
theorem blk4 (t : Fin cfg0.N) (b : Fin 2) (h : Fin 4) (hb : (grid0.coords t 0).val = b)
    (hh : (grid0.coords t 1).val = h) (d : Fin 128) (n : Fin 4096) :
    (iblk m c 4 t : Vec Ideal S1x1x144x4096 .bf16) (ix4 0 0 ⟨d, by omega⟩ n)
      = (m ((c : Thread nD τ).loc main_arg2) : FVec Ideal S2x4096x4x128 .f32) (ix4 b n h d) := by
  rw [← V24_at m c b h d n]
  blk_ext [iblk, idx t, hb, hh]

/-- The stacked vectors' block is their array. -/
theorem blk5 (t : Fin cfg0.N) (i : Fin 4) (d : Fin 64) :
    (iblk m c 5 t : Vec Ideal S4x64 .f32) (ix2 i d) = (V m c main_v30 : FVec Ideal S4x64 .f32) (ix2 i d) := by
  blk_ext [iblk, idx t]

/-- The scale's block. -/
theorem blk6 (t : Fin cfg0.N) (d : Fin 128) :
    (iblk m c 6 t : Vec Ideal S1x128 .f32) (ix2 0 d) = (m ((c : Thread nD τ).loc main_arg9) : FVec Ideal S1x128 .f32) (ix2 0 d) := by
  rw [← V32_at m c d]
  blk_ext [iblk, idx t]

/-- The factor that the body computes. -/
theorem lam_at (x5 : Vec Ideal S4x64 .f32) (a b e f : FVec Ideal S1x64 .f32) (h0 : ∀ d, x5 (ix2 0 d) = a (ix2 0 d))
    (h1 : ∀ d, x5 (ix2 1 d) = b (ix2 0 d)) (h2 : ∀ d, x5 (ix2 2 d) = e (ix2 0 d)) (h3 : ∀ d, x5 (ix2 3 d) = f (ix2 0 d)) :
    k0_pay2 x5 (ix2 0 0) = lamE a b e f := by
  pointwise [k0_pay2]
  simp only [h0, h1, h2, h3, Fin.sum_univ_one, lamE]

/-- The result array, whole. -/
theorem final (h0 : IsReal (S := S2x4096x4x2x64) (m ((c : Thread nD τ).loc main_arg0))) (h1 : IsReal (S := S2x4096x4x2x64) (m ((c : Thread nD τ).loc main_arg1))) (h2 : IsReal (S := S2x4096x4x128) (m ((c : Thread nD τ).loc main_arg2))) (h3 : IsReal (S := S2x1x512x4x2x64) (m ((c : Thread nD τ).loc main_arg3))) (h4 : IsReal (S := S2x1x512x4x128) (m ((c : Thread nD τ).loc main_arg4))) (h5 : IsReal (S := S1x64) (m ((c : Thread nD τ).loc main_arg5))) (h6 : IsReal (S := S1x64) (m ((c : Thread nD τ).loc main_arg6))) (h7 : IsReal (S := S1x64) (m ((c : Thread nD τ).loc main_arg7))) (h8 : IsReal (S := S1x64) (m ((c : Thread nD τ).loc main_arg8))) :
    (dats m 0 c).arrAt 7 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 7 _ (by decide +kernel) fun t _ y => ?_
  blk_simp
  rw [after0_7]
  obtain ⟨b, hb⟩ : ∃ b : Fin 2, (grid0.coords t 0).val = b := ⟨⟨_, (grid0.coords t 0).isLt⟩, rfl⟩
  obtain ⟨h, hh⟩ : ∃ h : Fin 4, (grid0.coords t 1).val = h := ⟨⟨_, (grid0.coords t 1).isLt⟩, rfl⟩
  obtain ⟨i, hi⟩ : ∃ i : Fin 2, (grid0.coords t 2).val = i := ⟨⟨_, (grid0.coords t 2).isLt⟩, rfl⟩
  obtain ⟨y0, n, d, rfl⟩ : ∃ (y0 : Fin 1) (n : Fin 2048) (d : Fin 128), y = ix3 y0 n d := ⟨y 0, y 1, y 2, by idx_ext⟩
  obtain rfl : y0 = 0 := Subsingleton.elim _ _
  have he : ((win0_7.blk t).view.emb (ix3 0 n d) : S2x4096x512.Idx)
      = ix3 b ⟨2048 * i + n, by omega⟩ ⟨128 * h + d, by omega⟩ := by
    blk_ext [idx t, hb, hh, hi]
  rw [he]
  have hL : k0_pay2 (iblk m c 5 t : Vec Ideal S4x64 .f32) (ix2 0 0)
      = ((lamE (m ((c : Thread nD τ).loc main_arg5)) (m ((c : Thread nD τ).loc main_arg6))
          (m ((c : Thread nD τ).loc main_arg7)) (m ((c : Thread nD τ).loc main_arg8))).toReal : EReal) := by
    rw [← lamE_real _ _ _ _ h5 h6 h7 h8]
    refine lam_at _ _ _ _ _ (fun d => ?_) (fun d => ?_) (fun d => ?_) (fun d => ?_) <;>
    · rw [blk5, V30_at]
      rfl
  refine (block_at _ _ _ _ _ _ _ _ hL (fun n d => qR (m ((c : Thread nD τ).loc main_arg0)) b ⟨2048 * i + n, by omega⟩ h ⟨d / 64, by omega⟩ ⟨d % 64, by omega⟩)
    (fun n d => ?_) (fun k d => kR (m ((c : Thread nD τ).loc main_arg1)) (m ((c : Thread nD τ).loc main_arg3)) b h ⟨d / 64, by omega⟩ k ⟨d % 64, by omega⟩)
    (fun d k => vR (m ((c : Thread nD τ).loc main_arg2)) (m ((c : Thread nD τ).loc main_arg4)) b h d k)
    (fun k d => ?_) (fun k d => ?_) (fun d k => ?_) (fun d k => ?_) n d).trans ?_
  · exact (blk0 m c t b h i hb hh hi n d).trans (h0 _)
  · rw [blk1 m c t b h hb hh k d, kR, dif_pos k.isLt]
    exact h3 _
  · rw [blk2 m c t b h hb hh k d, kR, dif_neg (by omega), dif_pos (by omega)]
    refine (h1 _).trans ?_
    simp only [Nat.add_sub_cancel_left]
  · rw [blk3 m c t b h hb hh d k, vR, dif_pos k.isLt]
    exact h4 _
  · rw [blk4 m c t b h hb hh d k, vR, dif_neg (by omega), dif_pos (by omega)]
    refine (h2 _).trans ?_
    simp only [Nat.add_sub_cancel_left]
  · simp only [blk6]
    rw [outArr_at]
    unfold out
    have f1 : ∀ i : Fin 64, (i : ℕ) / 64 = 0 := fun i => by omega
    have f2 : ∀ i : Fin 64, (i : ℕ) % 64 = i := fun i => by omega
    have f3 : ∀ i : Fin 64, (64 + (i : ℕ)) / 64 = 1 := fun i => by omega
    have f4 : ∀ i : Fin 64, (64 + (i : ℕ)) % 64 = i := fun i => by omega
    simp only [f1, f2, f3, f4]
    rfl

end Cert.Attn

end
-- ==== Proof.Attn.Ref.lean ====
module

public import proofs.«01_k».proof.Proof.Attn.Spec
public import proofs.«01_k».proof.Proof.Gen.Reference2Ideal.Read
public import Idealize.ShloMosaic.Lib.Pipeline.ValueKit

/-!
The reference's stages at an index, and its result: the specification's array.
-/

@[expose] public section

set_option maxRecDepth 16384

noncomputable section

namespace Cert.Attn

open Idealize.ShloMosaic Idealize.ShloMosaic.TcCoe Idealize.SL.Sem Cert.Reference2Ideal Cert.Reference2Ideal.Gen
open Cert.Reference2Ideal.Read

variable (x0 x1 : FVec Ideal S2x4096x4x2x64 .f32) (x2 : FVec Ideal S2x4096x4x128 .f32)
    (x3 : FVec Ideal S2x1x512x4x2x64 .f32) (x4 : FVec Ideal S2x1x512x4x128 .f32) (x5 x6 x7 x8 : FVec Ideal S1x64 .f32)
    (x9 : FVec Ideal S1x128 .f32)

/-- The keys, the cached ones first. -/
theorem v13_at (h1 : IsReal x1) (h3 : IsReal x3) (b : Fin 2) (k : Fin 4608) (h : Fin 4) (e : Fin 2) (d : Fin 64) :
    val_main_v13 (F := Ideal) x1 x3 (ix5 b k h e d) = (kR x1 x3 b h e k d : EReal) := by
  pointwise [val_main_v13, val_main_v12]
  unfold kR
  split
  · exact h3 _
  · rw [dif_pos (by omega)]
    exact h1 _

/-- The values, the cached ones first. -/
theorem v15_at (h2 : IsReal x2) (h4 : IsReal x4) (b : Fin 2) (k : Fin 4608) (h : Fin 4) (e : Fin 128) :
    val_main_v15 (F := Ideal) x2 x4 (ix4 b k h e) = (vR x2 x4 b h e k : EReal) := by
  pointwise [val_main_v15, val_main_v14]
  unfold vR
  split
  · exact h4 _
  · rw [dif_pos (by omega)]
    exact h2 _

/-- One score. -/
def scR (b : Fin 2) (h : Fin 4) (e : Fin 2) (q : Fin 4096) (k : Fin 4608) : ℝ :=
  (∑ d, qR x0 b q h e d * kR x1 x3 b h e k d) * 8⁻¹

/-- The scaled scores. -/
theorem v18_at (h0 : IsReal x0) (h1 : IsReal x1) (h3 : IsReal x3) (b : Fin 2) (h : Fin 4) (e : Fin 2) (q : Fin 4096)
    (k : Fin 4608) : val_main_v18 (F := Ideal) x0 x1 x3 (ix5 b h e q k) = (scR x0 x1 x3 b h e q k : EReal) := by
  have hs : val_main_v16 (F := Ideal) x0 x1 x3 (ix5 b h e q k) = ((∑ d, qR x0 b q h e d * kR x1 x3 b h e k d : ℝ) : EReal) := by
    rw [val_main_v16_apply, ← coe_sum]
    refine Finset.sum_congr rfl fun d _ => ?_
    rw [EReal.coe_mul, ← v13_at x1 x3 h1 h3]
    refine congrArg₂ _ ((congrArg x0 ?_).trans (h0 (ix5 b q h e d))) (congrArg _ ?_)
    all_goals idx_ext
  have hc : Ideal.ofBits .f32 0x3E000000#32 = ((8⁻¹ : ℝ) : EReal) := by
    simp [Ideal.ofBits, Ideal.ieee, -EReal.coe_mul]
    norm_num
  show val_main_v16 (F := Ideal) x0 x1 x3 (ix5 b h e q k) * Ideal.ofBits .f32 0x3E000000#32 = _
  rw [hs, hc, ← EReal.coe_mul]
  rfl

/-- A maximum over a last axis, at an index. -/
theorem v19_at (s : FVec Ideal S2x4x2x4096x4608 .f32) (b : Fin 2) (h : Fin 4) (e : Fin 2) (q : Fin 4096) :
    (Host.reduce FloatOps.maximumf s (constant (F := Ideal) S_ .f32 0xFF800000#32)
      reducesTo_S2x4x2x4096x4608_S2x4x2x4096_d4 h_S_ : FVec Ideal S2x4x2x4096 .f32) (ix4 b h e q)
      = Finset.univ.fold max (Ideal.ofBits .f32 0xFF800000#32) (fun k : Fin 4608 => s (ix5 b h e q k)) := by
  pointwise

/-- A maximum of numbers is a number. -/
theorem fold_real {n : ℕ} (hn : n ≠ 0) (f : Fin n → EReal) (h : ∀ k, ∃ r : ℝ, f k = r) :
    ∃ M : ℝ, Finset.univ.fold max (Ideal.ofBits .f32 0xFF800000#32) f = M := by
  obtain ⟨n, rfl⟩ := Nat.exists_eq_succ_of_ne_zero hn
  exact fold_max_real f h

/-- The largest score of a row is a number. -/
theorem v21_at (h0 : IsReal x0) (h1 : IsReal x1) (h3 : IsReal x3) (b : Fin 2) (h : Fin 4) (e : Fin 2) (q : Fin 4096) :
    ∃ M : ℝ, val_main_v21 (F := Ideal) x0 x1 x3 (ix4 b h e q) = (M : EReal) := by
  obtain ⟨M, hM⟩ := fold_real (n := 4608) (by decide) (fun k => val_main_v18 (F := Ideal) x0 x1 x3 (ix5 b h e q k))
    (fun k => ⟨_, v18_at x0 x1 x3 h0 h1 h3 b h e q k⟩)
  refine ⟨M, ?_⟩
  rw [val_main_v21_apply]
  unfold val_main_v19 val_main_cst_3
  rw [v19_at, hM]
  show max (Ideal.ofBits .f32 0xFF800000#32) (M : EReal) = M
  rw [ofBits_neg_inf]
  exact max_eq_right bot_le

/-- One softmax weight. -/
def smR (M : ℝ) (b : Fin 2) (h : Fin 4) (e : Fin 2) (q : Fin 4096) (k : Fin 4608) : ℝ :=
  Real.exp (scR x0 x1 x3 b h e q k - M) / ∑ j, Real.exp (scR x0 x1 x3 b h e q j - M)

/-- The softmax weights of a row. -/
theorem v29_at (h0 : IsReal x0) (h1 : IsReal x1) (h3 : IsReal x3) (b : Fin 2) (h : Fin 4) (e : Fin 2) (q : Fin 4096) :
    ∃ M : ℝ, ∀ k, val_main_v29 (F := Ideal) x0 x1 x3 (ix5 b h e q k) = (smR x0 x1 x3 M b h e q k : EReal) := by
  obtain ⟨M, hM⟩ := v21_at x0 x1 x3 h0 h1 h3 b h e q
  have hx : ∀ k, val_main_v25 (F := Ideal) x0 x1 x3 (ix5 b h e q k) = (Real.exp (scR x0 x1 x3 b h e q k - M) : EReal) := by
    intro k
    have hb : val_main_v23 (F := Ideal) x0 x1 x3 (ix5 b h e q k) = (M : EReal) := by
      rw [val_main_v23_apply, val_main_v22_apply, ← hM]
      refine congrArg _ ?_
      idx_ext
    show Ideal.exp (val_main_v18 (F := Ideal) x0 x1 x3 (ix5 b h e q k) - val_main_v23 (F := Ideal) x0 x1 x3 (ix5 b h e q k)) = _
    rw [hb, v18_at x0 x1 x3 h0 h1 h3, ← EReal.coe_sub, Ideal.exp_coe]
  refine ⟨M, fun k => ?_⟩
  have hs : val_main_v28 (F := Ideal) x0 x1 x3 (ix5 b h e q k) = ((∑ j, Real.exp (scR x0 x1 x3 b h e q j - M) : ℝ) : EReal) := by
    rw [val_main_v28_apply, val_main_v27_apply, val_main_v26_apply, ← coe_sum]
    have hz : val_main_cst_5 (F := Ideal) (Shape.Idx.first h_S_) = 0 := by
      show Ideal.ofBits .f32 0x00000000#32 = 0
      simp [Ideal.ofBits, Ideal.ieee]
    rw [hz, zero_add]
    refine Finset.sum_congr rfl fun j _ => (congrArg _ ?_).trans (hx j)
    idx_ext
  have hne : (∑ j, Real.exp (scR x0 x1 x3 b h e q j - M)) ≠ 0 :=
    (Finset.sum_pos (fun j _ => Real.exp_pos _) ⟨0, Finset.mem_univ _⟩).ne'
  rw [val_main_v29_apply, hx, hs]
  show Ideal.div _ _ = _
  rw [Ideal.div_coe hne, ← EReal.coe_mul, mul_one_div]
  rfl

/-- The factor. -/
theorem v11_at (i : S_.Idx) : val_main_v11 (F := Ideal) x5 x6 x7 x8 i = lamE x5 x6 x7 x8 := by
  pointwise [val_main_v11, val_main_v10, val_main_v9, val_main_v8, val_main_v7, val_main_v6, val_main_v5, val_main_v4,
    val_main_v3, val_main_v2, val_main_v1, val_main_v0, val_main_cst, val_main_cst_0, val_main_cst_1, lamE]

/-- The first component's weights. -/
theorem v31_at (b : Fin 2) (h : Fin 4) (q : Fin 4096) (k : Fin 4608) :
    val_main_v31 (F := Ideal) x0 x1 x3 (ix4 b h q k) = val_main_v29 (F := Ideal) x0 x1 x3 (ix5 b h 0 q k) := by
  unfold val_main_v31 val_main_v30
  generalize val_main_v29 (F := Ideal) x0 x1 x3 = s
  pointwise

/-- The second component's weights. -/
theorem v33_at (b : Fin 2) (h : Fin 4) (q : Fin 4096) (k : Fin 4608) :
    val_main_v33 (F := Ideal) x0 x1 x3 (ix4 b h q k) = val_main_v29 (F := Ideal) x0 x1 x3 (ix5 b h 1 q k) := by
  unfold val_main_v33 val_main_v32
  generalize val_main_v29 (F := Ideal) x0 x1 x3 = s
  pointwise

/-- The mean under a difference of two softmaxes. -/
theorem att_mix {n : ℕ} (s t v : Fin n → ℝ) (L M N : ℝ) :
    ∑ k, v k * (Real.exp (s k - M) / (∑ j, Real.exp (s j - M)) - L * (Real.exp (t k - N) / ∑ j, Real.exp (t j - N)))
      = att s v - L * att t v := by
  rw [← att_each s v M, ← att_each t v N, Finset.mul_sum, ← Finset.sum_sub_distrib]
  exact Finset.sum_congr rfl fun k _ => by ring

/-- The difference of the two weights. -/
theorem v36_at (h5 : IsReal x5) (h6 : IsReal x6) (h7 : IsReal x7) (h8 : IsReal x8) (b : Fin 2) (h : Fin 4) (q : Fin 4096)
    (k : Fin 4608) (u w : ℝ) (hM : val_main_v29 (F := Ideal) x0 x1 x3 (ix5 b h 0 q k) = (u : EReal))
    (hN : val_main_v29 (F := Ideal) x0 x1 x3 (ix5 b h 1 q k) = (w : EReal)) :
    val_main_v36 (F := Ideal) x0 x1 x3 x5 x6 x7 x8 (ix4 b h q k) = ((u - (lamE x5 x6 x7 x8).toReal * w : ℝ) : EReal) := by
  rw [val_main_v36_apply, val_main_v35_apply, v31_at, v33_at, hM, hN, val_main_v34_apply, v11_at,
    lamE_real x5 x6 x7 x8 h5 h6 h7 h8, EReal.toReal_coe, EReal.coe_sub, EReal.coe_mul]
  rfl

/-- The mean of the values, as a sum. -/
theorem v38_sum (h2 : IsReal x2) (h4 : IsReal x4) (b : Fin 2) (h : Fin 4) (q : Fin 4096) (e : Fin 128)
    (w : Fin 4608 → ℝ) (hw : ∀ k, val_main_v36 (F := Ideal) x0 x1 x3 x5 x6 x7 x8 (ix4 b h q k) = (w k : EReal)) :
    val_main_v38 (F := Ideal) x0 x1 x2 x3 x4 x5 x6 x7 x8 (ix4 b q h e)
      = ((∑ k : Fin 4608, vR x2 x4 b h e k * w k : ℝ) : EReal) := by
  rw [val_main_v38_apply, val_main_v37_apply, ← coe_sum]
  refine Finset.sum_congr rfl fun k _ => ?_
  rw [EReal.coe_mul, ← hw, ← v15_at x2 x4 h2 h4]
  refine congrArg₂ _ (congrArg _ ?_) (congrArg _ ?_)
  all_goals idx_ext

/-- The difference of the two means, at an index. -/
theorem v38_at (h0 : IsReal x0) (h1 : IsReal x1) (h2 : IsReal x2) (h3 : IsReal x3) (h4 : IsReal x4) (h5 : IsReal x5)
    (h6 : IsReal x6) (h7 : IsReal x7) (h8 : IsReal x8) (b : Fin 2) (h : Fin 4) (q : Fin 4096) (e : Fin 128) :
    val_main_v38 (F := Ideal) x0 x1 x2 x3 x4 x5 x6 x7 x8 (ix4 b q h e)
      = (dif (lamE x5 x6 x7 x8).toReal (qR x0 b q h 0) (qR x0 b q h 1) (kR x1 x3 b h 0) (kR x1 x3 b h 1)
          (vR x2 x4 b h e) : EReal) := by
  obtain ⟨M, hM⟩ := v29_at x0 x1 x3 h0 h1 h3 b h 0 q
  obtain ⟨N, hN⟩ := v29_at x0 x1 x3 h0 h1 h3 b h 1 q
  rw [v38_sum x0 x1 x2 x3 x4 x5 x6 x7 x8 h2 h4 b h q e _
    (fun k => v36_at x0 x1 x3 x5 x6 x7 x8 h5 h6 h7 h8 b h q k _ _ (hM k) (hN k))]
  unfold dif smR
  rw [att_mix (fun k => scR x0 x1 x3 b h 0 q k) (fun k => scR x0 x1 x3 b h 1 q k) (fun k => vR x2 x4 b h e k)]
  unfold scR
  rfl

/-- The result. -/
theorem v56_at (h0 : IsReal x0) (h1 : IsReal x1) (h2 : IsReal x2) (h3 : IsReal x3) (h4 : IsReal x4) (h5 : IsReal x5)
    (h6 : IsReal x6) (h7 : IsReal x7) (h8 : IsReal x8) (b : Fin 2) (q : Fin 4096) (h : Fin 4) (e : Fin 128) :
    val_main_v56 (F := Ideal) x0 x1 x2 x3 x4 x5 x6 x7 x8 x9 (ix3 b q ⟨128 * h + e, by omega⟩)
      = out x0 x1 x2 x3 x4 x5 x6 x7 x8 x9 b q h e := by
  unfold out
  simp only [← v38_at x0 x1 x2 x3 x4 x5 x6 x7 x8 h0 h1 h2 h3 h4 h5 h6 h7 h8]
  unfold val_main_v56 val_main_v55 val_main_v54 val_main_v53 val_main_v52 val_main_v51 val_main_v50 val_main_v49
    val_main_v48 val_main_v47 val_main_v46 val_main_v45 val_main_v44 val_main_v43 val_main_v42 val_main_v41 val_main_v40
    val_main_v39 val_main_cst_6 val_main_cst_7 val_main_cst_8 val_main_cst_9
  generalize val_main_v38 (F := Ideal) x0 x1 x2 x3 x4 x5 x6 x7 x8 = s
  pointwise [nrm]

/-- The reference's result is the specification's array. -/
theorem ref_out (h0 : IsReal x0) (h1 : IsReal x1) (h2 : IsReal x2) (h3 : IsReal x3) (h4 : IsReal x4) (h5 : IsReal x5)
    (h6 : IsReal x6) (h7 : IsReal x7) (h8 : IsReal x8) :
    val_main_v56 (F := Ideal) x0 x1 x2 x3 x4 x5 x6 x7 x8 x9 = outArr x0 x1 x2 x3 x4 x5 x6 x7 x8 x9 := by
  funext j
  obtain ⟨b, q, h, e, rfl⟩ : ∃ (b : Fin 2) (q : Fin 4096) (h : Fin 4) (e : Fin 128),
      j = (ix3 b q ⟨128 * h + e, by omega⟩ : S2x4096x512.Idx) := by
    have hj : (j 2 : ℕ) < 512 := (j 2).isLt
    exact ⟨j 0, j 1, ⟨(j 2 : ℕ) / 128, by omega⟩, ⟨(j 2 : ℕ) % 128, by omega⟩, by idx_ext⟩
  rw [v56_at x0 x1 x2 x3 x4 x5 x6 x7 x8 x9 h0 h1 h2 h3 h4 h5 h6 h7 h8]
  exact (outArr_at _ _ _ _ _ _ _ _ _ _ b q h e).symm

end Cert.Attn

end
-- ==== Proof.Attn.PreFin.lean ====
module

public import proofs.«01_k».proof.Proof.Attn.Spec
public import proofs.«01_k».proof.Proof.Gen.Pre_finite
public import Idealize.ShloMosaic.Lib.ReduceAll

/-!
What the precondition says: the entries of the first nine arguments are real numbers.
-/

@[expose] public section

set_option maxRecDepth 16384

noncomputable section

namespace Cert.Attn

open Idealize.ShloMosaic Idealize.ShloMosaic.TcCoe Cert.Pre_finite

/-- A number whose magnitude is below infinity is real. -/
theorem real_of_lt (x : EReal) (h : max x (-x) < ⊤) : x = (x.toReal : EReal) := by
  induction x with
  | bot => simp at h
  | top => simp at h
  | coe r => simp

/-- One array's test: every magnitude is below infinity. -/
theorem real_of_all {S : Shape} {axes : List (Fin S.rank)} (X : FVec Ideal S .f32)
    (hb : S_.BroadcastsInDim S (![] : Fin 0 → Fin S.rank)) (hr : S.ReducesTo axes S_) (j : S_.Idx)
    (h : Host.reduce IntOp.andi (cmpf .olt (Host.absf X) (broadcastInDim S ![] hb (constant S_ .f32 0x7F800000#32)))
      (constantI S_ 1 1#1) hr Gen.h_S_ j = 1#1) : IsReal X := by
  intro i
  haveI : Subsingleton S_.Idx := ⟨fun a b => funext fun k => k.elim0⟩
  have h' := Host.reduce_andi_all _ _ hr Gen.h_S_ j h i
  have ht : Ideal.ofBits .f32 0x7F800000#32 = ⊤ := by simp [Ideal.ofBits, Ideal.ieee]
  have h'' : BitVec.ofBool (decide (max (X i) (-(X i)) < Ideal.ofBits .f32 0x7F800000#32)) = 1#1 := h'
  rw [ht] at h''
  refine real_of_lt _ ?_
  by_contra hn
  rw [decide_eq_false hn] at h''
  exact absurd h'' (by decide)

/-- A conjunction of two tests. -/
theorem and_split (a b : IVec S_ 1) (j : S_.Idx) (h : andi a b j = 1#1) : a j = 1#1 ∧ b j = 1#1 := by
  have h' : IntOp.andi (a j) (b j) = 1#1 := h
  generalize a j = x at h' ⊢
  generalize b j = y at h' ⊢
  revert x y
  decide

/-- The precondition, read. -/
theorem pre_real (X0 X1 : FVec Ideal S2x4096x4x2x64 .f32) (X2 : FVec Ideal S2x4096x4x128 .f32)
    (X3 : FVec Ideal S2x1x512x4x2x64 .f32) (X4 : FVec Ideal S2x1x512x4x128 .f32) (X5 X6 X7 X8 : FVec Ideal S1x64 .f32)
    (X9 : FVec Ideal S1x128 .f32) (h : fn X0 X1 X2 X3 X4 X5 X6 X7 X8 X9 = fun _ => 1#1) :
    IsReal X0 ∧ IsReal X1 ∧ IsReal X2 ∧ IsReal X3 ∧ IsReal X4 ∧ IsReal X5 ∧ IsReal X6 ∧ IsReal X7 ∧ IsReal X8 := by
  have j : S_.Idx := fun a => a.elim0
  have h := congrFun h j
  dsimp only [fn, fn_part1, fn_part2] at h
  obtain ⟨h, r8⟩ := and_split _ _ j h
  obtain ⟨h, r7⟩ := and_split _ _ j h
  obtain ⟨h, r6⟩ := and_split _ _ j h
  obtain ⟨h, r5⟩ := and_split _ _ j h
  obtain ⟨h, r4⟩ := and_split _ _ j h
  obtain ⟨h, r3⟩ := and_split _ _ j h
  obtain ⟨h, r2⟩ := and_split _ _ j h
  obtain ⟨r0, r1⟩ := and_split _ _ j h
  exact ⟨real_of_all X0 _ _ j r0, real_of_all X1 _ _ j r1, real_of_all X2 _ _ j r2, real_of_all X3 _ _ j r3,
    real_of_all X4 _ _ j r4, real_of_all X5 _ _ j r5, real_of_all X6 _ _ j r6, real_of_all X7 _ _ j r7,
    real_of_all X8 _ _ j r8⟩

end Cert.Attn

end
-- ==== Proof.Attn.Equation.lean ====
module

public import proofs.«01_k».proof.Defs
public import proofs.«01_k».proof.Proof.Attn.Array
public import proofs.«01_k».proof.Proof.Attn.Ref
public import proofs.«01_k».proof.Proof.Attn.PreFin
public import proofs.«01_k».proof.Proof.Gen.Kernel2Ideal.Value
public import proofs.«01_k».proof.Proof.Gen.Reference2Ideal.Run
public import Idealize.ShloMosaic.Lib.Claim

/-!
The attention's value claim: over the extended reals, on finite arguments, the call's array is the reference's.
-/

@[expose] public section

set_option maxRecDepth 16384

noncomputable section

namespace Cert.Attn

open Idealize.ShloMosaic Idealize.ShloMosaic.TcCoe Idealize.SL.Sem

/-- The attention is computed as the reference computes it. -/
theorem algebraic : Cert.algebraic_Kernel2Ideal_Reference2Ideal_pre_finite := by
  pair_intro
  · run_from Cert.Kernel2Ideal.Value.run_blocks m g
  · run_from Cert.Reference2Ideal.Value.run m' g'
    obtain ⟨h0, h1, h2, h3, h4, h5, h6, h7, h8⟩ := pre_real _ _ _ _ _ _ _ _ _ _ (hpre c)
    rw [Cert.Reference2Ideal.Read.val_main_v56_eq]
    obtain ⟨a0, a1, a2, a3, a4, a5, a6, a7, a8, a9⟩ := hagree c
    rw [a0, a1, a2, a3, a4, a5, a6, a7, a8, a9]
    exact (ref_out _ _ _ _ _ _ _ _ _ _ h0 h1 h2 h3 h4 h5 h6 h7 h8).trans (final m c h0 h1 h2 h3 h4 h5 h6 h7 h8).symm

end Cert.Attn

end
-- ==== Proof.Mlp.Body.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.Pipeline.FrameBody

/-!
The run of the residual and feed-forward call, at any values: the first 8 points store one block each of the first
result, the other 16 one block each of the second, and each block is named from the blocks that the body reads.
-/

@[expose] public section

set_option maxRecDepth 16384

noncomputable section

namespace Cert.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev rX : Rect S1x512x1024 := Rect.unit (s := S1x512x1024) ![0, 0, 0] S1x512x1024.size inb_S1x512x1024_S1x512x1024_0_0_0
abbrev rP : Rect S1x512x512 := Rect.unit (s := S1x512x512) ![0, 0, 0] S1x512x512.size inb_S1x512x512_S1x512x512_0_0_0
abbrev rM : Rect S1x1x1x1x1024 := Rect.unit (s := S1x1x1x1x1024) ![0, 0, 0, 0, 0] S1x1x1x1x1024.size inb_S1x1x1x1x1024_S1x1x1x1x1024_0_0_0_0_0
abbrev rG : Rect S1x1024 := Rect.unit (s := S1x1024) ![0, 0] S1x1024.size inb_S1x1024_S1x1024_0_0
abbrev rO0 : Rect S1x1024x1024 := Rect.unit (s := S1x1024x1024) ![0, 0, 0] S1x512x1024.size inb_S1x1024x1024_S1x512x1024_0_0_0
abbrev rO1 : Rect S1x1024x1024 := Rect.unit (s := S1x1024x1024) ![0, 512, 0] S1x512x1024.size inb_S1x1024x1024_S1x512x1024_0_512_0
abbrev rU0 : Rect S1024x4096 := Rect.unit (s := S1024x4096) ![0, 0] S1024x1024.size inb_S1024x4096_S1024x1024_0_0
abbrev rU1 : Rect S1024x4096 := Rect.unit (s := S1024x4096) ![0, 1024] S1024x1024.size inb_S1024x4096_S1024x1024_0_1024
abbrev rU2 : Rect S1024x4096 := Rect.unit (s := S1024x4096) ![0, 2048] S1024x1024.size inb_S1024x4096_S1024x1024_0_2048
abbrev rU3 : Rect S1024x4096 := Rect.unit (s := S1024x4096) ![0, 3072] S1024x1024.size inb_S1024x4096_S1024x1024_0_3072
abbrev rD0 : Rect S4096x1024 := Rect.unit (s := S4096x1024) ![0, 0] S1024x1024.size inb_S4096x1024_S1024x1024_0_0
abbrev rD1 : Rect S4096x1024 := Rect.unit (s := S4096x1024) ![1024, 0] S1024x1024.size inb_S4096x1024_S1024x1024_1024_0
abbrev rD2 : Rect S4096x1024 := Rect.unit (s := S4096x1024) ![2048, 0] S1024x1024.size inb_S4096x1024_S1024x1024_2048_0
abbrev rD3 : Rect S4096x1024 := Rect.unit (s := S4096x1024) ![3072, 0] S1024x1024.size inb_S4096x1024_S1024x1024_3072_0

/-- The block that the body stores into the first result, from the blocks that it reads. -/
def payA (x0 : Vec F S1x512x1024 .f32) (x1 : Vec F S1x512x512 .bf16) (x2 : Vec F S1x512x512 .bf16) (x6 : Vec F S1x1x1x1x1024 .f32) (x7 : Vec F S1x1x1x1x1024 .f32) (x8 : Vec F S1x1x1x1x1024 .f32) (x9 : Vec F S1x1x1x1x1024 .f32) (x10 : Vec F S1x1024 .f32) (x11 : Vec F S1x1024x1024 .f32) (x12 : Vec F S1024x4096 .bf16) (x13 : Vec F S4096x1024 .bf16) : FVec F S1x512x1024 .f32 :=
  k0_pay1 (k0_pay3 (View.ld x1 rP) (View.ld x11 rO0) (View.ld x2 rP) (View.ld x11 rO1) (View.ld x0 rX) (View.ld x6 rM))
    (k0_pay7 (k0_pay3 (View.ld x1 rP) (View.ld x11 rO0) (View.ld x2 rP) (View.ld x11 rO1) (View.ld x0 rX) (View.ld x6 rM)) (k0_pay4 (View.ld x10 rG)) (k0_pay5 (View.ld x8 rM)) (k0_pay6 (View.ld x7 rM)))
    (k0_pay8 (k0_pay3 (View.ld x1 rP) (View.ld x11 rO0) (View.ld x2 rP) (View.ld x11 rO1) (View.ld x0 rX) (View.ld x6 rM)) (k0_pay4 (View.ld x10 rG)) (k0_pay5 (View.ld x8 rM)) (k0_pay6 (View.ld x7 rM))
      (View.ld x12 rU0) (View.ld x13 rD0) (View.ld x12 rU1) (View.ld x13 rD1))
    (View.ld x12 rU2) (View.ld x13 rD2) (View.ld x12 rU3) (View.ld x13 rD3) (View.ld x9 rM)

/-- The staging buffer of the first result after the body. -/
def outA (x0 : Vec F S1x512x1024 .f32) (x1 : Vec F S1x512x512 .bf16) (x2 : Vec F S1x512x512 .bf16) (x6 : Vec F S1x1x1x1x1024 .f32) (x7 : Vec F S1x1x1x1x1024 .f32) (x8 : Vec F S1x1x1x1x1024 .f32) (x9 : Vec F S1x1x1x1x1024 .f32) (x10 : Vec F S1x1024 .f32) (x11 : Vec F S1x1024x1024 .f32) (x12 : Vec F S1024x4096 .bf16) (x13 : Vec F S4096x1024 .bf16) : Vec F S1x512x1024 .f32 :=
  View.canon [⟨rX, payA x0 x1 x2 x6 x7 x8 x9 x10 x11 x12 x13⟩]

/-- The block that the body stores into the second result, from the blocks that it reads. -/
def payB (x3 : Vec F S1x512x1024 .f32) (x4 : Vec F S1x512x512 .bf16) (x5 : Vec F S1x512x512 .bf16) (x6 : Vec F S1x1x1x1x1024 .f32) (x7 : Vec F S1x1x1x1x1024 .f32) (x8 : Vec F S1x1x1x1x1024 .f32) (x9 : Vec F S1x1x1x1x1024 .f32) (x10 : Vec F S1x1024 .f32) (x11 : Vec F S1x1024x1024 .f32) (x12 : Vec F S1024x4096 .bf16) (x13 : Vec F S4096x1024 .bf16) : FVec F S1x512x1024 .f32 :=
  k0_pay2 (k0_pay9 (View.ld x4 rP) (View.ld x11 rO0) (View.ld x5 rP) (View.ld x11 rO1) (View.ld x3 rX) (View.ld x6 rM))
    (k0_pay13 (k0_pay9 (View.ld x4 rP) (View.ld x11 rO0) (View.ld x5 rP) (View.ld x11 rO1) (View.ld x3 rX) (View.ld x6 rM)) (k0_pay10 (View.ld x10 rG)) (k0_pay11 (View.ld x8 rM)) (k0_pay12 (View.ld x7 rM)))
    (k0_pay14 (k0_pay9 (View.ld x4 rP) (View.ld x11 rO0) (View.ld x5 rP) (View.ld x11 rO1) (View.ld x3 rX) (View.ld x6 rM)) (k0_pay10 (View.ld x10 rG)) (k0_pay11 (View.ld x8 rM)) (k0_pay12 (View.ld x7 rM))
      (View.ld x12 rU0) (View.ld x13 rD0) (View.ld x12 rU1) (View.ld x13 rD1))
    (View.ld x12 rU2) (View.ld x13 rD2) (View.ld x12 rU3) (View.ld x13 rD3) (View.ld x9 rM)

/-- The staging buffer of the second result after the body. -/
def outB (x3 : Vec F S1x512x1024 .f32) (x4 : Vec F S1x512x512 .bf16) (x5 : Vec F S1x512x512 .bf16) (x6 : Vec F S1x1x1x1x1024 .f32) (x7 : Vec F S1x1x1x1x1024 .f32) (x8 : Vec F S1x1x1x1x1024 .f32) (x9 : Vec F S1x1x1x1x1024 .f32) (x10 : Vec F S1x1024 .f32) (x11 : Vec F S1x1024x1024 .f32) (x12 : Vec F S1024x4096 .bf16) (x13 : Vec F S4096x1024 .bf16) : Vec F S1x512x1024 .f32 :=
  View.canon [⟨rX, payB x3 x4 x5 x6 x7 x8 x9 x10 x11 x12 x13⟩]

/-- One store of the whole block covers it. -/
theorem cover (p0 : Vec F S1x512x1024 .f32) (y : S1x512x1024.Idx) :
    ∃ pc ∈ ([⟨rX, p0⟩] : List (View.Piece (Elt F) S1x512x1024 .f32)), y ∈ pc.1.set :=
  View.cover_of_tiled [⟨rX, p0⟩] S1x512x1024.size (by rfl) y

set_option maxHeartbeats 4000000 in
/-- The body at a point of the first 8: what it reads is left as it was, and the result's buffer holds the named block. -/
theorem sound_A (c : Dev nD) (E : Set ℕ) (i : grid0.Coords) (h1 : k0_cond1 i = 1#1) (h2 : ¬ k0_cond2 i = 1#1) (arg1 : Memref sig .tc .vmem S1x512x1024 .f32) (harg1 : arg1.IsWhole) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x1x1x1x1024 .f32) (harg7 : arg7.IsWhole) (arg8 : Memref sig .tc .vmem S1x1x1x1x1024 .f32) (harg8 : arg8.IsWhole) (arg9 : Memref sig .tc .vmem S1x1x1x1x1024 .f32) (harg9 : arg9.IsWhole) (arg10 : Memref sig .tc .vmem S1x1x1x1x1024 .f32) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x512x1024 .f32) (harg15 : arg15.IsWhole) (arg16 : Memref sig .tc .vmem S1x512x1024 .f32) (harg16 : arg16.IsWhole)
    (x0 : Vec F S1x512x1024 .f32) (x1 : Vec F S1x512x512 .bf16) (x2 : Vec F S1x512x512 .bf16) (x6 : Vec F S1x1x1x1x1024 .f32) (x7 : Vec F S1x1x1x1x1024 .f32) (x8 : Vec F S1x1x1x1x1024 .f32) (x9 : Vec F S1x1x1x1x1024 .f32) (x10 : Vec F S1x1024 .f32) (x11 : Vec F S1x1024x1024 .f32) (x12 : Vec F S1024x4096 .bf16) (x13 : Vec F S4096x1024 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (outA x0 x1 x2 x6 x7 x8 x9 x10 x11 x12 x13)) -∗ K ⟨⟩))
      ⊢ wp frame (wpE (defs₀ (F := F)) Variants.none c none) E (cc0_out_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_out_mlp_eq_skeleton]; unfold cc0_out_mlp_skel
  simp only [dif_pos h1, dif_neg h2]
  simp only [k0_part1_eq_skeleton, k0_part2_eq_skeleton]
  unfold k0_part1_skel k0_part2_skel
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  refine (View.read_writes_eq_canon _ _ _ (cover _)).trans ?_
  rfl

set_option maxHeartbeats 4000000 in
/-- The body at a point of the other 16: what it reads is left as it was, and the result's buffer holds the named block. -/
theorem sound_B (c : Dev nD) (E : Set ℕ) (i : grid0.Coords) (h1 : ¬ k0_cond1 i = 1#1) (h2 : k0_cond2 i = 1#1) (arg1 : Memref sig .tc .vmem S1x512x1024 .f32) (harg1 : arg1.IsWhole) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x1x1x1x1024 .f32) (harg7 : arg7.IsWhole) (arg8 : Memref sig .tc .vmem S1x1x1x1x1024 .f32) (harg8 : arg8.IsWhole) (arg9 : Memref sig .tc .vmem S1x1x1x1x1024 .f32) (harg9 : arg9.IsWhole) (arg10 : Memref sig .tc .vmem S1x1x1x1x1024 .f32) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x512x1024 .f32) (harg15 : arg15.IsWhole) (arg16 : Memref sig .tc .vmem S1x512x1024 .f32) (harg16 : arg16.IsWhole)
    (x3 : Vec F S1x512x1024 .f32) (x4 : Vec F S1x512x512 .bf16) (x5 : Vec F S1x512x512 .bf16) (x6 : Vec F S1x1x1x1x1024 .f32) (x7 : Vec F S1x1x1x1x1024 .f32) (x8 : Vec F S1x1x1x1x1024 .f32) (x9 : Vec F S1x1x1x1x1024 .f32) (x10 : Vec F S1x1024 .f32) (x11 : Vec F S1x1024x1024 .f32) (x12 : Vec F S1024x4096 .bf16) (x13 : Vec F S4096x1024 .bf16) (K : PUnit → sProp (MT nD τ sig Unit (Elt F) ℕ (UR sig nD τ) ℕ)) :
    iprop(owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg16 fullShare d)
        ∗ (iprop(owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg16 fullShare (outB x3 x4 x5 x6 x7 x8 x9 x10 x11 x12 x13)) -∗ K ⟨⟩))
      ⊢ wp frame (wpE (defs₀ (F := F)) Variants.none c none) E (cc0_out_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_out_mlp_eq_skeleton]; unfold cc0_out_mlp_skel
  simp only [dif_neg h1, dif_pos h2]
  simp only [k0_part3_eq_skeleton, k0_part4_eq_skeleton]
  unfold k0_part3_skel k0_part4_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d15, %f15, -, H15⟩, Hk⟩
  subst hf3 hf4 hf5 hf6 hf7 hf8 hf9 hf10 hf11 hf12 hf13
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H15
  ipureintro
  refine (View.read_writes_eq_canon _ _ _ (cover _)).trans ?_
  rfl

end Cert.Mlp

end
-- ==== Proof.Mlp.Run.lean ====
module

public import proofs.«01_k».proof.Proof.Mlp.Body
public import Idealize.ShloMosaic.Lib.Claim

/-!
The pipeline's run of the residual and feed-forward call, at any values, and what it leaves unchanged.
-/

@[expose] public section

set_option maxRecDepth 16384

noncomputable section

namespace Cert.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Which branch runs at a point -/

theorem cond1_pos : ∀ t : Fin cfg0.N, t.val < 8 → k0_cond1 (grid0.coords t) = 1#1 :=
  (by decide +kernel : ∀ t : Fin grid0.N, _)
theorem cond1_neg : ∀ t : Fin cfg0.N, 8 ≤ t.val → ¬ k0_cond1 (grid0.coords t) = 1#1 :=
  (by decide +kernel : ∀ t : Fin grid0.N, _)
theorem cond2_pos : ∀ t : Fin cfg0.N, 8 ≤ t.val → k0_cond2 (grid0.coords t) = 1#1 :=
  (by decide +kernel : ∀ t : Fin grid0.N, _)
theorem cond2_neg : ∀ t : Fin cfg0.N, t.val < 8 → ¬ k0_cond2 (grid0.coords t) = 1#1 :=
  (by decide +kernel : ∀ t : Fin grid0.N, _)
theorem idle14_lt : ∀ t : Fin cfg0.N, t.val < 8 → cfg0.idle 14 (cfg0.grid.coords t) = false :=
  (by decide +kernel : ∀ t : Fin grid0.N, t.val < 8 → cfg0.idle 14 (cfg0.grid.coords t) = false)
theorem idle14_ge : ∀ t : Fin cfg0.N, 8 ≤ t.val → cfg0.idle 14 (cfg0.grid.coords t) = true :=
  (by decide +kernel : ∀ t : Fin grid0.N, 8 ≤ t.val → cfg0.idle 14 (cfg0.grid.coords t) = true)
theorem idle15_lt : ∀ t : Fin cfg0.N, t.val < 8 → cfg0.idle 15 (cfg0.grid.coords t) = true :=
  (by decide +kernel : ∀ t : Fin grid0.N, t.val < 8 → cfg0.idle 15 (cfg0.grid.coords t) = true)
theorem idle15_ge : ∀ t : Fin cfg0.N, 8 ≤ t.val → cfg0.idle 15 (cfg0.grid.coords t) = false :=
  (by decide +kernel : ∀ t : Fin grid0.N, 8 ≤ t.val → cfg0.idle 15 (cfg0.grid.coords t) = false)
theorem flush14_mid : ∀ t : Fin cfg0.N, 8 ≤ t.val → t.val < 23 → (cfg0.win 14).flush t = false :=
  (by decide +kernel : ∀ t : Fin grid0.N, 8 ≤ t.val → t.val < 23 → (cfg0.win 14).flush t = false)
theorem flush14_last : ∀ t : Fin cfg0.N, t.val = 23 → (cfg0.win 14).flush t = true :=
  (by decide +kernel : ∀ t : Fin grid0.N, t.val = 23 → (cfg0.win 14).flush t = true)
theorem flush15_lt : ∀ t : Fin cfg0.N, t.val < 8 → (cfg0.win 15).flush t = false :=
  (by decide +kernel : ∀ t : Fin grid0.N, t.val < 8 → (cfg0.win 15).flush t = false)
theorem fresh14_last : cfg0.fresh 14 23 = false := by decide +kernel

/-- The last point that stored into the first result, at or before a point. -/
def tA (t : Fin cfg0.N) : Fin cfg0.N := ⟨min t.val 7, lt_of_le_of_lt (Nat.min_le_left _ _) t.isLt⟩

theorem tA_lt (t : Fin cfg0.N) (h : t.val < 8) : tA t = t := Fin.ext (Nat.min_eq_left (by omega))

theorem tA_pred (t : Fin cfg0.N) (h : 8 ≤ t.val) :
    tA t = tA ⟨t.val - 1, lt_of_le_of_lt (Nat.sub_le _ _) t.isLt⟩ :=
  Fin.ext (by show min t.val 7 = min (t.val - 1) 7; omega)

/-! ## What the pipeline's buffers hold -/

/-- The proof data: the inputs are left as their blocks, and the results hold the named blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outA (iblk m c 0 (tA t)) (iblk m c 1 (tA t)) (iblk m c 2 (tA t)) (iblk m c 6 (tA t)) (iblk m c 7 (tA t)) (iblk m c 8 (tA t)) (iblk m c 9 (tA t)) (iblk m c 10 (tA t)) (iblk m c 11 (tA t)) (iblk m c 12 (tA t)) (iblk m c 13 (tA t))
    | ⟨15, _⟩ => outB (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨n + 16, h⟩ => absurd (show n + 16 < 16 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outA (iblk m c 0 (tA t)) (iblk m c 1 (tA t)) (iblk m c 2 (tA t)) (iblk m c 6 (tA t)) (iblk m c 7 (tA t)) (iblk m c 8 (tA t)) (iblk m c 9 (tA t)) (iblk m c 10 (tA t)) (iblk m c 11 (tA t)) (iblk m c 12 (tA t)) (iblk m c 13 (tA t)) := by dsimp only [dats]
theorem after0_15 (c : Dev nD) (t : Fin cfg0.N) : (dats m 0 c).after 15 t = outB (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

theorem ge_of_idle14 (t : Fin cfg0.N) (h : cfg0.idle 14 (cfg0.grid.coords t) = true) : 8 ≤ t.val := by
  by_contra hc
  exact Bool.false_ne_true ((idle14_lt t (by omega)).symm.trans h)

/-- At the last point the first result's buffer still holds the block that was stored last. -/
theorem before0_14_last (c : Dev nD) (t : Fin cfg0.N) (ht : t.val = 23) (d) :
    (dats m 0 c).before 14 t d = (dats m 0 c).after 14 t := by
  have hcarry : ∀ (t : Fin cfg0.N) (_ : t.val ≠ 0), cfg0.idle 14 (cfg0.grid.coords t) = true →
      cfg0.fresh 14 t.val = false → (dats m 0 c).after 14 t = (dats m 0 c).after 14 ⟨t.val - 1, by omega⟩ := by
    intro t _ hi _
    rw [after0_14, after0_14, tA_pred t (ge_of_idle14 t hi)]
  rw [(dats m 0 c).before_out_traj 14 rfl (fun _ _ => rfl) hcarry t.val t rfl d]
  have hf : cfg0.fresh 14 t.val = false := by rw [ht]; exact fresh14_last
  rw [hf, if_neg Bool.false_ne_true]
  rw [after0_14, after0_14, tA_pred t (by omega)]

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it returns at one of the first 8 points. -/
def bodyPostA (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (∃ d, owns (c : Thread nD τ) (st0_15 t) fullShare ((dats m 0 c).before 15 t d)))

/-- What it returns at a point between. -/
def bodyPostB (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ (∃ d, owns (c : Thread nD τ) (st0_14 t) fullShare ((dats m 0 c).before 14 t d))
    ∗ owns (c : Thread nD τ) (st0_15 t) fullShare ((dats m 0 c).after 15 t))

/-- What it returns at the last point. -/
def bodyPostC (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 2000000 in
theorem sound_bodyA (c : Dev nD) (t : Fin cfg0.N) (h : t.val < 8) :
    bodyPre m c t ⊢ wp frame (wpE (defs₀ (F := F)) Variants.none c none) Set.univ (bodyAt0 t) (fun _ => bodyPostA m c t) := by
  unfold bodyPre bodyPostA bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, tA_lt t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_A c Set.univ (grid0.coords t) (cond1_pos t h) (cond2_neg t h) _ _ _ _ _ _ _ _ _ _ _ _ _ _ _ _ _ _ _ _ _ _ _ _ _ _ _ _ _ _ _ _ (iblk m c 0 t) (iblk m c 1 t) (iblk m c 2 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists d15; iexact H15

set_option maxHeartbeats 2000000 in
theorem sound_bodyB (c : Dev nD) (t : Fin cfg0.N) (h : 8 ≤ t.val) :
    bodyPre m c t ⊢ wp frame (wpE (defs₀ (F := F)) Variants.none c none) Set.univ (bodyAt0 t) (fun _ => bodyPostB m c t) := by
  unfold bodyPre bodyPostB bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_B c Set.univ (grid0.coords t) (cond1_neg t h) (cond2_pos t h) _ _ _ _ _ _ _ _ _ _ _ _ _ _ _ _ _ _ _ _ _ _ _ _ _ _ _ _ _ _ _ _ (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexists _; iexact H15
  iintro ⟨H3, H4, H5, H6, H7, H8, H9, H10, H11, H12, H13, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists d14; iexact H14
  iexact H15

set_option maxHeartbeats 2000000 in
theorem sound_bodyC (c : Dev nD) (t : Fin cfg0.N) (h : 8 ≤ t.val) (h23 : t.val = 23) :
    bodyPre m c t ⊢ wp frame (wpE (defs₀ (F := F)) Variants.none c none) Set.univ (bodyAt0 t) (fun _ => bodyPostC m c t) := by
  unfold bodyPre bodyPostC bodyAt0
  simp only [before0_0, before0_1, before0_2, before0_3, before0_4, before0_5, before0_6, before0_7, before0_8, before0_9, before0_10, before0_11, before0_12, before0_13, before0_14_last m c t h23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_B c Set.univ (grid0.coords t) (cond1_neg t h) (cond2_pos t h) _ _ _ _ _ _ _ _ _ _ _ _ _ _ _ _ _ _ _ _ _ _ _ _ _ _ _ _ _ _ _ _ (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexists _; iexact H15
  iintro ⟨H3, H4, H5, H6, H7, H8, H9, H10, H11, H12, H13, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at a point is the body there. -/
theorem defs₀_row (t : Fin cfg0.N) :
    defs₀ (F := F) .tc cfg0.body (cfg0.bodyArgs t (cfg0.slots t)) = bodyAt0 t := by
  unfold defs₀; rw [Defs.onTc_tc]

end Cert.Mlp

end
-- ==== Proof.Mlp.Frame.lean ====
module

public import proofs.«01_k».proof.Proof.Mlp.Run

/-!
The residual and feed-forward call's frame, and the arrays that it leaves.
-/

@[expose] public section

set_option maxRecDepth 16384

noncomputable section

namespace Cert.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 2000000 in
/-- The body's obligation at every point. -/
theorem body_obligation (c : Dev nD) : BodyObligation (dats (F := F) m 0 c) (defs₀ (F := F)) Variants.none () Set.univ := fun t => by
  rw [bigSep_W0, bigSep_W0, defs₀_row]
  by_cases h : t.val < 8
  · refine triple_restated (sound_bodyA m c t h) rfl .rfl fun _ => ?_
    rw [idle14_lt t h, idle15_lt t h, flush15_lt t h]
    dsimp only
    unfold bodyPostA
    exact .rfl
  · have h24 : t.val < 24 := t.isLt
    by_cases h23 : t.val = 23
    · refine triple_restated (sound_bodyC m c t (by omega) h23) rfl .rfl fun _ => ?_
      rw [idle14_ge t (by omega), idle15_ge t (by omega), flush14_last t h23]
      dsimp only
      unfold bodyPostC
      exact .rfl
    · refine triple_restated (sound_bodyB m c t (by omega)) rfl .rfl fun _ => ?_
      rw [idle14_ge t (by omega), idle15_ge t (by omega), flush14_mid t (by omega) (by omega)]
      dsimp only
      unfold bodyPostB
      exact .rfl

/-! ## The run -/

set_option backward.isDefEq.respectTransparency.types false in
set_option maxHeartbeats 800000 in
/-- The launch ends with the arrays that the proof data names, and with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

/-- The results' arrays are those that the proof data names, and the arguments end unchanged. -/
theorem run_blocks : θ_run defs (onTc (τ := τ) (main (F := F))) ⟨m, fun _ => 0, ρ⟩ (fun r => ∀ c : Dev nD,
      r.2.mem ((c.tc : Thread nD τ).loc main_v20_0) = (dats m 0 c).arrAt 14 cfg0.N
      ∧ r.2.mem ((c.tc : Thread nD τ).loc main_v20_1) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h.1 c).1 14, (h.1 c).1 15, h.2 c⟩)
    (θ_run_and (run_main m ρ) (unchanged m ρ))

end Cert.Mlp

end
-- ==== Proof.Mlp.Host.lean ====
module

public import proofs.«01_k».proof.Proof.Mlp.Frame
public import Idealize.ShloMosaic.Lib.Pipeline.ValueKit
public import Idealize.ShloMosaic.Lib.Claim

/-!
The arrays that the call is given, at an index, as the arguments' entries.
-/

@[expose] public section

set_option maxRecDepth 16384

noncomputable section

namespace Cert.Mlp

open Idealize.ShloMosaic Idealize.ShloMosaic.TcCoe Idealize.SL.Sem Cert.KernelIdeal Cert.KernelIdeal.Gen

variable (m : (ℓ : Loc nD τ sig) → Buf (Elt Ideal) ℓ) (c : Dev nD)

/-- Operations run one list after the other. -/
theorem after_append {t : _} {s : _} (a b : List (HloOp t s (Elt Ideal))) (σ : Valuation t s (Elt Ideal)) :
    StableHlo.after (a ++ b) σ = StableHlo.after b (StableHlo.after a σ) := by
  induction a generalizing σ with
  | nil => rfl
  | cons x a ih => exact ih _

/-- The joined modulation rows, cut into six chunks: the first row. -/
theorem join_zero (a : FVec Ideal S2x1x6144 .f32) (b : FVec Ideal S2x2x6144 .f32) (z : FVec Ideal S2x5x6144 .f32)
    (l : Fin 2) (i : Fin 6) (k : Fin 1024) :
    (shapeCast S2x8x6x1x1024 (concatenate S2x8x6144 1 [⟨S2x1x6144, a⟩, ⟨S2x2x6144, b⟩, ⟨S2x5x6144, z⟩]
      concatenates_S2x1x6144_S2x2x6144_S2x5x6144_S2x8x6144_d1) shapeCasts_S2x8x6144_S2x8x6x1x1024
        : FVec Ideal S2x8x6x1x1024 .f32) (ix5 l 0 i 0 k)
    = a (ix3 l 0 ⟨i * 1024 + k, by omega⟩) := by
  pointwise

/-- The joined modulation rows, cut into six chunks: the next two rows. -/
theorem join_succ (a : FVec Ideal S2x1x6144 .f32) (b : FVec Ideal S2x2x6144 .f32) (z : FVec Ideal S2x5x6144 .f32)
    (l : Fin 2) (s : Fin 2) (i : Fin 6) (k : Fin 1024) :
    (shapeCast S2x8x6x1x1024 (concatenate S2x8x6144 1 [⟨S2x1x6144, a⟩, ⟨S2x2x6144, b⟩, ⟨S2x5x6144, z⟩]
      concatenates_S2x1x6144_S2x2x6144_S2x5x6144_S2x8x6144_d1) shapeCasts_S2x8x6144_S2x8x6x1x1024
        : FVec Ideal S2x8x6x1x1024 .f32) (ix5 l ⟨1 + s, by omega⟩ i 0 k)
    = b (ix3 l s ⟨i * 1024 + k, by omega⟩) := by
  pointwise

/-- The joined rows as the host operations leave them. -/
theorem join_ops (σ : Valuation τ sig (Elt Ideal)) :
    ∃ z : FVec Ideal S2x5x6144 .f32,
      (StableHlo.after ((hostOps0 (F := Ideal)).take 6) σ (Proc.tc.devRef main_v3) : FVec Ideal S2x8x6x1x1024 .f32)
        = shapeCast S2x8x6x1x1024 (concatenate S2x8x6144 1
          [⟨S2x1x6144, broadcastInDim S2x1x6144 ![0, 2] bcast_S2x6144_S2x1x6144_0_2
            (σ (Proc.tc.devRef main_arg6) : FVec Ideal S2x6144 .f32)⟩,
            ⟨S2x2x6144, (σ (Proc.tc.devRef main_arg7) : FVec Ideal S2x2x6144 .f32)⟩, ⟨S2x5x6144, z⟩]
          concatenates_S2x1x6144_S2x2x6144_S2x5x6144_S2x8x6144_d1) shapeCasts_S2x8x6144_S2x8x6x1x1024 := by
  simp only [hostOps0, List.take_succ_cons, List.take_zero, StableHlo.after_cons, StableHlo.after_nil]
  refine ⟨broadcastInDim S2x5x6144 ![] bcast_S_S2x5x6144 (constant S_ .f32 0x00000000#32), ?_⟩
  after_results_simp
  rfl

/-- The later host operations leave the joined rows. -/
theorem join_kept (σ : Valuation τ sig (Elt Ideal)) :
    StableHlo.after ((hostOps0 (F := Ideal)).drop 6) σ (Proc.tc.devRef main_v3) = σ (Proc.tc.devRef main_v3) := by
  simp only [hostOps0, List.drop_succ_cons, List.drop_zero, StableHlo.after_cons, StableHlo.after_nil]
  after_results_simp

/-- The modulation rows' array. -/
theorem V3_eq : ∃ z : FVec Ideal S2x5x6144 .f32,
    (V m c main_v3 : FVec Ideal S2x8x6x1x1024 .f32)
      = shapeCast S2x8x6x1x1024 (concatenate S2x8x6144 1
          [⟨S2x1x6144, broadcastInDim S2x1x6144 ![0, 2] bcast_S2x6144_S2x1x6144_0_2
            (m ((c : Thread nD τ).loc main_arg6) : FVec Ideal S2x6144 .f32)⟩,
            ⟨S2x2x6144, (m ((c : Thread nD τ).loc main_arg7) : FVec Ideal S2x2x6144 .f32)⟩, ⟨S2x5x6144, z⟩]
          concatenates_S2x1x6144_S2x2x6144_S2x5x6144_S2x8x6144_d1) shapeCasts_S2x8x6144_S2x8x6x1x1024 := by
  obtain ⟨z, hz⟩ := join_ops (fun b => m (c, b))
  refine ⟨z, Eq.trans ?_ hz⟩
  show StableHlo.after hostOps0 (fun b => m (c, b)) (Proc.tc.devRef main_v3) = _
  conv_lhs => rw [← List.take_append_drop 6 (hostOps0 (F := Ideal)), after_append]
  exact join_kept _

/-- The prompt's modulation rows. -/
theorem V3_prompt (i : Fin 6) (k : Fin 1024) :
    (V m c main_v3 : FVec Ideal S2x8x6x1x1024 .f32) (ix5 1 0 i 0 k)
      = (m ((c : Thread nD τ).loc main_arg6) : FVec Ideal S2x6144 .f32) (ix2 1 ⟨i * 1024 + k, by omega⟩) := by
  obtain ⟨z, hz⟩ := V3_eq m c
  rw [hz, join_zero]
  pointwise

/-- The sample's modulation rows. -/
theorem V3_sample (s : Fin 2) (i : Fin 6) (k : Fin 1024) :
    (V m c main_v3 : FVec Ideal S2x8x6x1x1024 .f32) (ix5 1 ⟨1 + s, by omega⟩ i 0 k)
      = (m ((c : Thread nD τ).loc main_arg7) : FVec Ideal S2x2x6144 .f32) (ix3 1 s ⟨i * 1024 + k, by omega⟩) := by
  obtain ⟨z, hz⟩ := V3_eq m c
  rw [hz, join_succ]

/-- The prompt's rows. -/
theorem V4_at (n : Fin 4096) (k : Fin 1024) :
    (V m c main_v4 : FVec Ideal S1x4096x1024 .f32) (ix3 0 n k)
      = (m ((c : Thread nD τ).loc main_arg0) : FVec Ideal S16x256x1024 .f32) (ix3 ⟨n / 256, by omega⟩ ⟨n % 256, by omega⟩ k) := by
  entry_read
  pointwise

/-- The prompt's first projected part. -/
theorem V6_at (n : Fin 4096) (k : Fin 512) :
    (V m c main_v6 : FVec Ideal S1x4096x512 .bf16) (ix3 0 n k)
      = (m ((c : Thread nD τ).loc main_arg1) : FVec Ideal S16x256x512 .f32) (ix3 ⟨n / 256, by omega⟩ ⟨n % 256, by omega⟩ k) := by
  entry_read
  pointwise

/-- The prompt's second projected part. -/
theorem V8_at (n : Fin 4096) (k : Fin 512) :
    (V m c main_v8 : FVec Ideal S1x4096x512 .bf16) (ix3 0 n k)
      = (m ((c : Thread nD τ).loc main_arg2) : FVec Ideal S16x256x512 .f32) (ix3 ⟨n / 256, by omega⟩ ⟨n % 256, by omega⟩ k) := by
  entry_read
  pointwise

/-- The sample's first projected part. -/
theorem V9_at (b : Fin 2) (n : Fin 4096) (k : Fin 512) :
    (V m c main_v9 : FVec Ideal S2x4096x512 .bf16) (ix3 b n k)
      = (m ((c : Thread nD τ).loc main_arg4) : FVec Ideal S2x4096x512 .f32) (ix3 b n k) := by
  entry_read
  pointwise

/-- The sample's second projected part. -/
theorem V10_at (b : Fin 2) (n : Fin 4096) (k : Fin 512) :
    (V m c main_v10 : FVec Ideal S2x4096x512 .bf16) (ix3 b n k)
      = (m ((c : Thread nD τ).loc main_arg5) : FVec Ideal S2x4096x512 .f32) (ix3 b n k) := by
  entry_read
  pointwise

/-- The normalisation's weights. -/
theorem V13_at (k : Fin 1024) :
    (V m c main_v13 : FVec Ideal S1x1024 .f32) (ix2 0 k)
      = (m ((c : Thread nD τ).loc main_arg8) : FVec Ideal S2x1024 .f32) (ix2 1 k) := by
  entry_read
  pointwise

/-- The first feed-forward weights. -/
theorem V16_at (k : Fin 1024) (i : Fin 4096) :
    (V m c main_v16 : FVec Ideal S1024x4096 .bf16) (ix2 k i)
      = (m ((c : Thread nD τ).loc main_arg10) : FVec Ideal S2x1024x4096 .f32) (ix3 1 k i) := by
  entry_read
  pointwise

/-- The second feed-forward weights. -/
theorem V19_at (i : Fin 4096) (j : Fin 1024) :
    (V m c main_v19 : FVec Ideal S4096x1024 .bf16) (ix2 i j)
      = (m ((c : Thread nD τ).loc main_arg11) : FVec Ideal S2x4096x1024 .f32) (ix3 1 i j) := by
  entry_read
  pointwise

end Cert.Mlp

end
-- ==== Proof.Mlp.Spec.lean ====
module

public import Idealize.ShloMosaic.Lib.Pipeline.ValueKit

/-!
One row of the residual and feed-forward half of the layer, over the extended reals.
-/

@[expose] public section

noncomputable section

namespace Cert.Mlp

open Idealize.ShloMosaic

/-- The row after the gated projection is added. -/
def res (x g1 cd : Fin 1024 → EReal) (W : Fin 1024 → Fin 1024 → EReal) (j : Fin 1024) : EReal :=
  x j + g1 j * ∑ k, cd k * W k j

/-- The row normalised, weighted, scaled and shifted. -/
def hid (r ng sc sh : Fin 1024 → EReal) (k : Fin 1024) : EReal :=
  r k * Ideal.rsqrt (Ideal.div (∑ x : Fin 1024, r x * r x) (Ideal.ofBits .f32 0x44800000#32)
    + Ideal.ofBits .f32 0x358637BD#32) * ng k * (Ideal.ofBits .f32 0x3F800000#32 + sc k) + sh k

/-- One activation: a product with a column, its negative part dropped, squared. -/
def act (h u : Fin 1024 → EReal) : EReal :=
  max (∑ k, h k * u k) (Ideal.ofBits .f32 0x00000000#32) * max (∑ k, h k * u k) (Ideal.ofBits .f32 0x00000000#32)

/-- The row after the gated feed-forward is added. -/
def ffn (r h g2 : Fin 1024 → EReal) (U : Fin 1024 → Fin 4096 → EReal) (D : Fin 4096 → Fin 1024 → EReal)
    (j : Fin 1024) : EReal :=
  r j + g2 j * ∑ i, act h (fun k => U k i) * D i j

/-- The whole row. -/
def row (x g1 cd : Fin 1024 → EReal) (W : Fin 1024 → Fin 1024 → EReal) (ng sc sh g2 : Fin 1024 → EReal)
    (U : Fin 1024 → Fin 4096 → EReal) (D : Fin 4096 → Fin 1024 → EReal) (j : Fin 1024) : EReal :=
  ffn (res x g1 cd W) (hid (res x g1 cd W) ng sc sh) g2 U D j

/-- A sum of 4096 terms, in four parts. -/
theorem sum_four (f : Fin 4096 → EReal) :
    ∑ i, f i = ∑ i : Fin 1024, f ⟨i, by omega⟩ + ∑ i : Fin 1024, f ⟨1024 + i, by omega⟩
      + ∑ i : Fin 1024, f ⟨2048 + i, by omega⟩ + ∑ i : Fin 1024, f ⟨3072 + i, by omega⟩ := by
  rw [Fin.sum_univ_two_halves 3072 1024 rfl, Fin.sum_univ_two_halves 2048 1024 rfl, Fin.sum_univ_two_halves 1024 1024 rfl]

end Cert.Mlp

end
-- ==== Proof.Mlp.Block.lean ====
module

public import proofs.«01_k».proof.Proof.Mlp.Spec
public import proofs.«01_k».proof.Proof.Mlp.Body
public import Idealize.ShloMosaic.Lib.Pipeline.ValueKit

/-!
The block that the body stores, at an index, over the extended reals.
-/

@[expose] public section

set_option maxRecDepth 16384

noncomputable section

namespace Cert.Mlp

open Idealize.ShloMosaic Idealize.ShloMosaic.TcCoe Idealize.SL.Sem Cert.KernelIdeal Cert.KernelIdeal.Gen

/-- The residual row. -/
theorem pay3_at (v6 : Vec Ideal S1x512x512 .bf16) (v8 : Vec Ideal S1x512x1024 .f32) (v12 : Vec Ideal S1x512x512 .bf16)
    (v14 : Vec Ideal S1x512x1024 .f32) (v19 : Vec Ideal S1x512x1024 .f32) (v21 : Vec Ideal S1x1x1x1x1024 .f32)
    (n : Fin 512) (j : Fin 1024) :
    k0_pay3 v6 v8 v12 v14 v19 v21 (ix2 n j)
      = v19 (ix3 0 n j) + v21 (ix5 0 0 0 0 j)
        * (∑ k : Fin 512, v6 (ix3 0 n k) * v8 (ix3 0 k j) + ∑ k : Fin 512, v12 (ix3 0 n k) * v14 (ix3 0 k j)) := by
  pointwise [k0_pay3]

/-- The normalised row. -/
theorem pay7_at (r : FVec Ideal S512x1024 .f32) (ng : Vec Ideal S1x1024 .f32) (sc sh : Vec Ideal S1x1x1x1x1024 .f32)
    (n : Fin 512) (j : Fin 1024) :
    k0_pay7 r (k0_pay4 ng) (k0_pay5 sc) (k0_pay6 sh) (ix2 n j)
      = hid (fun k => r (ix2 n k)) (fun k => ng (ix2 0 k)) (fun k => sc (ix5 0 0 0 0 k)) (fun k => sh (ix5 0 0 0 0 k)) j := by
  pointwise [k0_pay7, k0_pay4, k0_pay5, k0_pay6, hid]

/-- The first half of the feed-forward. -/
theorem pay8_at (r : FVec Ideal S512x1024 .f32) (ng sc sh : FVec Ideal S1x1024 .f32)
    (u0 d0 u1 d1 : Vec Ideal S1024x1024 .bf16) (n : Fin 512) (j : Fin 1024) :
    k0_pay8 r ng sc sh u0 d0 u1 d1 (ix2 n j)
      = ∑ i : Fin 1024, act (fun k => k0_pay7 r ng sc sh (ix2 n k)) (fun k => u0 (ix2 k i)) * d0 (ix2 i j)
        + ∑ i : Fin 1024, act (fun k => k0_pay7 r ng sc sh (ix2 n k)) (fun k => u1 (ix2 k i)) * d1 (ix2 i j) := by
  unfold k0_pay8
  generalize k0_pay7 r ng sc sh = h
  pointwise [act]

/-- The stored row. -/
theorem pay1_at (r : FVec Ideal S512x1024 .f32) (h : FVec Ideal S512x1024 .bf16) (s : FVec Ideal S512x1024 .f32)
    (u2 d2 u3 d3 : Vec Ideal S1024x1024 .bf16) (g2 : Vec Ideal S1x1x1x1x1024 .f32) (n : Fin 512) (j : Fin 1024) :
    k0_pay1 r h s u2 d2 u3 d3 g2 (ix3 0 n j)
      = r (ix2 n j) + g2 (ix5 0 0 0 0 j)
        * (s (ix2 n j) + ∑ i : Fin 1024, act (fun k => h (ix2 n k)) (fun k => u2 (ix2 k i)) * d2 (ix2 i j)
          + ∑ i : Fin 1024, act (fun k => h (ix2 n k)) (fun k => u3 (ix2 k i)) * d3 (ix2 i j)) := by
  pointwise [k0_pay1, act]

/-! ## The loads -/

theorem ldX (x : Vec Ideal S1x512x1024 .f32) (n : Fin 512) (k : Fin 1024) : View.ld x rX (ix3 0 n k) = x (ix3 0 n k) := by
  pointwise
theorem ldP (x : Vec Ideal S1x512x512 .bf16) (n k : Fin 512) : View.ld x rP (ix3 0 n k) = x (ix3 0 n k) := by
  pointwise
theorem ldM (x : Vec Ideal S1x1x1x1x1024 .f32) (k : Fin 1024) : View.ld x rM (ix5 0 0 0 0 k) = x (ix5 0 0 0 0 k) := by
  pointwise
theorem ldG (x : Vec Ideal S1x1024 .f32) (k : Fin 1024) : View.ld x rG (ix2 0 k) = x (ix2 0 k) := by
  pointwise
theorem ldO0 (x : Vec Ideal S1x1024x1024 .f32) (k : Fin 512) (j : Fin 1024) :
    View.ld x rO0 (ix3 0 k j) = x (ix3 0 ⟨k, by omega⟩ j) := by
  pointwise
theorem ldO1 (x : Vec Ideal S1x1024x1024 .f32) (k : Fin 512) (j : Fin 1024) :
    View.ld x rO1 (ix3 0 k j) = x (ix3 0 ⟨512 + k, by omega⟩ j) := by
  pointwise
theorem ldU0 (x : Vec Ideal S1024x4096 .bf16) (k i : Fin 1024) : View.ld x rU0 (ix2 k i) = x (ix2 k ⟨i, by omega⟩) := by
  pointwise
theorem ldD0 (x : Vec Ideal S4096x1024 .bf16) (i j : Fin 1024) : View.ld x rD0 (ix2 i j) = x (ix2 ⟨i, by omega⟩ j) := by
  pointwise
theorem ldU1 (x : Vec Ideal S1024x4096 .bf16) (k i : Fin 1024) : View.ld x rU1 (ix2 k i) = x (ix2 k ⟨1024 + i, by omega⟩) := by
  pointwise
theorem ldD1 (x : Vec Ideal S4096x1024 .bf16) (i j : Fin 1024) : View.ld x rD1 (ix2 i j) = x (ix2 ⟨1024 + i, by omega⟩ j) := by
  pointwise
theorem ldU2 (x : Vec Ideal S1024x4096 .bf16) (k i : Fin 1024) : View.ld x rU2 (ix2 k i) = x (ix2 k ⟨2048 + i, by omega⟩) := by
  pointwise
theorem ldD2 (x : Vec Ideal S4096x1024 .bf16) (i j : Fin 1024) : View.ld x rD2 (ix2 i j) = x (ix2 ⟨2048 + i, by omega⟩ j) := by
  pointwise
theorem ldU3 (x : Vec Ideal S1024x4096 .bf16) (k i : Fin 1024) : View.ld x rU3 (ix2 k i) = x (ix2 k ⟨3072 + i, by omega⟩) := by
  pointwise
theorem ldD3 (x : Vec Ideal S4096x1024 .bf16) (i j : Fin 1024) : View.ld x rD3 (ix2 i j) = x (ix2 ⟨3072 + i, by omega⟩ j) := by
  pointwise

/-! ## The stored block -/

/-- A row of the two projected parts, side by side. -/
def cat (p q : Vec Ideal S1x512x512 .bf16) (n : Fin 512) (k : Fin 1024) : EReal :=
  if h : (k : ℕ) < 512 then p (ix3 0 n ⟨k, h⟩) else q (ix3 0 n ⟨k - 512, by omega⟩)

/-- The projection's sum is the two parts' sums. -/
theorem sum_cat (p q : Vec Ideal S1x512x512 .bf16) (n : Fin 512) (w : Fin 1024 → EReal) :
    ∑ k, cat p q n k * w k = ∑ k : Fin 512, p (ix3 0 n k) * w ⟨k, by omega⟩ + ∑ k : Fin 512, q (ix3 0 n k) * w ⟨512 + k, by omega⟩ := by
  rw [Fin.sum_univ_two_halves 512 512 rfl]
  refine congrArg₂ _ (Finset.sum_congr rfl fun k _ => ?_) (Finset.sum_congr rfl fun k _ => ?_)
  · rw [cat, dif_pos k.isLt]
  · rw [cat, dif_neg (by simp)]
    simp only [Nat.add_sub_cancel_left]

variable (x : Vec Ideal S1x512x1024 .f32) (p q : Vec Ideal S1x512x512 .bf16) (g1 sh sc g2 : Vec Ideal S1x1x1x1x1024 .f32)
    (ng : Vec Ideal S1x1024 .f32) (W : Vec Ideal S1x1024x1024 .f32) (U : Vec Ideal S1024x4096 .bf16)
    (D : Vec Ideal S4096x1024 .bf16)

/-- The stored block from what the body loads, at an index. -/
theorem store_at (lx : Vec Ideal S1x512x1024 .f32) (lp lq : Vec Ideal S1x512x512 .bf16) (lW0 lW1 : Vec Ideal S1x512x1024 .f32)
    (lg1 lsh lsc lg2 : Vec Ideal S1x1x1x1x1024 .f32) (lng : Vec Ideal S1x1024 .f32)
    (lu0 lu1 lu2 lu3 ld0 ld1 ld2 ld3 : Vec Ideal S1024x1024 .bf16)
    (hx : ∀ n k, lx (ix3 0 n k) = x (ix3 0 n k)) (hp : ∀ n k, lp (ix3 0 n k) = p (ix3 0 n k))
    (hq : ∀ n k, lq (ix3 0 n k) = q (ix3 0 n k)) (hW0 : ∀ (k : Fin 512) j, lW0 (ix3 0 k j) = W (ix3 0 ⟨k, by omega⟩ j))
    (hW1 : ∀ (k : Fin 512) j, lW1 (ix3 0 k j) = W (ix3 0 ⟨512 + k, by omega⟩ j))
    (h1 : ∀ k, lg1 (ix5 0 0 0 0 k) = g1 (ix5 0 0 0 0 k)) (hsh : ∀ k, lsh (ix5 0 0 0 0 k) = sh (ix5 0 0 0 0 k))
    (hsc : ∀ k, lsc (ix5 0 0 0 0 k) = sc (ix5 0 0 0 0 k)) (h2 : ∀ k, lg2 (ix5 0 0 0 0 k) = g2 (ix5 0 0 0 0 k))
    (hng : ∀ k, lng (ix2 0 k) = ng (ix2 0 k))
    (hu0 : ∀ (k i : Fin 1024), lu0 (ix2 k i) = U (ix2 k ⟨i, by omega⟩))
    (hu1 : ∀ (k i : Fin 1024), lu1 (ix2 k i) = U (ix2 k ⟨1024 + i, by omega⟩))
    (hu2 : ∀ (k i : Fin 1024), lu2 (ix2 k i) = U (ix2 k ⟨2048 + i, by omega⟩))
    (hu3 : ∀ (k i : Fin 1024), lu3 (ix2 k i) = U (ix2 k ⟨3072 + i, by omega⟩))
    (hd0 : ∀ (i j : Fin 1024), ld0 (ix2 i j) = D (ix2 ⟨i, by omega⟩ j))
    (hd1 : ∀ (i j : Fin 1024), ld1 (ix2 i j) = D (ix2 ⟨1024 + i, by omega⟩ j))
    (hd2 : ∀ (i j : Fin 1024), ld2 (ix2 i j) = D (ix2 ⟨2048 + i, by omega⟩ j))
    (hd3 : ∀ (i j : Fin 1024), ld3 (ix2 i j) = D (ix2 ⟨3072 + i, by omega⟩ j)) (n : Fin 512) (j : Fin 1024) :
    k0_pay1 (k0_pay3 lp lW0 lq lW1 lx lg1)
        (k0_pay7 (k0_pay3 lp lW0 lq lW1 lx lg1) (k0_pay4 lng) (k0_pay5 lsc) (k0_pay6 lsh))
        (k0_pay8 (k0_pay3 lp lW0 lq lW1 lx lg1) (k0_pay4 lng) (k0_pay5 lsc) (k0_pay6 lsh) lu0 ld0 lu1 ld1)
        lu2 ld2 lu3 ld3 lg2 (ix3 0 n j)
      = row (fun k => x (ix3 0 n k)) (fun k => g1 (ix5 0 0 0 0 k)) (cat p q n) (fun k j => W (ix3 0 k j))
          (fun k => ng (ix2 0 k)) (fun k => sc (ix5 0 0 0 0 k)) (fun k => sh (ix5 0 0 0 0 k)) (fun k => g2 (ix5 0 0 0 0 k))
          (fun k i => U (ix2 k i)) (fun i j => D (ix2 i j)) j := by
  rw [pay1_at, pay8_at]
  simp only [pay7_at, pay3_at, hx, hp, hq, hW0, hW1, h1, hsh, hsc, h2, hng, hu0, hu1, hu2, hu3, hd0, hd1, hd2, hd3]
  unfold row ffn
  rw [sum_four]
  unfold res
  simp only [sum_cat]

theorem payA_at (n : Fin 512) (j : Fin 1024) :
    payA x p q g1 sh sc g2 ng W U D (ix3 0 n j)
      = row (fun k => x (ix3 0 n k)) (fun k => g1 (ix5 0 0 0 0 k)) (cat p q n) (fun k j => W (ix3 0 k j))
          (fun k => ng (ix2 0 k)) (fun k => sc (ix5 0 0 0 0 k)) (fun k => sh (ix5 0 0 0 0 k)) (fun k => g2 (ix5 0 0 0 0 k))
          (fun k i => U (ix2 k i)) (fun i j => D (ix2 i j)) j := by
  unfold payA
  exact store_at x p q g1 sh sc g2 ng W U D _ _ _ _ _ _ _ _ _ _ _ _ _ _ _ _ _ _ (ldX x) (ldP p) (ldP q) (ldO0 W) (ldO1 W)
    (ldM g1) (ldM sh) (ldM sc) (ldM g2) (ldG ng) (ldU0 U) (ldU1 U) (ldU2 U) (ldU3 U) (ldD0 D) (ldD1 D) (ldD2 D) (ldD3 D) n j

theorem payB_at (n : Fin 512) (j : Fin 1024) :
    payB x p q g1 sh sc g2 ng W U D (ix3 0 n j) = payA x p q g1 sh sc g2 ng W U D (ix3 0 n j) := rfl

/-- The first result's buffer after the body, at an index. -/
theorem outA_at (n : Fin 512) (j : Fin 1024) :
    outA x p q g1 sh sc g2 ng W U D (ix3 0 n j) = payA x p q g1 sh sc g2 ng W U D (ix3 0 n j) := by
  unfold outA
  generalize payA x p q g1 sh sc g2 ng W U D = v
  canon_tiles y h
  idx_vars y
  rw [show y0 = 0 from Subsingleton.elim _ _, show y1 = n from Fin.ext h1.symm, show y2 = j from Fin.ext h2.symm]

/-- The second result's buffer after the body, at an index. -/
theorem outB_at (n : Fin 512) (j : Fin 1024) :
    outB x p q g1 sh sc g2 ng W U D (ix3 0 n j) = payB x p q g1 sh sc g2 ng W U D (ix3 0 n j) := by
  unfold outB
  generalize payB x p q g1 sh sc g2 ng W U D = v
  canon_tiles y h
  idx_vars y
  rw [show y0 = 0 from Subsingleton.elim _ _, show y1 = n from Fin.ext h1.symm, show y2 = j from Fin.ext h2.symm]

end Cert.Mlp

end
-- ==== Proof.Mlp.Ref.lean ====
module

public import proofs.«01_k».proof.Proof.Mlp.Spec
public import proofs.«01_k».proof.Proof.Gen.ReferenceIdeal.Read
public import Idealize.ShloMosaic.Lib.Pipeline.ValueKit

/-!
The reference's stages at an index: each result's row is the specification's.
-/

@[expose] public section

set_option maxRecDepth 16384

noncomputable section

namespace Cert.Mlp

open Idealize.ShloMosaic Idealize.ShloMosaic.TcCoe Idealize.SL.Sem Cert.ReferenceIdeal Cert.ReferenceIdeal.Gen
open Cert.ReferenceIdeal.Read

variable (x0 : FVec Ideal S16x256x1024 .f32) (x1 x2 : FVec Ideal S16x256x512 .f32)
    (x6 : FVec Ideal S2x6144 .f32) (x8 : FVec Ideal S2x1024 .f32) (x9 : FVec Ideal S1x1024x1024 .f32)
    (x10 : FVec Ideal S2x1024x4096 .f32) (x11 : FVec Ideal S2x4096x1024 .f32)

/-- A row of the two projected parts, side by side. -/
def catP (p : Fin 16) (t : Fin 256) (k : Fin 1024) : EReal :=
  if h : (k : ℕ) < 512 then x1 (ix3 p t ⟨k, h⟩) else x2 (ix3 p t ⟨k - 512, by omega⟩)

/-- A chunk of the modulation row. -/
def modP (i : Fin 6) (k : Fin 1024) : EReal := x6 (ix2 1 ⟨i * 1024 + k, by omega⟩)

theorem v10_at (p : Fin 16) (t : Fin 256) (k : Fin 1024) : val_main_v10 (F := Ideal) x1 x2 (ix3 p t k) = catP x1 x2 p t k := by
  pointwise [val_main_v10, catP]

theorem v6_at (k : Fin 1024) : val_main_v6 (F := Ideal) x6 (ix3 0 0 k) = modP x6 2 k := by
  pointwise [val_main_v6, val_main_v3, val_main_v2, val_main_v1, val_main_v0, modP]
theorem v7_at (k : Fin 1024) : val_main_v7 (F := Ideal) x6 (ix3 0 0 k) = modP x6 3 k := by
  pointwise [val_main_v7, val_main_v3, val_main_v2, val_main_v1, val_main_v0, modP]
theorem v8_at (k : Fin 1024) : val_main_v8 (F := Ideal) x6 (ix3 0 0 k) = modP x6 4 k := by
  pointwise [val_main_v8, val_main_v3, val_main_v2, val_main_v1, val_main_v0, modP]
theorem v9_at (k : Fin 1024) : val_main_v9 (F := Ideal) x6 (ix3 0 0 k) = modP x6 5 k := by
  pointwise [val_main_v9, val_main_v3, val_main_v2, val_main_v1, val_main_v0, modP]

/-- The row after the gated projection is added. -/
theorem v15_at (p : Fin 16) (t : Fin 256) (j : Fin 1024) :
    val_main_v15 (F := Ideal) x0 x1 x2 x6 x9 (ix3 p t j)
      = res (fun k => x0 (ix3 p t k)) (modP x6 2) (catP x1 x2 p t) (fun k j => x9 (ix3 0 k j)) j := by
  unfold res
  simp only [← v6_at, ← v10_at]
  unfold val_main_v15 val_main_v14 val_main_v13 val_main_v12 val_main_v11
  generalize val_main_v6 (F := Ideal) x6 = g
  generalize val_main_v10 (F := Ideal) x1 x2 = q
  pointwise

/-- The row normalised, weighted, scaled and shifted. -/
theorem v36_at (p : Fin 16) (t : Fin 256) (j : Fin 1024) :
    val_main_v36 (F := Ideal) x0 x1 x2 x6 x8 x9 (ix3 p t j)
      = hid (fun k => val_main_v15 (F := Ideal) x0 x1 x2 x6 x9 (ix3 p t k)) (fun k => x8 (ix2 1 k)) (modP x6 4) (modP x6 3) j := by
  unfold hid
  simp only [← v8_at, ← v7_at]
  unfold val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19
    val_main_v18 val_main_v17 val_main_v16 val_main_cst val_main_cst_0 val_main_cst_1 val_main_cst_2
  generalize val_main_v15 (F := Ideal) x0 x1 x2 x6 x9 = r
  generalize val_main_v8 (F := Ideal) x6 = g
  generalize val_main_v7 (F := Ideal) x6 = q
  pointwise

/-- One activation. -/
theorem v41_at (p : Fin 16) (t : Fin 256) (i : Fin 4096) :
    val_main_v41 (F := Ideal) x0 x1 x2 x6 x8 x9 x10 (ix3 p t i)
      = act (fun k => val_main_v36 (F := Ideal) x0 x1 x2 x6 x8 x9 (ix3 p t k)) (fun k => x10 (ix3 1 k i)) := by
  unfold val_main_v41 val_main_v40 val_main_v39 val_main_v38 val_main_v37 val_main_call0_v0 val_main_call0_cst
  generalize val_main_v36 (F := Ideal) x0 x1 x2 x6 x8 x9 = h
  pointwise [act]

/-- The first result's row. -/
theorem v47_at (p : Fin 16) (t : Fin 256) (j : Fin 1024) :
    val_main_v47 (F := Ideal) x0 x1 x2 x6 x8 x9 x10 x11 (ix3 p t j)
      = row (fun k => x0 (ix3 p t k)) (modP x6 2) (catP x1 x2 p t) (fun k j => x9 (ix3 0 k j)) (fun k => x8 (ix2 1 k))
          (modP x6 4) (modP x6 3) (modP x6 5) (fun k i => x10 (ix3 1 k i)) (fun i j => x11 (ix3 1 i j)) j := by
  have e : res (fun k => x0 (ix3 p t k)) (modP x6 2) (catP x1 x2 p t) (fun k j => x9 (ix3 0 k j))
      = fun k => val_main_v15 (F := Ideal) x0 x1 x2 x6 x9 (ix3 p t k) := funext fun k => (v15_at x0 x1 x2 x6 x9 p t k).symm
  have e' : hid (fun k => val_main_v15 (F := Ideal) x0 x1 x2 x6 x9 (ix3 p t k)) (fun k => x8 (ix2 1 k)) (modP x6 4) (modP x6 3)
      = fun k => val_main_v36 (F := Ideal) x0 x1 x2 x6 x8 x9 (ix3 p t k) := funext fun k => (v36_at x0 x1 x2 x6 x8 x9 p t k).symm
  unfold row
  rw [e, e']
  unfold ffn
  simp only [← v41_at, ← v9_at]
  unfold val_main_v47 val_main_v46 val_main_v45 val_main_v44 val_main_v43 val_main_v42
  generalize val_main_v41 (F := Ideal) x0 x1 x2 x6 x8 x9 x10 = a
  generalize val_main_v15 (F := Ideal) x0 x1 x2 x6 x9 = r
  generalize val_main_v9 (F := Ideal) x6 = g
  pointwise

/-- The first result laid out in one row of rows. -/
theorem v95_at (n : Fin 4096) (j : Fin 1024) :
    val_main_v95 (F := Ideal) x0 x1 x2 x6 x8 x9 x10 x11 (ix3 0 n j)
      = val_main_v47 (F := Ideal) x0 x1 x2 x6 x8 x9 x10 x11 (ix3 ⟨n / 256, by omega⟩ ⟨n % 256, by omega⟩ j) := by
  unfold val_main_v95
  generalize val_main_v47 (F := Ideal) x0 x1 x2 x6 x8 x9 x10 x11 = a
  pointwise

variable (x3 : FVec Ideal S2x4096x1024 .f32) (x4 x5 : FVec Ideal S2x4096x512 .f32) (x7 : FVec Ideal S2x2x6144 .f32)

/-- A row of the sample's two projected parts, side by side. -/
def catS (b : Fin 2) (n : Fin 4096) (k : Fin 1024) : EReal :=
  if h : (k : ℕ) < 512 then x4 (ix3 b n ⟨k, h⟩) else x5 (ix3 b n ⟨k - 512, by omega⟩)

/-- A chunk of a sample's modulation row. -/
def modS (b : Fin 2) (i : Fin 6) (k : Fin 1024) : EReal := x7 (ix3 1 b ⟨i * 1024 + k, by omega⟩)

theorem v57_at (b : Fin 2) (n : Fin 4096) (k : Fin 1024) : val_main_v57 (F := Ideal) x4 x5 (ix3 b n k) = catS x4 x5 b n k := by
  pointwise [val_main_v57, catS]

theorem v53_at (b : Fin 2) (k : Fin 1024) : val_main_v53 (F := Ideal) x7 (ix3 b 0 k) = modS x7 b 2 k := by
  pointwise [val_main_v53, val_main_v50, val_main_v49, val_main_v48, modS]
theorem v54_at (b : Fin 2) (k : Fin 1024) : val_main_v54 (F := Ideal) x7 (ix3 b 0 k) = modS x7 b 3 k := by
  pointwise [val_main_v54, val_main_v50, val_main_v49, val_main_v48, modS]
theorem v55_at (b : Fin 2) (k : Fin 1024) : val_main_v55 (F := Ideal) x7 (ix3 b 0 k) = modS x7 b 4 k := by
  pointwise [val_main_v55, val_main_v50, val_main_v49, val_main_v48, modS]
theorem v56_at (b : Fin 2) (k : Fin 1024) : val_main_v56 (F := Ideal) x7 (ix3 b 0 k) = modS x7 b 5 k := by
  pointwise [val_main_v56, val_main_v50, val_main_v49, val_main_v48, modS]

/-- The row after the gated projection is added. -/
theorem v62_at (b : Fin 2) (n : Fin 4096) (j : Fin 1024) :
    val_main_v62 (F := Ideal) x3 x4 x5 x7 x9 (ix3 b n j)
      = res (fun k => x3 (ix3 b n k)) (modS x7 b 2) (catS x4 x5 b n) (fun k j => x9 (ix3 0 k j)) j := by
  unfold res
  simp only [← v53_at, ← v57_at]
  unfold val_main_v62 val_main_v61 val_main_v60 val_main_v59 val_main_v58
  generalize val_main_v53 (F := Ideal) x7 = g
  generalize val_main_v57 (F := Ideal) x4 x5 = q
  pointwise

/-- The row normalised, weighted, scaled and shifted. -/
theorem v83_at (b : Fin 2) (n : Fin 4096) (j : Fin 1024) :
    val_main_v83 (F := Ideal) x3 x4 x5 x7 x8 x9 (ix3 b n j)
      = hid (fun k => val_main_v62 (F := Ideal) x3 x4 x5 x7 x9 (ix3 b n k)) (fun k => x8 (ix2 1 k)) (modS x7 b 4) (modS x7 b 3) j := by
  unfold hid
  simp only [← v55_at, ← v54_at]
  unfold val_main_v83 val_main_v82 val_main_v81 val_main_v80 val_main_v79 val_main_v78 val_main_v77 val_main_v76 val_main_v75
    val_main_v74 val_main_v73 val_main_v72 val_main_v71 val_main_v70 val_main_v69 val_main_v68 val_main_v67 val_main_v66
    val_main_v65 val_main_v64 val_main_v63 val_main_cst_3 val_main_cst_4 val_main_cst_5 val_main_cst_6
  generalize val_main_v62 (F := Ideal) x3 x4 x5 x7 x9 = r
  generalize val_main_v55 (F := Ideal) x7 = g
  generalize val_main_v54 (F := Ideal) x7 = q
  pointwise

/-- One activation. -/
theorem v88_at (b : Fin 2) (n : Fin 4096) (i : Fin 4096) :
    val_main_v88 (F := Ideal) x3 x4 x5 x7 x8 x9 x10 (ix3 b n i)
      = act (fun k => val_main_v83 (F := Ideal) x3 x4 x5 x7 x8 x9 (ix3 b n k)) (fun k => x10 (ix3 1 k i)) := by
  unfold val_main_v88 val_main_v87 val_main_v86 val_main_v85 val_main_v84 val_main_call1_v0 val_main_call1_cst
  generalize val_main_v83 (F := Ideal) x3 x4 x5 x7 x8 x9 = h
  pointwise [act]

/-- The second result's row. -/
theorem v94_at (b : Fin 2) (n : Fin 4096) (j : Fin 1024) :
    val_main_v94 (F := Ideal) x3 x4 x5 x7 x8 x9 x10 x11 (ix3 b n j)
      = row (fun k => x3 (ix3 b n k)) (modS x7 b 2) (catS x4 x5 b n) (fun k j => x9 (ix3 0 k j)) (fun k => x8 (ix2 1 k))
          (modS x7 b 4) (modS x7 b 3) (modS x7 b 5) (fun k i => x10 (ix3 1 k i)) (fun i j => x11 (ix3 1 i j)) j := by
  have e : res (fun k => x3 (ix3 b n k)) (modS x7 b 2) (catS x4 x5 b n) (fun k j => x9 (ix3 0 k j))
      = fun k => val_main_v62 (F := Ideal) x3 x4 x5 x7 x9 (ix3 b n k) := funext fun k => (v62_at _ _ _ _ _ b n k).symm
  have e' : hid (fun k => val_main_v62 (F := Ideal) x3 x4 x5 x7 x9 (ix3 b n k)) (fun k => x8 (ix2 1 k)) (modS x7 b 4) (modS x7 b 3)
      = fun k => val_main_v83 (F := Ideal) x3 x4 x5 x7 x8 x9 (ix3 b n k) := funext fun k => (v83_at _ _ _ _ _ _ b n k).symm
  unfold row
  rw [e, e']
  unfold ffn
  simp only [← v88_at, ← v56_at]
  unfold val_main_v94 val_main_v93 val_main_v92 val_main_v91 val_main_v90 val_main_v89
  generalize val_main_v88 (F := Ideal) x3 x4 x5 x7 x8 x9 x10 = a
  generalize val_main_v62 (F := Ideal) x3 x4 x5 x7 x9 = r
  generalize val_main_v56 (F := Ideal) x7 = g
  pointwise

/-- The first result, row by row. -/
def arrP : FVec Ideal S1x4096x1024 .f32 := fun y =>
  row (fun k => x0 (ix3 ⟨(y 1).val / 256, by have := (y 1).isLt; simp at this; omega⟩ ⟨(y 1).val % 256, by omega⟩ k)) (modP x6 2)
    (catP x1 x2 ⟨(y 1).val / 256, by have := (y 1).isLt; simp at this; omega⟩ ⟨(y 1).val % 256, by omega⟩) (fun k j => x9 (ix3 0 k j)) (fun k => x8 (ix2 1 k))
    (modP x6 4) (modP x6 3) (modP x6 5) (fun k i => x10 (ix3 1 k i)) (fun i j => x11 (ix3 1 i j)) (y 2)

/-- The second result, row by row. -/
def arrS : FVec Ideal S2x4096x1024 .f32 := fun y =>
  row (fun k => x3 (ix3 (y 0) (y 1) k)) (modS x7 (y 0) 2) (catS x4 x5 (y 0) (y 1)) (fun k j => x9 (ix3 0 k j)) (fun k => x8 (ix2 1 k))
    (modS x7 (y 0) 4) (modS x7 (y 0) 3) (modS x7 (y 0) 5) (fun k i => x10 (ix3 1 k i)) (fun i j => x11 (ix3 1 i j)) (y 2)

/-- The reference's first result is that array. -/
theorem ref_P : val_main_v95 (F := Ideal) x0 x1 x2 x6 x8 x9 x10 x11 = arrP x0 x1 x2 x6 x8 x9 x10 x11 := by
  funext y
  obtain ⟨y0, n, j, rfl⟩ : ∃ (y0 : Fin 1) (n : Fin 4096) (j : Fin 1024), y = ix3 y0 n j := ⟨y 0, y 1, y 2, by idx_ext⟩
  obtain rfl : y0 = 0 := Subsingleton.elim _ _
  rw [v95_at, v47_at]
  rfl

/-- The reference's second result is that array. -/
theorem ref_S : val_main_v94 (F := Ideal) x3 x4 x5 x7 x8 x9 x10 x11 = arrS x8 x9 x10 x11 x3 x4 x5 x7 := by
  funext y
  obtain ⟨b, n, j, rfl⟩ : ∃ (b : Fin 2) (n : Fin 4096) (j : Fin 1024), y = ix3 b n j := ⟨y 0, y 1, y 2, by idx_ext⟩
  rw [v94_at]
  rfl

end Cert.Mlp

end
-- ==== Proof.Mlp.Array.lean ====
module

public import proofs.«01_k».proof.Proof.Mlp.Host
public import proofs.«01_k».proof.Proof.Mlp.Block
public import proofs.«01_k».proof.Proof.Mlp.Run
public import proofs.«01_k».proof.Proof.Mlp.Ref
public import Idealize.ShloMosaic.Lib.Pipeline.ValueKit

/-!
The arrays that the call returns: every block's rows are the specification's.
-/

@[expose] public section

set_option maxRecDepth 16384

noncomputable section

namespace Cert.Mlp

open Idealize.ShloMosaic Idealize.ShloMosaic.TcCoe Idealize.SL.Sem Cert.KernelIdeal Cert.KernelIdeal.Gen
open Idealize.ShloMosaic.Pipeline (Dat)

/-- The blocks' places. -/
theorem idx : ∀ t : Fin cfg0.N,
    win0_0.index t = ![0, min t.val 7, 0] ∧ win0_1.index t = ![0, min t.val 7, 0] ∧ win0_2.index t = ![0, min t.val 7, 0]
    ∧ win0_3.index t = ![(t.val - 8) / 8, (t.val - 8) % 8, 0] ∧ win0_4.index t = ![(t.val - 8) / 8, (t.val - 8) % 8, 0]
    ∧ win0_5.index t = ![(t.val - 8) / 8, (t.val - 8) % 8, 0]
    ∧ win0_6.index t = ![1, t.val / 8, 2, 0, 0] ∧ win0_7.index t = ![1, t.val / 8, 3, 0, 0]
    ∧ win0_8.index t = ![1, t.val / 8, 4, 0, 0] ∧ win0_9.index t = ![1, t.val / 8, 5, 0, 0]
    ∧ win0_10.index t = ![0, 0] ∧ win0_11.index t = ![0, 0, 0] ∧ win0_12.index t = ![0, 0] ∧ win0_13.index t = ![0, 0]
    ∧ win0_14.index t = ![0, min t.val 7, 0] ∧ win0_15.index t = ![(t.val - 8) / 8, (t.val - 8) % 8, 0] :=
  (by decide +kernel : ∀ t : Fin grid0.N, _)

variable (m : (ℓ : Loc nD τ sig) → Buf (Elt Ideal) ℓ) (c : Dev nD)

/-- The prompt's rows, a block of it. -/
theorem blk0 (t : Fin cfg0.N) (i : Fin 8) (hi : min t.val 7 = i) (n : Fin 512) (k : Fin 1024) :
    (iblk m c 0 t : Vec Ideal S1x512x1024 .f32) (ix3 0 n k)
      = (m ((c : Thread nD τ).loc main_arg0) : FVec Ideal S16x256x1024 .f32)
          (ix3 ⟨(512 * i + n) / 256, by omega⟩ ⟨(512 * i + n) % 256, by omega⟩ k) := by
  rw [← V4_at m c ⟨512 * i + n, by omega⟩ k]
  blk_ext [iblk, idx t, hi]

/-- The prompt's first projected part, a block of it. -/
theorem blk1 (t : Fin cfg0.N) (i : Fin 8) (hi : min t.val 7 = i) (n : Fin 512) (k : Fin 512) :
    (iblk m c 1 t : Vec Ideal S1x512x512 .bf16) (ix3 0 n k)
      = (m ((c : Thread nD τ).loc main_arg1) : FVec Ideal S16x256x512 .f32)
          (ix3 ⟨(512 * i + n) / 256, by omega⟩ ⟨(512 * i + n) % 256, by omega⟩ k) := by
  rw [← V6_at m c ⟨512 * i + n, by omega⟩ k]
  blk_ext [iblk, idx t, hi]

/-- The prompt's second projected part, a block of it. -/
theorem blk2 (t : Fin cfg0.N) (i : Fin 8) (hi : min t.val 7 = i) (n : Fin 512) (k : Fin 512) :
    (iblk m c 2 t : Vec Ideal S1x512x512 .bf16) (ix3 0 n k)
      = (m ((c : Thread nD τ).loc main_arg2) : FVec Ideal S16x256x512 .f32)
          (ix3 ⟨(512 * i + n) / 256, by omega⟩ ⟨(512 * i + n) % 256, by omega⟩ k) := by
  rw [← V8_at m c ⟨512 * i + n, by omega⟩ k]
  blk_ext [iblk, idx t, hi]

/-- The sample's rows, a block of it. -/
theorem blk3 (t : Fin cfg0.N) (b : Fin 2) (i : Fin 8) (hb : (t.val - 8) / 8 = b) (hi : (t.val - 8) % 8 = i) (n : Fin 512) (k : Fin 1024) :
    (iblk m c 3 t : Vec Ideal S1x512x1024 .f32) (ix3 0 n k)
      = (m ((c : Thread nD τ).loc main_arg3) : FVec Ideal S2x4096x1024 .f32) (ix3 b ⟨512 * i + n, by omega⟩ k) := by
  rw [← V_main_arg3 m c]
  blk_ext [iblk, idx t, hb, hi]

/-- The sample's first projected part, a block of it. -/
theorem blk4 (t : Fin cfg0.N) (b : Fin 2) (i : Fin 8) (hb : (t.val - 8) / 8 = b) (hi : (t.val - 8) % 8 = i) (n : Fin 512) (k : Fin 512) :
    (iblk m c 4 t : Vec Ideal S1x512x512 .bf16) (ix3 0 n k)
      = (m ((c : Thread nD τ).loc main_arg4) : FVec Ideal S2x4096x512 .f32) (ix3 b ⟨512 * i + n, by omega⟩ k) := by
  rw [← V9_at m c b ⟨512 * i + n, by omega⟩ k]
  blk_ext [iblk, idx t, hb, hi]

/-- The sample's second projected part, a block of it. -/
theorem blk5 (t : Fin cfg0.N) (b : Fin 2) (i : Fin 8) (hb : (t.val - 8) / 8 = b) (hi : (t.val - 8) % 8 = i) (n : Fin 512) (k : Fin 512) :
    (iblk m c 5 t : Vec Ideal S1x512x512 .bf16) (ix3 0 n k)
      = (m ((c : Thread nD τ).loc main_arg5) : FVec Ideal S2x4096x512 .f32) (ix3 b ⟨512 * i + n, by omega⟩ k) := by
  rw [← V10_at m c b ⟨512 * i + n, by omega⟩ k]
  blk_ext [iblk, idx t, hb, hi]

/-- A chunk of the modulation rows, the row of a point. -/
theorem blk6 (t : Fin cfg0.N) (r : Fin 8) (hr : t.val / 8 = r) (k : Fin 1024) :
    (iblk m c 6 t : Vec Ideal S1x1x1x1x1024 .f32) (ix5 0 0 0 0 k)
      = (V m c main_v3 : FVec Ideal S2x8x6x1x1024 .f32) (ix5 1 r 2 0 k) := by
  blk_ext [iblk, idx t, hr]

/-- A chunk of the modulation rows, the row of a point. -/
theorem blk7 (t : Fin cfg0.N) (r : Fin 8) (hr : t.val / 8 = r) (k : Fin 1024) :
    (iblk m c 7 t : Vec Ideal S1x1x1x1x1024 .f32) (ix5 0 0 0 0 k)
      = (V m c main_v3 : FVec Ideal S2x8x6x1x1024 .f32) (ix5 1 r 3 0 k) := by
  blk_ext [iblk, idx t, hr]

/-- A chunk of the modulation rows, the row of a point. -/
theorem blk8 (t : Fin cfg0.N) (r : Fin 8) (hr : t.val / 8 = r) (k : Fin 1024) :
    (iblk m c 8 t : Vec Ideal S1x1x1x1x1024 .f32) (ix5 0 0 0 0 k)
      = (V m c main_v3 : FVec Ideal S2x8x6x1x1024 .f32) (ix5 1 r 4 0 k) := by
  blk_ext [iblk, idx t, hr]

/-- A chunk of the modulation rows, the row of a point. -/
theorem blk9 (t : Fin cfg0.N) (r : Fin 8) (hr : t.val / 8 = r) (k : Fin 1024) :
    (iblk m c 9 t : Vec Ideal S1x1x1x1x1024 .f32) (ix5 0 0 0 0 k)
      = (V m c main_v3 : FVec Ideal S2x8x6x1x1024 .f32) (ix5 1 r 5 0 k) := by
  blk_ext [iblk, idx t, hr]

/-- The normalisation's weights' block. -/
theorem blk10 (t : Fin cfg0.N) (k : Fin 1024) :
    (iblk m c 10 t : Vec Ideal S1x1024 .f32) (ix2 0 k) = (m ((c : Thread nD τ).loc main_arg8) : FVec Ideal S2x1024 .f32) (ix2 1 k) := by
  rw [← V13_at m c k]
  blk_ext [iblk, idx t]

/-- The projection's block. -/
theorem blk11 (t : Fin cfg0.N) (k j : Fin 1024) :
    (iblk m c 11 t : Vec Ideal S1x1024x1024 .f32) (ix3 0 k j) = (m ((c : Thread nD τ).loc main_arg9) : FVec Ideal S1x1024x1024 .f32) (ix3 0 k j) := by
  rw [← V_main_arg9 m c]
  blk_ext [iblk, idx t]

/-- The first feed-forward weights' block. -/
theorem blk12 (t : Fin cfg0.N) (k : Fin 1024) (i : Fin 4096) :
    (iblk m c 12 t : Vec Ideal S1024x4096 .bf16) (ix2 k i) = (m ((c : Thread nD τ).loc main_arg10) : FVec Ideal S2x1024x4096 .f32) (ix3 1 k i) := by
  rw [← V16_at m c k i]
  blk_ext [iblk, idx t]

/-- The second feed-forward weights' block. -/
theorem blk13 (t : Fin cfg0.N) (i : Fin 4096) (j : Fin 1024) :
    (iblk m c 13 t : Vec Ideal S4096x1024 .bf16) (ix2 i j) = (m ((c : Thread nD τ).loc main_arg11) : FVec Ideal S2x4096x1024 .f32) (ix3 1 i j) := by
  rw [← V19_at m c i j]
  blk_ext [iblk, idx t]

/-- The prompt's joined parts. -/
theorem cat_P (t : Fin cfg0.N) (i : Fin 8) (hi : min t.val 7 = i) (n : Fin 512) :
    cat (iblk m c 1 t : Vec Ideal S1x512x512 .bf16) (iblk m c 2 t : Vec Ideal S1x512x512 .bf16) n
      = catP (m ((c : Thread nD τ).loc main_arg1)) (m ((c : Thread nD τ).loc main_arg2))
          ⟨(512 * i + n) / 256, by omega⟩ ⟨(512 * i + n) % 256, by omega⟩ := by
  funext k
  unfold cat catP
  split
  · exact blk1 m c t i hi n _
  · exact blk2 m c t i hi n _

/-- The sample's joined parts. -/
theorem cat_S (t : Fin cfg0.N) (b : Fin 2) (i : Fin 8) (hb : (t.val - 8) / 8 = b) (hi : (t.val - 8) % 8 = i) (n : Fin 512) :
    cat (iblk m c 4 t : Vec Ideal S1x512x512 .bf16) (iblk m c 5 t : Vec Ideal S1x512x512 .bf16) n
      = catS (m ((c : Thread nD τ).loc main_arg4)) (m ((c : Thread nD τ).loc main_arg5)) b ⟨512 * i + n, by omega⟩ := by
  funext k
  unfold cat catS
  split
  · exact blk4 m c t b i hb hi n _
  · exact blk5 m c t b i hb hi n _

/-- Equal data give equal rows. -/
theorem row_congr {x x' g1 g1' cd cd' ng ng' sc sc' sh sh' g2 g2' : Fin 1024 → EReal} {W W' : Fin 1024 → Fin 1024 → EReal}
    {U U' : Fin 1024 → Fin 4096 → EReal} {D D' : Fin 4096 → Fin 1024 → EReal} (h1 : x = x') (h2 : g1 = g1') (h3 : cd = cd')
    (h4 : W = W') (h5 : ng = ng') (h6 : sc = sc') (h7 : sh = sh') (h8 : g2 = g2') (h9 : U = U') (h10 : D = D') (j : Fin 1024) :
    row x g1 cd W ng sc sh g2 U D j = row x' g1' cd' W' ng' sc' sh' g2' U' D' j := by
  subst h1 h2 h3 h4 h5 h6 h7 h8 h9 h10
  rfl

/-- A row of a block of the first result. -/
theorem blkA_at (t : Fin cfg0.N) (i : Fin 8) (hi : t.val = i) (n : Fin 512) (j : Fin 1024) :
    outA (iblk m c 0 t) (iblk m c 1 t) (iblk m c 2 t) (iblk m c 6 t) (iblk m c 7 t) (iblk m c 8 t) (iblk m c 9 t) (iblk m c 10 t) (iblk m c 11 t) (iblk m c 12 t) (iblk m c 13 t) (ix3 0 n j)
      = arrP (m ((c : Thread nD τ).loc main_arg0)) (m ((c : Thread nD τ).loc main_arg1)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (ix3 0 ⟨512 * i + n, by omega⟩ j) := by
  have h7 : min t.val 7 = i := by omega
  have h8 : t.val / 8 = (0 : Fin 8) := by
    show t.val / 8 = 0
    omega
  refine (outA_at _ _ _ _ _ _ _ _ _ _ _ n j).trans ((payA_at _ _ _ _ _ _ _ _ _ _ _ n j).trans ?_)
  exact row_congr (funext fun k => blk0 m c t i h7 n k) (funext fun k => (blk6 m c t 0 h8 k).trans (V3_prompt m c 2 k))
    (cat_P m c t i h7 n) (funext fun k => funext fun j => blk11 m c t k j) (funext fun k => blk10 m c t k)
    (funext fun k => (blk8 m c t 0 h8 k).trans (V3_prompt m c 4 k)) (funext fun k => (blk7 m c t 0 h8 k).trans (V3_prompt m c 3 k))
    (funext fun k => (blk9 m c t 0 h8 k).trans (V3_prompt m c 5 k)) (funext fun k => funext fun i => blk12 m c t k i)
    (funext fun i => funext fun j => blk13 m c t i j) j

/-- A row of a block of the second result. -/
theorem blkB_at (t : Fin cfg0.N) (b : Fin 2) (i : Fin 8) (ht : t.val = 8 + 8 * b + i) (n : Fin 512) (j : Fin 1024) :
    outB (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 n j)
      = arrS (m ((c : Thread nD τ).loc main_arg8)) (m ((c : Thread nD τ).loc main_arg9)) (m ((c : Thread nD τ).loc main_arg10)) (m ((c : Thread nD τ).loc main_arg11)) (m ((c : Thread nD τ).loc main_arg3)) (m ((c : Thread nD τ).loc main_arg4)) (m ((c : Thread nD τ).loc main_arg5)) (m ((c : Thread nD τ).loc main_arg7)) (ix3 b ⟨512 * i + n, by omega⟩ j) := by
  have hb : (t.val - 8) / 8 = b := by omega
  have hi : (t.val - 8) % 8 = i := by omega
  have h8 : t.val / 8 = (⟨1 + b, by omega⟩ : Fin 8) := by
    show t.val / 8 = 1 + b
    omega
  refine (outB_at _ _ _ _ _ _ _ _ _ _ _ n j).trans ((payB_at _ _ _ _ _ _ _ _ _ _ _ n j).trans ((payA_at _ _ _ _ _ _ _ _ _ _ _ n j).trans ?_))
  exact row_congr (funext fun k => blk3 m c t b i hb hi n k) (funext fun k => (blk6 m c t _ h8 k).trans (V3_sample m c b 2 k))
    (cat_S m c t b i hb hi n) (funext fun k => funext fun j => blk11 m c t k j) (funext fun k => blk10 m c t k)
    (funext fun k => (blk8 m c t _ h8 k).trans (V3_sample m c b 4 k)) (funext fun k => (blk7 m c t _ h8 k).trans (V3_sample m c b 3 k))
    (funext fun k => (blk9 m c t _ h8 k).trans (V3_sample m c b 5 k)) (funext fun k => funext fun i => blk12 m c t k i)
    (funext fun i => funext fun j => blk13 m c t i j) j

/-- The first result's array, whole. -/
theorem finalA : (dats m 0 c).arrAt 14 cfg0.N = arrP (m ((c : Thread nD τ).loc main_arg0)) (m ((c : Thread nD τ).loc main_arg1)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) := by
  refine (dats m 0 c).arrAt_eq_of_covers 14 _ (by decide +kernel) fun t _ y => ?_
  blk_simp
  rw [after0_14]
  obtain ⟨i, hi⟩ : ∃ i : Fin 8, min t.val 7 = i := ⟨⟨_, by omega⟩, rfl⟩
  obtain ⟨y0, n, j, rfl⟩ : ∃ (y0 : Fin 1) (n : Fin 512) (j : Fin 1024), y = ix3 y0 n j := ⟨y 0, y 1, y 2, by idx_ext⟩
  obtain rfl : y0 = 0 := Subsingleton.elim _ _
  have he : ((win0_14.blk t).view.emb (ix3 0 n j) : S1x4096x1024.Idx) = ix3 0 ⟨512 * i + n, by omega⟩ j := by
    blk_ext [idx t, hi]
  rw [he]
  exact blkA_at m c (tA t) i hi n j

/-- The second result's array, whole. -/
theorem finalB : (dats m 0 c).arrAt 15 cfg0.N = arrS (m ((c : Thread nD τ).loc main_arg8)) (m ((c : Thread nD τ).loc main_arg9)) (m ((c : Thread nD τ).loc main_arg10)) (m ((c : Thread nD τ).loc main_arg11)) (m ((c : Thread nD τ).loc main_arg3)) (m ((c : Thread nD τ).loc main_arg4)) (m ((c : Thread nD τ).loc main_arg5)) (m ((c : Thread nD τ).loc main_arg7)) := by
  refine (dats m 0 c).arrAt_eq_of_covers 15 _ (by decide +kernel) fun t hf y => ?_
  have h8 : 8 ≤ t.val := by
    by_contra hc
    exact Bool.false_ne_true ((flush15_lt t (by omega)).symm.trans hf)
  have h24 : t.val < 24 := t.isLt
  blk_simp
  rw [after0_15]
  obtain ⟨b, hb⟩ : ∃ b : Fin 2, (t.val - 8) / 8 = b := ⟨⟨_, by omega⟩, rfl⟩
  obtain ⟨i, hi⟩ : ∃ i : Fin 8, (t.val - 8) % 8 = i := ⟨⟨_, by omega⟩, rfl⟩
  obtain ⟨y0, n, j, rfl⟩ : ∃ (y0 : Fin 1) (n : Fin 512) (j : Fin 1024), y = ix3 y0 n j := ⟨y 0, y 1, y 2, by idx_ext⟩
  obtain rfl : y0 = 0 := Subsingleton.elim _ _
  have he : ((win0_15.blk t).view.emb (ix3 0 n j) : S2x4096x1024.Idx) = ix3 b ⟨512 * i + n, by omega⟩ j := by
    blk_ext [idx t, hb, hi]
  rw [he]
  exact blkB_at m c t b i (by omega) n j

end Cert.Mlp

end
-- ==== Proof.Mlp.Equation.lean ====
module

public import proofs.«01_k».proof.Defs
public import proofs.«01_k».proof.Proof.Mlp.Array
public import proofs.«01_k».proof.Proof.Mlp.Frame
public import proofs.«01_k».proof.Proof.Mlp.Ref
public import proofs.«01_k».proof.Proof.Gen.ReferenceIdeal.Run
public import Idealize.ShloMosaic.Lib.Claim

/-!
The block's value claim: over the extended reals the call's two arrays are the reference's.
-/

@[expose] public section

set_option maxRecDepth 16384

noncomputable section

namespace Cert.Mlp

open Idealize.ShloMosaic Idealize.ShloMosaic.TcCoe Idealize.SL.Sem

/-- The block is computed as the reference computes it. -/
theorem algebraic : Cert.algebraic_KernelIdeal_ReferenceIdeal := by
  pair_intro
  · run_from Cert.Mlp.run_blocks m g
  · run_from Cert.ReferenceIdeal.Value.run m' g'
    · rw [Cert.ReferenceIdeal.Read.val_main_v95_eq]
      obtain ⟨a0, a1, a2, a3, a4, a5, a6, a7, a8, a9, a10, a11⟩ := hagree c
      rw [a0, a1, a2, a6, a8, a9, a10, a11]
      exact (ref_P _ _ _ _ _ _ _ _).trans (finalA m c).symm
    · rw [Cert.ReferenceIdeal.Read.val_main_v94_eq]
      obtain ⟨a0, a1, a2, a3, a4, a5, a6, a7, a8, a9, a10, a11⟩ := hagree c
      rw [a3, a4, a5, a7, a8, a9, a10, a11]
      exact (ref_S _ _ _ _ _ _ _ _).trans (finalB m c).symm

end Cert.Mlp

end
-- ==== Proof.Mlp0.Body.lean ====
module

public import proofs.«01_k».proof.Proof.Gen.Kernel4Ideal.Frame
public import proofs.«01_k».proof.Proof.Gen.Kernel4Ideal.Skeleton
public import proofs.«01_k».proof.Proof.Mlp.Body
public import Idealize.ShloMosaic.Lib.Pipeline.TableIdle
public import Idealize.ShloMosaic.Lib.Pipeline.FrameBody

/-!
The body of layer 0's residual and feed-forward call, at any values: the blocks that it stores into the two results are
those of layer 1's body, and at every point it also casts a block of each of the next layer's feed-forward weights.
-/

@[expose] public section

set_option maxRecDepth 16384

noncomputable section

namespace Cert.Mlp0

open Cert.Kernel4Ideal Cert.Kernel4Ideal.Gen
open Cert.Mlp (rX payA payB outA outB cover)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two bodies' named pieces are the same -/

theorem pay3_same : @k0_pay3 F _ = @Cert.KernelIdeal.Gen.k0_pay1 F _ := rfl
theorem pay4_same : @k0_pay4 F _ = @Cert.KernelIdeal.Gen.k0_pay2 F _ := rfl
theorem pay5_same : @k0_pay5 F _ = @Cert.KernelIdeal.Gen.k0_pay3 F _ := rfl
theorem pay6_same : @k0_pay6 F = @Cert.KernelIdeal.Gen.k0_pay4 F := rfl
theorem pay7_same : @k0_pay7 F = @Cert.KernelIdeal.Gen.k0_pay5 F := rfl
theorem pay8_same : @k0_pay8 F = @Cert.KernelIdeal.Gen.k0_pay6 F := rfl
theorem pay9_same : @k0_pay9 F _ = @Cert.KernelIdeal.Gen.k0_pay7 F _ := rfl
theorem pay10_same : @k0_pay10 F _ = @Cert.KernelIdeal.Gen.k0_pay8 F _ := rfl
theorem pay11_same : @k0_pay11 F _ = @Cert.KernelIdeal.Gen.k0_pay9 F _ := rfl
theorem pay12_same : @k0_pay12 F = @Cert.KernelIdeal.Gen.k0_pay10 F := rfl
theorem pay13_same : @k0_pay13 F = @Cert.KernelIdeal.Gen.k0_pay11 F := rfl
theorem pay14_same : @k0_pay14 F = @Cert.KernelIdeal.Gen.k0_pay12 F := rfl
theorem pay15_same : @k0_pay15 F _ = @Cert.KernelIdeal.Gen.k0_pay13 F _ := rfl
theorem pay16_same : @k0_pay16 F _ = @Cert.KernelIdeal.Gen.k0_pay14 F _ := rfl

abbrev rU : Rect S1024x256 := Rect.unit (s := S1024x256) ![0, 0] S1024x256.size inb_S1024x256_S1024x256_0_0
abbrev rD : Rect S256x1024 := Rect.unit (s := S256x1024) ![0, 0] S256x1024.size inb_S256x1024_S256x1024_0_0
abbrev rUi : Rect S1x1024x256 := Rect.unit (s := S1x1024x256) ![0, 0, 0] S1x1024x256.size inb_S1x1024x256_S1x1024x256_0_0_0
abbrev rDi : Rect S1x256x1024 := Rect.unit (s := S1x256x1024) ![0, 0, 0] S1x256x1024.size inb_S1x256x1024_S1x256x1024_0_0_0

/-- The staging buffer of the first cast weights after the body. -/
def outU (x14 : Vec F S1x1024x256 .f32) : Vec F S1024x256 .bf16 := View.canon [⟨rU, k0_pay1 (View.ld x14 rUi)⟩]

/-- The staging buffer of the second cast weights after the body. -/
def outD (x15 : Vec F S1x256x1024 .f32) : Vec F S256x1024 .bf16 := View.canon [⟨rD, k0_pay2 (View.ld x15 rDi)⟩]

/-- One store of the whole block covers it. -/
theorem coverU (p0 : Vec F S1024x256 .bf16) (y : S1024x256.Idx) :
    ∃ pc ∈ ([⟨rU, p0⟩] : List (View.Piece (Elt F) S1024x256 .bf16)), y ∈ pc.1.set :=
  View.cover_of_tiled [⟨rU, p0⟩] S1024x256.size (by rfl) y

/-- One store of the whole block covers it. -/
theorem coverD (p0 : Vec F S256x1024 .bf16) (y : S256x1024.Idx) :
    ∃ pc ∈ ([⟨rD, p0⟩] : List (View.Piece (Elt F) S256x1024 .bf16)), y ∈ pc.1.set :=
  View.cover_of_tiled [⟨rD, p0⟩] S256x1024.size (by rfl) y

set_option maxHeartbeats 4000000 in
/-- The body at a point of the first 8: what it reads is left as it was, and the result's buffer holds the named block. -/
theorem sound_A (c : Dev nD) (E : Set ℕ) (i : grid0.Coords) (h1 : k0_cond1 i = 1#1) (h2 : ¬ k0_cond2 i = 1#1) (arg1 : Memref sig .tc .vmem S1x512x1024 .f32) (harg1 : arg1.IsWhole) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x1x1x1x1024 .f32) (harg7 : arg7.IsWhole) (arg8 : Memref sig .tc .vmem S1x1x1x1x1024 .f32) (harg8 : arg8.IsWhole) (arg9 : Memref sig .tc .vmem S1x1x1x1x1024 .f32) (harg9 : arg9.IsWhole) (arg10 : Memref sig .tc .vmem S1x1x1x1x1024 .f32) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024x256 .f32) (harg15 : arg15.IsWhole) (arg16 : Memref sig .tc .vmem S1x256x1024 .f32) (harg16 : arg16.IsWhole) (arg17 : Memref sig .tc .vmem S1x512x1024 .f32) (harg17 : arg17.IsWhole) (arg18 : Memref sig .tc .vmem S1x512x1024 .f32) (harg18 : arg18.IsWhole) (arg19 : Memref sig .tc .vmem S1024x256 .bf16) (harg19 : arg19.IsWhole) (arg20 : Memref sig .tc .vmem S256x1024 .bf16) (harg20 : arg20.IsWhole)
    (x0 : Vec F S1x512x1024 .f32) (x1 : Vec F S1x512x512 .bf16) (x2 : Vec F S1x512x512 .bf16) (x6 : Vec F S1x1x1x1x1024 .f32) (x7 : Vec F S1x1x1x1x1024 .f32) (x8 : Vec F S1x1x1x1x1024 .f32) (x9 : Vec F S1x1x1x1x1024 .f32) (x10 : Vec F S1x1024 .f32) (x11 : Vec F S1x1024x1024 .f32) (x12 : Vec F S1024x4096 .bf16) (x13 : Vec F S4096x1024 .bf16) (x14 : Vec F S1x1024x256 .f32) (x15 : Vec F S1x256x1024 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (outA x0 x1 x2 x6 x7 x8 x9 x10 x11 x12 x13) ∗ owns (c : Thread nD τ) arg19 fullShare (outU x14) ∗ owns (c : Thread nD τ) arg20 fullShare (outD x15)) -∗ K ⟨⟩))
      ⊢ wp frame (wpE (defs₀ (F := F)) Variants.none c none) E (cc0_out_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_out_mlp_eq_skeleton]; unfold cc0_out_mlp_skel
  simp only [dif_pos h1, dif_neg h2]
  simp only [k0_part1_eq_skeleton, k0_part2_eq_skeleton]
  unfold k0_part1_skel k0_part2_skel
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d18, %f18, -, H18⟩, ⟨%d19, %f19, -, H19⟩, Hk⟩
  subst hf0 hf1 hf2 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover _)).trans ?_
    simp only [pay3_same, pay4_same, pay5_same, pay6_same, pay7_same, pay8_same, pay9_same, pay10_same, pay11_same, pay12_same, pay13_same, pay14_same, pay15_same, pay16_same]
    rfl
  isplitl [H18]
  · iexists _; isplitr
    swap; · iexact H18
    ipureintro
    exact View.read_writes_eq_canon _ _ _ (coverU _)
  iexists _; isplitr
  swap; · iexact H19
  ipureintro
  exact View.read_writes_eq_canon _ _ _ (coverD _)

set_option maxHeartbeats 4000000 in
/-- The body at a point of the other 16: what it reads is left as it was, and the result's buffer holds the named block. -/
theorem sound_B (c : Dev nD) (E : Set ℕ) (i : grid0.Coords) (h1 : ¬ k0_cond1 i = 1#1) (h2 : k0_cond2 i = 1#1) (arg1 : Memref sig .tc .vmem S1x512x1024 .f32) (harg1 : arg1.IsWhole) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x1x1x1x1024 .f32) (harg7 : arg7.IsWhole) (arg8 : Memref sig .tc .vmem S1x1x1x1x1024 .f32) (harg8 : arg8.IsWhole) (arg9 : Memref sig .tc .vmem S1x1x1x1x1024 .f32) (harg9 : arg9.IsWhole) (arg10 : Memref sig .tc .vmem S1x1x1x1x1024 .f32) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024x256 .f32) (harg15 : arg15.IsWhole) (arg16 : Memref sig .tc .vmem S1x256x1024 .f32) (harg16 : arg16.IsWhole) (arg17 : Memref sig .tc .vmem S1x512x1024 .f32) (harg17 : arg17.IsWhole) (arg18 : Memref sig .tc .vmem S1x512x1024 .f32) (harg18 : arg18.IsWhole) (arg19 : Memref sig .tc .vmem S1024x256 .bf16) (harg19 : arg19.IsWhole) (arg20 : Memref sig .tc .vmem S256x1024 .bf16) (harg20 : arg20.IsWhole)
    (x3 : Vec F S1x512x1024 .f32) (x4 : Vec F S1x512x512 .bf16) (x5 : Vec F S1x512x512 .bf16) (x6 : Vec F S1x1x1x1x1024 .f32) (x7 : Vec F S1x1x1x1x1024 .f32) (x8 : Vec F S1x1x1x1x1024 .f32) (x9 : Vec F S1x1x1x1x1024 .f32) (x10 : Vec F S1x1024 .f32) (x11 : Vec F S1x1024x1024 .f32) (x12 : Vec F S1024x4096 .bf16) (x13 : Vec F S4096x1024 .bf16) (x14 : Vec F S1x1024x256 .f32) (x15 : Vec F S1x256x1024 .f32) (K : PUnit → sProp (MT nD τ sig Unit (Elt F) ℕ (UR sig nD τ) ℕ)) :
    iprop(owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg18 fullShare (outB x3 x4 x5 x6 x7 x8 x9 x10 x11 x12 x13) ∗ owns (c : Thread nD τ) arg19 fullShare (outU x14) ∗ owns (c : Thread nD τ) arg20 fullShare (outD x15)) -∗ K ⟨⟩))
      ⊢ wp frame (wpE (defs₀ (F := F)) Variants.none c none) E (cc0_out_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_out_mlp_eq_skeleton]; unfold cc0_out_mlp_skel
  simp only [dif_neg h1, dif_pos h2]
  simp only [k0_part3_eq_skeleton, k0_part4_eq_skeleton]
  unfold k0_part3_skel k0_part4_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d17, %f17, -, H17⟩, ⟨%d18, %f18, -, H18⟩, ⟨%d19, %f19, -, H19⟩, Hk⟩
  subst hf3 hf4 hf5 hf6 hf7 hf8 hf9 hf10 hf11 hf12 hf13 hf14 hf15
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H17]
  · iexists _; isplitr
    swap; · iexact H17
    ipureintro
    refine (View.read_writes_eq_canon _ _ _ (cover _)).trans ?_
    simp only [pay3_same, pay4_same, pay5_same, pay6_same, pay7_same, pay8_same, pay9_same, pay10_same, pay11_same, pay12_same, pay13_same, pay14_same, pay15_same, pay16_same]
    rfl
  isplitl [H18]
  · iexists _; isplitr
    swap; · iexact H18
    ipureintro
    exact View.read_writes_eq_canon _ _ _ (coverU _)
  iexists _; isplitr
  swap; · iexact H19
  ipureintro
  exact View.read_writes_eq_canon _ _ _ (coverD _)

end Cert.Mlp0

end
-- ==== Proof.Mlp0.Run.lean ====
module

public import proofs.«01_k».proof.Proof.Mlp0.Body
public import Idealize.ShloMosaic.Lib.Claim

/-!
The pipeline's run of layer 0's residual and feed-forward call, at any values, and what it leaves unchanged.
-/

@[expose] public section

set_option maxRecDepth 16384

noncomputable section

namespace Cert.Mlp0

open Cert.Kernel4Ideal Cert.Kernel4Ideal.Gen
open Cert.Mlp (outA outB)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Which branch runs at a point -/

theorem cond1_pos : ∀ t : Fin cfg0.N, t.val < 8 → k0_cond1 (grid0.coords t) = 1#1 :=
  (by decide +kernel : ∀ t : Fin grid0.N, _)
theorem cond1_neg : ∀ t : Fin cfg0.N, 8 ≤ t.val → ¬ k0_cond1 (grid0.coords t) = 1#1 :=
  (by decide +kernel : ∀ t : Fin grid0.N, _)
theorem cond2_pos : ∀ t : Fin cfg0.N, 8 ≤ t.val → k0_cond2 (grid0.coords t) = 1#1 :=
  (by decide +kernel : ∀ t : Fin grid0.N, _)
theorem cond2_neg : ∀ t : Fin cfg0.N, t.val < 8 → ¬ k0_cond2 (grid0.coords t) = 1#1 :=
  (by decide +kernel : ∀ t : Fin grid0.N, _)
theorem idle16_lt : ∀ t : Fin cfg0.N, t.val < 8 → cfg0.idle 16 (cfg0.grid.coords t) = false :=
  (by decide +kernel : ∀ t : Fin grid0.N, t.val < 8 → cfg0.idle 16 (cfg0.grid.coords t) = false)
theorem idle16_ge : ∀ t : Fin cfg0.N, 8 ≤ t.val → cfg0.idle 16 (cfg0.grid.coords t) = true :=
  (by decide +kernel : ∀ t : Fin grid0.N, 8 ≤ t.val → cfg0.idle 16 (cfg0.grid.coords t) = true)
theorem idle17_lt : ∀ t : Fin cfg0.N, t.val < 8 → cfg0.idle 17 (cfg0.grid.coords t) = true :=
  (by decide +kernel : ∀ t : Fin grid0.N, t.val < 8 → cfg0.idle 17 (cfg0.grid.coords t) = true)
theorem idle17_ge : ∀ t : Fin cfg0.N, 8 ≤ t.val → cfg0.idle 17 (cfg0.grid.coords t) = false :=
  (by decide +kernel : ∀ t : Fin grid0.N, 8 ≤ t.val → cfg0.idle 17 (cfg0.grid.coords t) = false)
theorem flush16_mid : ∀ t : Fin cfg0.N, 8 ≤ t.val → t.val < 23 → (cfg0.win 16).flush t = false :=
  (by decide +kernel : ∀ t : Fin grid0.N, 8 ≤ t.val → t.val < 23 → (cfg0.win 16).flush t = false)
theorem flush16_last : ∀ t : Fin cfg0.N, t.val = 23 → (cfg0.win 16).flush t = true :=
  (by decide +kernel : ∀ t : Fin grid0.N, t.val = 23 → (cfg0.win 16).flush t = true)
theorem flush17_lt : ∀ t : Fin cfg0.N, t.val < 8 → (cfg0.win 17).flush t = false :=
  (by decide +kernel : ∀ t : Fin grid0.N, t.val < 8 → (cfg0.win 17).flush t = false)
theorem fresh16_last : cfg0.fresh 16 23 = false := by decide +kernel

/-- The last point that stored into the first result, at or before a point. -/
def tA (t : Fin cfg0.N) : Fin cfg0.N := ⟨min t.val 7, lt_of_le_of_lt (Nat.min_le_left _ _) t.isLt⟩

theorem tA_lt (t : Fin cfg0.N) (h : t.val < 8) : tA t = t := Fin.ext (Nat.min_eq_left (by omega))

theorem tA_pred (t : Fin cfg0.N) (h : 8 ≤ t.val) :
    tA t = tA ⟨t.val - 1, lt_of_le_of_lt (Nat.sub_le _ _) t.isLt⟩ :=
  Fin.ext (by show min t.val 7 = min (t.val - 1) 7; omega)

/-! ## What the pipeline's buffers hold -/

/-- The proof data: the inputs are left as their blocks, and the results hold the named blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outA (iblk m c 0 (tA t)) (iblk m c 1 (tA t)) (iblk m c 2 (tA t)) (iblk m c 6 (tA t)) (iblk m c 7 (tA t)) (iblk m c 8 (tA t)) (iblk m c 9 (tA t)) (iblk m c 10 (tA t)) (iblk m c 11 (tA t)) (iblk m c 12 (tA t)) (iblk m c 13 (tA t))
    | ⟨17, _⟩ => outB (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => outU (iblk m c 14 t)
    | ⟨19, _⟩ => outD (iblk m c 15 t)
    | ⟨n + 20, h⟩ => absurd (show n + 20 < 20 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = outA (iblk m c 0 (tA t)) (iblk m c 1 (tA t)) (iblk m c 2 (tA t)) (iblk m c 6 (tA t)) (iblk m c 7 (tA t)) (iblk m c 8 (tA t)) (iblk m c 9 (tA t)) (iblk m c 10 (tA t)) (iblk m c 11 (tA t)) (iblk m c 12 (tA t)) (iblk m c 13 (tA t)) := by dsimp only [dats]
theorem after0_17 (c : Dev nD) (t : Fin cfg0.N) : (dats m 0 c).after 17 t = outB (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = outU (iblk m c 14 t) := by dsimp only [dats]
theorem after0_19 (c : Dev nD) (t : Fin cfg0.N) : (dats m 0 c).after 19 t = outD (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

theorem ge_of_idle16 (t : Fin cfg0.N) (h : cfg0.idle 16 (cfg0.grid.coords t) = true) : 8 ≤ t.val := by
  by_contra hc
  exact Bool.false_ne_true ((idle16_lt t (by omega)).symm.trans h)

/-- At the last point the first result's buffer still holds the block that was stored last. -/
theorem before0_16_last (c : Dev nD) (t : Fin cfg0.N) (ht : t.val = 23) (d) :
    (dats m 0 c).before 16 t d = (dats m 0 c).after 16 t := by
  have hcarry : ∀ (t : Fin cfg0.N) (_ : t.val ≠ 0), cfg0.idle 16 (cfg0.grid.coords t) = true →
      cfg0.fresh 16 t.val = false → (dats m 0 c).after 16 t = (dats m 0 c).after 16 ⟨t.val - 1, by omega⟩ := by
    intro t _ hi _
    rw [after0_16, after0_16, tA_pred t (ge_of_idle16 t hi)]
  rw [(dats m 0 c).before_out_traj 16 rfl (fun _ _ => rfl) hcarry t.val t rfl d]
  have hf : cfg0.fresh 16 t.val = false := by rw [ht]; exact fresh16_last
  rw [hf, if_neg Bool.false_ne_true]
  rw [after0_16, after0_16, tA_pred t (by omega)]

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- What it returns at one of the first 8 points. -/
def bodyPostA (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ (∃ d, owns (c : Thread nD τ) (st0_17 t) fullShare ((dats m 0 c).before 17 t d))
    ∗ owns (c : Thread nD τ) (st0_18 t) fullShare ((dats m 0 c).after 18 t)
    ∗ owns (c : Thread nD τ) (st0_19 t) fullShare ((dats m 0 c).after 19 t))

/-- What it returns at a point between. -/
def bodyPostB (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ (∃ d, owns (c : Thread nD τ) (st0_16 t) fullShare ((dats m 0 c).before 16 t d))
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

/-- What it returns at the last point. -/
def bodyPostC (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
theorem sound_bodyA (c : Dev nD) (t : Fin cfg0.N) (h : t.val < 8) :
    bodyPre m c t ⊢ wp frame (wpE (defs₀ (F := F)) Variants.none c none) Set.univ (bodyAt0 t) (fun _ => bodyPostA m c t) := by
  unfold bodyPre bodyPostA bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_18, after0_19, tA_lt t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_A c Set.univ (grid0.coords t) (cond1_pos t h) (cond2_neg t h) _ _ _ _ _ _ _ _ _ _ _ _ _ _ _ _ _ _ _ _ _ _ _ _ _ _ _ _ _ _ _ _ _ _ _ _ _ _ _ _ (iblk m c 0 t) (iblk m c 1 t) (iblk m c 2 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H18]; · iexists _; iexact H18
  isplitl [H19]; · iexists _; iexact H19
  iintro ⟨H0, H1, H2, H6, H7, H8, H9, H10, H11, H12, H13, H14, H15, H16, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists d17; iexact H17
  isplitl [H18]; · iexact H18
  iexact H19

set_option maxHeartbeats 2000000 in
theorem sound_bodyB (c : Dev nD) (t : Fin cfg0.N) (h : 8 ≤ t.val) :
    bodyPre m c t ⊢ wp frame (wpE (defs₀ (F := F)) Variants.none c none) Set.univ (bodyAt0 t) (fun _ => bodyPostB m c t) := by
  unfold bodyPre bodyPostB bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_B c Set.univ (grid0.coords t) (cond1_neg t h) (cond2_pos t h) _ _ _ _ _ _ _ _ _ _ _ _ _ _ _ _ _ _ _ _ _ _ _ _ _ _ _ _ _ _ _ _ _ _ _ _ _ _ _ _ (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H17]; · iexists _; iexact H17
  isplitl [H18]; · iexists _; iexact H18
  isplitl [H19]; · iexists _; iexact H19
  iintro ⟨H3, H4, H5, H6, H7, H8, H9, H10, H11, H12, H13, H14, H15, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists d16; iexact H16
  isplitl [H17]; · iexact H17
  isplitl [H18]; · iexact H18
  iexact H19

set_option maxHeartbeats 2000000 in
theorem sound_bodyC (c : Dev nD) (t : Fin cfg0.N) (h : 8 ≤ t.val) (h23 : t.val = 23) :
    bodyPre m c t ⊢ wp frame (wpE (defs₀ (F := F)) Variants.none c none) Set.univ (bodyAt0 t) (fun _ => bodyPostC m c t) := by
  unfold bodyPre bodyPostC bodyAt0
  simp only [before0_0, before0_1, before0_2, before0_3, before0_4, before0_5, before0_6, before0_7, before0_8, before0_9, before0_10, before0_11, before0_12, before0_13, before0_14, before0_15, before0_16_last m c t h23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_B c Set.univ (grid0.coords t) (cond1_neg t h) (cond2_pos t h) _ _ _ _ _ _ _ _ _ _ _ _ _ _ _ _ _ _ _ _ _ _ _ _ _ _ _ _ _ _ _ _ _ _ _ _ _ _ _ _ (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H17]; · iexists _; iexact H17
  isplitl [H18]; · iexists _; iexact H18
  isplitl [H19]; · iexists _; iexact H19
  iintro ⟨H3, H4, H5, H6, H7, H8, H9, H10, H11, H12, H13, H14, H15, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at a point is the body there. -/
theorem defs₀_row (t : Fin cfg0.N) :
    defs₀ (F := F) .tc cfg0.body (cfg0.bodyArgs t (cfg0.slots t)) = bodyAt0 t := by
  unfold defs₀; rw [Defs.onTc_tc]

end Cert.Mlp0

end
-- ==== Proof.Mlp0.Frame.lean ====
module

public import proofs.«01_k».proof.Proof.Mlp0.Run

/-!
Layer 0's residual and feed-forward call's frame, and the arrays that it leaves.
-/

@[expose] public section

set_option maxRecDepth 16384

noncomputable section

namespace Cert.Mlp0

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 2000000 in
/-- The body's obligation at every point. -/
theorem body_obligation (c : Dev nD) : BodyObligation (dats (F := F) m 0 c) (defs₀ (F := F)) Variants.none () Set.univ := fun t => by
  rw [bigSep_W0, bigSep_W0, defs₀_row]
  by_cases h : t.val < 8
  · refine triple_restated (sound_bodyA m c t h) rfl .rfl fun _ => ?_
    rw [idle16_lt t h, idle17_lt t h, flush17_lt t h]
    dsimp only
    unfold bodyPostA
    exact .rfl
  · have h24 : t.val < 24 := t.isLt
    by_cases h23 : t.val = 23
    · refine triple_restated (sound_bodyC m c t (by omega) h23) rfl .rfl fun _ => ?_
      rw [idle16_ge t (by omega), idle17_ge t (by omega), flush16_last t h23]
      dsimp only
      unfold bodyPostC
      exact .rfl
    · refine triple_restated (sound_bodyB m c t (by omega)) rfl .rfl fun _ => ?_
      rw [idle16_ge t (by omega), idle17_ge t (by omega), flush16_mid t (by omega) (by omega)]
      dsimp only
      unfold bodyPostB
      exact .rfl

/-! ## The run -/

set_option backward.isDefEq.respectTransparency.types false in
set_option maxHeartbeats 800000 in
/-- The launch ends with the arrays that the proof data names, and with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

/-- The results' arrays are those that the proof data names, and the arguments end unchanged. -/
theorem run_blocks : θ_run defs (onTc (τ := τ) (main (F := F))) ⟨m, fun _ => 0, ρ⟩ (fun r => ∀ c : Dev nD,
      r.2.mem ((c.tc : Thread nD τ).loc main_v20_0) = (dats m 0 c).arrAt 16 cfg0.N
      ∧ r.2.mem ((c.tc : Thread nD τ).loc main_v20_1) = (dats m 0 c).arrAt 17 cfg0.N
      ∧ r.2.mem ((c.tc : Thread nD τ).loc main_v20_2) = (dats m 0 c).arrAt 18 cfg0.N
      ∧ r.2.mem ((c.tc : Thread nD τ).loc main_v20_3) = (dats m 0 c).arrAt 19 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h.1 c).1 16, (h.1 c).1 17, (h.1 c).1 18, (h.1 c).1 19, h.2 c⟩)
    (θ_run_and (run_main m ρ) (unchanged m ρ))

end Cert.Mlp0

end
-- ==== Proof.Mlp0.Host.lean ====
module

public import proofs.«01_k».proof.Proof.Mlp0.Frame
public import proofs.«01_k».proof.Proof.Mlp.Host
public import Idealize.ShloMosaic.Lib.Pipeline.ValueKit
public import Idealize.ShloMosaic.Lib.Claim

/-!
The arrays that layer 0's call is given, at an index, as the arguments' entries.
-/

@[expose] public section

set_option maxRecDepth 16384

noncomputable section

namespace Cert.Mlp0

open Idealize.ShloMosaic Idealize.ShloMosaic.TcCoe Idealize.SL.Sem Cert.Kernel4Ideal Cert.Kernel4Ideal.Gen
open Cert.Mlp (join_zero join_succ)

variable (m : (ℓ : Loc nD τ sig) → Buf (Elt Ideal) ℓ) (c : Dev nD)

/-- The joined rows as the host operations leave them. -/
theorem join_ops (σ : Valuation τ sig (Elt Ideal)) :
    ∃ z : FVec Ideal S2x5x6144 .f32,
      (StableHlo.after ((hostOps0 (F := Ideal)).take 6) σ (Proc.tc.devRef main_v3) : FVec Ideal S2x8x6x1x1024 .f32)
        = shapeCast S2x8x6x1x1024 (concatenate S2x8x6144 1
          [⟨S2x1x6144, broadcastInDim S2x1x6144 ![0, 2] bcast_S2x6144_S2x1x6144_0_2
            (σ (Proc.tc.devRef main_arg6) : FVec Ideal S2x6144 .f32)⟩,
            ⟨S2x2x6144, (σ (Proc.tc.devRef main_arg7) : FVec Ideal S2x2x6144 .f32)⟩, ⟨S2x5x6144, z⟩]
          concatenates_S2x1x6144_S2x2x6144_S2x5x6144_S2x8x6144_d1) shapeCasts_S2x8x6144_S2x8x6x1x1024 := by
  simp only [hostOps0, List.take_succ_cons, List.take_zero, StableHlo.after_cons, StableHlo.after_nil]
  refine ⟨broadcastInDim S2x5x6144 ![] bcast_S_S2x5x6144 (constant S_ .f32 0x00000000#32), ?_⟩
  after_results_simp
  rfl

/-- The later host operations leave the joined rows. -/
theorem join_kept (σ : Valuation τ sig (Elt Ideal)) :
    StableHlo.after ((hostOps0 (F := Ideal)).drop 6) σ (Proc.tc.devRef main_v3) = σ (Proc.tc.devRef main_v3) := by
  simp only [hostOps0, List.drop_succ_cons, List.drop_zero, StableHlo.after_cons, StableHlo.after_nil]
  after_results_simp

/-- The modulation rows' array. -/
theorem V3_eq : ∃ z : FVec Ideal S2x5x6144 .f32,
    (V m c main_v3 : FVec Ideal S2x8x6x1x1024 .f32)
      = shapeCast S2x8x6x1x1024 (concatenate S2x8x6144 1
          [⟨S2x1x6144, broadcastInDim S2x1x6144 ![0, 2] bcast_S2x6144_S2x1x6144_0_2
            (m ((c : Thread nD τ).loc main_arg6) : FVec Ideal S2x6144 .f32)⟩,
            ⟨S2x2x6144, (m ((c : Thread nD τ).loc main_arg7) : FVec Ideal S2x2x6144 .f32)⟩, ⟨S2x5x6144, z⟩]
          concatenates_S2x1x6144_S2x2x6144_S2x5x6144_S2x8x6144_d1) shapeCasts_S2x8x6144_S2x8x6x1x1024 := by
  obtain ⟨z, hz⟩ := join_ops (fun b => m (c, b))
  refine ⟨z, Eq.trans ?_ hz⟩
  show StableHlo.after hostOps0 (fun b => m (c, b)) (Proc.tc.devRef main_v3) = _
  conv_lhs => rw [← List.take_append_drop 6 (hostOps0 (F := Ideal)), Cert.Mlp.after_append]
  exact join_kept _

/-- The prompt's modulation rows. -/
theorem V3_prompt (i : Fin 6) (k : Fin 1024) :
    (V m c main_v3 : FVec Ideal S2x8x6x1x1024 .f32) (ix5 0 0 i 0 k)
      = (m ((c : Thread nD τ).loc main_arg6) : FVec Ideal S2x6144 .f32) (ix2 0 ⟨i * 1024 + k, by omega⟩) := by
  obtain ⟨z, hz⟩ := V3_eq m c
  rw [hz, join_zero]
  pointwise

/-- The sample's modulation rows. -/
theorem V3_sample (s : Fin 2) (i : Fin 6) (k : Fin 1024) :
    (V m c main_v3 : FVec Ideal S2x8x6x1x1024 .f32) (ix5 0 ⟨1 + s, by omega⟩ i 0 k)
      = (m ((c : Thread nD τ).loc main_arg7) : FVec Ideal S2x2x6144 .f32) (ix3 0 s ⟨i * 1024 + k, by omega⟩) := by
  obtain ⟨z, hz⟩ := V3_eq m c
  rw [hz, join_succ]

/-- The prompt's rows. -/
theorem V4_at (n : Fin 4096) (k : Fin 1024) :
    (V m c main_v4 : FVec Ideal S1x4096x1024 .f32) (ix3 0 n k)
      = (m ((c : Thread nD τ).loc main_arg0) : FVec Ideal S16x256x1024 .f32) (ix3 ⟨n / 256, by omega⟩ ⟨n % 256, by omega⟩ k) := by
  entry_read
  pointwise

/-- The prompt's first projected part. -/
theorem V6_at (n : Fin 4096) (k : Fin 512) :
    (V m c main_v6 : FVec Ideal S1x4096x512 .bf16) (ix3 0 n k)
      = (m ((c : Thread nD τ).loc main_arg1) : FVec Ideal S16x256x512 .f32) (ix3 ⟨n / 256, by omega⟩ ⟨n % 256, by omega⟩ k) := by
  entry_read
  pointwise

/-- The prompt's second projected part. -/
theorem V8_at (n : Fin 4096) (k : Fin 512) :
    (V m c main_v8 : FVec Ideal S1x4096x512 .bf16) (ix3 0 n k)
      = (m ((c : Thread nD τ).loc main_arg2) : FVec Ideal S16x256x512 .f32) (ix3 ⟨n / 256, by omega⟩ ⟨n % 256, by omega⟩ k) := by
  entry_read
  pointwise

/-- The sample's first projected part. -/
theorem V9_at (b : Fin 2) (n : Fin 4096) (k : Fin 512) :
    (V m c main_v9 : FVec Ideal S2x4096x512 .bf16) (ix3 b n k)
      = (m ((c : Thread nD τ).loc main_arg4) : FVec Ideal S2x4096x512 .f32) (ix3 b n k) := by
  entry_read
  pointwise

/-- The sample's second projected part. -/
theorem V10_at (b : Fin 2) (n : Fin 4096) (k : Fin 512) :
    (V m c main_v10 : FVec Ideal S2x4096x512 .bf16) (ix3 b n k)
      = (m ((c : Thread nD τ).loc main_arg5) : FVec Ideal S2x4096x512 .f32) (ix3 b n k) := by
  entry_read
  pointwise

/-- The normalisation's weights. -/
theorem V13_at (k : Fin 1024) :
    (V m c main_v13 : FVec Ideal S1x1024 .f32) (ix2 0 k)
      = (m ((c : Thread nD τ).loc main_arg8) : FVec Ideal S2x1024 .f32) (ix2 0 k) := by
  entry_read
  pointwise

/-- The first feed-forward weights. -/
theorem V16_at (k : Fin 1024) (i : Fin 4096) :
    (V m c main_v16 : FVec Ideal S1024x4096 .bf16) (ix2 k i)
      = (m ((c : Thread nD τ).loc main_arg10) : FVec Ideal S2x1024x4096 .f32) (ix3 0 k i) := by
  entry_read
  pointwise

/-- The second feed-forward weights. -/
theorem V19_at (i : Fin 4096) (j : Fin 1024) :
    (V m c main_v19 : FVec Ideal S4096x1024 .bf16) (ix2 i j)
      = (m ((c : Thread nD τ).loc main_arg11) : FVec Ideal S2x4096x1024 .f32) (ix3 0 i j) := by
  entry_read
  pointwise

end Cert.Mlp0

end
-- ==== Proof.Mlp0.Ref.lean ====
module

public import proofs.«01_k».proof.Proof.Mlp.Spec
public import proofs.«01_k».proof.Proof.Gen.Reference4Ideal.Read
public import Idealize.ShloMosaic.Lib.Pipeline.ValueKit

/-!
The stages of layer 0's reference at an index: each result's row is the specification's.
-/

@[expose] public section

set_option maxRecDepth 16384

noncomputable section

namespace Cert.Mlp0

open Idealize.ShloMosaic Idealize.ShloMosaic.TcCoe Idealize.SL.Sem Cert.Reference4Ideal Cert.Reference4Ideal.Gen
open Cert.Reference4Ideal.Read
open Cert.Mlp (res hid act ffn row)

variable (x0 : FVec Ideal S16x256x1024 .f32) (x1 x2 : FVec Ideal S16x256x512 .f32)
    (x6 : FVec Ideal S2x6144 .f32) (x8 : FVec Ideal S2x1024 .f32) (x9 : FVec Ideal S1x1024x1024 .f32)
    (x10 : FVec Ideal S2x1024x4096 .f32) (x11 : FVec Ideal S2x4096x1024 .f32)

/-- A row of the two projected parts, side by side. -/
def catP (p : Fin 16) (t : Fin 256) (k : Fin 1024) : EReal :=
  if h : (k : ℕ) < 512 then x1 (ix3 p t ⟨k, h⟩) else x2 (ix3 p t ⟨k - 512, by omega⟩)

/-- A chunk of the modulation row. -/
def modP (i : Fin 6) (k : Fin 1024) : EReal := x6 (ix2 0 ⟨i * 1024 + k, by omega⟩)

theorem v10_at (p : Fin 16) (t : Fin 256) (k : Fin 1024) : val_main_v10 (F := Ideal) x1 x2 (ix3 p t k) = catP x1 x2 p t k := by
  pointwise [val_main_v10, catP]

theorem v6_at (k : Fin 1024) : val_main_v6 (F := Ideal) x6 (ix3 0 0 k) = modP x6 2 k := by
  pointwise [val_main_v6, val_main_v3, val_main_v2, val_main_v1, val_main_v0, modP]
theorem v7_at (k : Fin 1024) : val_main_v7 (F := Ideal) x6 (ix3 0 0 k) = modP x6 3 k := by
  pointwise [val_main_v7, val_main_v3, val_main_v2, val_main_v1, val_main_v0, modP]
theorem v8_at (k : Fin 1024) : val_main_v8 (F := Ideal) x6 (ix3 0 0 k) = modP x6 4 k := by
  pointwise [val_main_v8, val_main_v3, val_main_v2, val_main_v1, val_main_v0, modP]
theorem v9_at (k : Fin 1024) : val_main_v9 (F := Ideal) x6 (ix3 0 0 k) = modP x6 5 k := by
  pointwise [val_main_v9, val_main_v3, val_main_v2, val_main_v1, val_main_v0, modP]

/-- The row after the gated projection is added. -/
theorem v15_at (p : Fin 16) (t : Fin 256) (j : Fin 1024) :
    val_main_v15 (F := Ideal) x0 x1 x2 x6 x9 (ix3 p t j)
      = res (fun k => x0 (ix3 p t k)) (modP x6 2) (catP x1 x2 p t) (fun k j => x9 (ix3 0 k j)) j := by
  unfold res
  simp only [← v6_at, ← v10_at]
  unfold val_main_v15 val_main_v14 val_main_v13 val_main_v12 val_main_v11
  generalize val_main_v6 (F := Ideal) x6 = g
  generalize val_main_v10 (F := Ideal) x1 x2 = q
  pointwise

/-- The row normalised, weighted, scaled and shifted. -/
theorem v36_at (p : Fin 16) (t : Fin 256) (j : Fin 1024) :
    val_main_v36 (F := Ideal) x0 x1 x2 x6 x8 x9 (ix3 p t j)
      = hid (fun k => val_main_v15 (F := Ideal) x0 x1 x2 x6 x9 (ix3 p t k)) (fun k => x8 (ix2 0 k)) (modP x6 4) (modP x6 3) j := by
  unfold hid
  simp only [← v8_at, ← v7_at]
  unfold val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19
    val_main_v18 val_main_v17 val_main_v16 val_main_cst val_main_cst_0 val_main_cst_1 val_main_cst_2
  generalize val_main_v15 (F := Ideal) x0 x1 x2 x6 x9 = r
  generalize val_main_v8 (F := Ideal) x6 = g
  generalize val_main_v7 (F := Ideal) x6 = q
  pointwise

/-- One activation. -/
theorem v41_at (p : Fin 16) (t : Fin 256) (i : Fin 4096) :
    val_main_v41 (F := Ideal) x0 x1 x2 x6 x8 x9 x10 (ix3 p t i)
      = act (fun k => val_main_v36 (F := Ideal) x0 x1 x2 x6 x8 x9 (ix3 p t k)) (fun k => x10 (ix3 0 k i)) := by
  unfold val_main_v41 val_main_v40 val_main_v39 val_main_v38 val_main_v37 val_main_call0_v0 val_main_call0_cst
  generalize val_main_v36 (F := Ideal) x0 x1 x2 x6 x8 x9 = h
  pointwise [act]

/-- The first result's row. -/
theorem v47_at (p : Fin 16) (t : Fin 256) (j : Fin 1024) :
    val_main_v47 (F := Ideal) x0 x1 x2 x6 x8 x9 x10 x11 (ix3 p t j)
      = row (fun k => x0 (ix3 p t k)) (modP x6 2) (catP x1 x2 p t) (fun k j => x9 (ix3 0 k j)) (fun k => x8 (ix2 0 k))
          (modP x6 4) (modP x6 3) (modP x6 5) (fun k i => x10 (ix3 0 k i)) (fun i j => x11 (ix3 0 i j)) j := by
  have e : res (fun k => x0 (ix3 p t k)) (modP x6 2) (catP x1 x2 p t) (fun k j => x9 (ix3 0 k j))
      = fun k => val_main_v15 (F := Ideal) x0 x1 x2 x6 x9 (ix3 p t k) := funext fun k => (v15_at x0 x1 x2 x6 x9 p t k).symm
  have e' : hid (fun k => val_main_v15 (F := Ideal) x0 x1 x2 x6 x9 (ix3 p t k)) (fun k => x8 (ix2 0 k)) (modP x6 4) (modP x6 3)
      = fun k => val_main_v36 (F := Ideal) x0 x1 x2 x6 x8 x9 (ix3 p t k) := funext fun k => (v36_at x0 x1 x2 x6 x8 x9 p t k).symm
  unfold row
  rw [e, e']
  unfold ffn
  simp only [← v41_at, ← v9_at]
  unfold val_main_v47 val_main_v46 val_main_v45 val_main_v44 val_main_v43 val_main_v42
  generalize val_main_v41 (F := Ideal) x0 x1 x2 x6 x8 x9 x10 = a
  generalize val_main_v15 (F := Ideal) x0 x1 x2 x6 x9 = r
  generalize val_main_v9 (F := Ideal) x6 = g
  pointwise

/-- The first result laid out in one row of rows. -/
theorem v95_at (n : Fin 4096) (j : Fin 1024) :
    val_main_v95 (F := Ideal) x0 x1 x2 x6 x8 x9 x10 x11 (ix3 0 n j)
      = val_main_v47 (F := Ideal) x0 x1 x2 x6 x8 x9 x10 x11 (ix3 ⟨n / 256, by omega⟩ ⟨n % 256, by omega⟩ j) := by
  unfold val_main_v95
  generalize val_main_v47 (F := Ideal) x0 x1 x2 x6 x8 x9 x10 x11 = a
  pointwise

variable (x3 : FVec Ideal S2x4096x1024 .f32) (x4 x5 : FVec Ideal S2x4096x512 .f32) (x7 : FVec Ideal S2x2x6144 .f32)

/-- A row of the sample's two projected parts, side by side. -/
def catS (b : Fin 2) (n : Fin 4096) (k : Fin 1024) : EReal :=
  if h : (k : ℕ) < 512 then x4 (ix3 b n ⟨k, h⟩) else x5 (ix3 b n ⟨k - 512, by omega⟩)

/-- A chunk of a sample's modulation row. -/
def modS (b : Fin 2) (i : Fin 6) (k : Fin 1024) : EReal := x7 (ix3 0 b ⟨i * 1024 + k, by omega⟩)

theorem v57_at (b : Fin 2) (n : Fin 4096) (k : Fin 1024) : val_main_v57 (F := Ideal) x4 x5 (ix3 b n k) = catS x4 x5 b n k := by
  pointwise [val_main_v57, catS]

theorem v53_at (b : Fin 2) (k : Fin 1024) : val_main_v53 (F := Ideal) x7 (ix3 b 0 k) = modS x7 b 2 k := by
  pointwise [val_main_v53, val_main_v50, val_main_v49, val_main_v48, modS]
theorem v54_at (b : Fin 2) (k : Fin 1024) : val_main_v54 (F := Ideal) x7 (ix3 b 0 k) = modS x7 b 3 k := by
  pointwise [val_main_v54, val_main_v50, val_main_v49, val_main_v48, modS]
theorem v55_at (b : Fin 2) (k : Fin 1024) : val_main_v55 (F := Ideal) x7 (ix3 b 0 k) = modS x7 b 4 k := by
  pointwise [val_main_v55, val_main_v50, val_main_v49, val_main_v48, modS]
theorem v56_at (b : Fin 2) (k : Fin 1024) : val_main_v56 (F := Ideal) x7 (ix3 b 0 k) = modS x7 b 5 k := by
  pointwise [val_main_v56, val_main_v50, val_main_v49, val_main_v48, modS]

/-- The row after the gated projection is added. -/
theorem v62_at (b : Fin 2) (n : Fin 4096) (j : Fin 1024) :
    val_main_v62 (F := Ideal) x3 x4 x5 x7 x9 (ix3 b n j)
      = res (fun k => x3 (ix3 b n k)) (modS x7 b 2) (catS x4 x5 b n) (fun k j => x9 (ix3 0 k j)) j := by
  unfold res
  simp only [← v53_at, ← v57_at]
  unfold val_main_v62 val_main_v61 val_main_v60 val_main_v59 val_main_v58
  generalize val_main_v53 (F := Ideal) x7 = g
  generalize val_main_v57 (F := Ideal) x4 x5 = q
  pointwise

/-- The row normalised, weighted, scaled and shifted. -/
theorem v83_at (b : Fin 2) (n : Fin 4096) (j : Fin 1024) :
    val_main_v83 (F := Ideal) x3 x4 x5 x7 x8 x9 (ix3 b n j)
      = hid (fun k => val_main_v62 (F := Ideal) x3 x4 x5 x7 x9 (ix3 b n k)) (fun k => x8 (ix2 0 k)) (modS x7 b 4) (modS x7 b 3) j := by
  unfold hid
  simp only [← v55_at, ← v54_at]
  unfold val_main_v83 val_main_v82 val_main_v81 val_main_v80 val_main_v79 val_main_v78 val_main_v77 val_main_v76 val_main_v75
    val_main_v74 val_main_v73 val_main_v72 val_main_v71 val_main_v70 val_main_v69 val_main_v68 val_main_v67 val_main_v66
    val_main_v65 val_main_v64 val_main_v63 val_main_cst_3 val_main_cst_4 val_main_cst_5 val_main_cst_6
  generalize val_main_v62 (F := Ideal) x3 x4 x5 x7 x9 = r
  generalize val_main_v55 (F := Ideal) x7 = g
  generalize val_main_v54 (F := Ideal) x7 = q
  pointwise

/-- One activation. -/
theorem v88_at (b : Fin 2) (n : Fin 4096) (i : Fin 4096) :
    val_main_v88 (F := Ideal) x3 x4 x5 x7 x8 x9 x10 (ix3 b n i)
      = act (fun k => val_main_v83 (F := Ideal) x3 x4 x5 x7 x8 x9 (ix3 b n k)) (fun k => x10 (ix3 0 k i)) := by
  unfold val_main_v88 val_main_v87 val_main_v86 val_main_v85 val_main_v84 val_main_call1_v0 val_main_call1_cst
  generalize val_main_v83 (F := Ideal) x3 x4 x5 x7 x8 x9 = h
  pointwise [act]

/-- The second result's row. -/
theorem v94_at (b : Fin 2) (n : Fin 4096) (j : Fin 1024) :
    val_main_v94 (F := Ideal) x3 x4 x5 x7 x8 x9 x10 x11 (ix3 b n j)
      = row (fun k => x3 (ix3 b n k)) (modS x7 b 2) (catS x4 x5 b n) (fun k j => x9 (ix3 0 k j)) (fun k => x8 (ix2 0 k))
          (modS x7 b 4) (modS x7 b 3) (modS x7 b 5) (fun k i => x10 (ix3 0 k i)) (fun i j => x11 (ix3 0 i j)) j := by
  have e : res (fun k => x3 (ix3 b n k)) (modS x7 b 2) (catS x4 x5 b n) (fun k j => x9 (ix3 0 k j))
      = fun k => val_main_v62 (F := Ideal) x3 x4 x5 x7 x9 (ix3 b n k) := funext fun k => (v62_at _ _ _ _ _ b n k).symm
  have e' : hid (fun k => val_main_v62 (F := Ideal) x3 x4 x5 x7 x9 (ix3 b n k)) (fun k => x8 (ix2 0 k)) (modS x7 b 4) (modS x7 b 3)
      = fun k => val_main_v83 (F := Ideal) x3 x4 x5 x7 x8 x9 (ix3 b n k) := funext fun k => (v83_at _ _ _ _ _ _ b n k).symm
  unfold row
  rw [e, e']
  unfold ffn
  simp only [← v88_at, ← v56_at]
  unfold val_main_v94 val_main_v93 val_main_v92 val_main_v91 val_main_v90 val_main_v89
  generalize val_main_v88 (F := Ideal) x3 x4 x5 x7 x8 x9 x10 = a
  generalize val_main_v62 (F := Ideal) x3 x4 x5 x7 x9 = r
  generalize val_main_v56 (F := Ideal) x7 = g
  pointwise

/-- The first result, row by row. -/
def arrP : FVec Ideal S1x4096x1024 .f32 := fun y =>
  row (fun k => x0 (ix3 ⟨(y 1).val / 256, by have := (y 1).isLt; simp at this; omega⟩ ⟨(y 1).val % 256, by omega⟩ k)) (modP x6 2)
    (catP x1 x2 ⟨(y 1).val / 256, by have := (y 1).isLt; simp at this; omega⟩ ⟨(y 1).val % 256, by omega⟩) (fun k j => x9 (ix3 0 k j)) (fun k => x8 (ix2 0 k))
    (modP x6 4) (modP x6 3) (modP x6 5) (fun k i => x10 (ix3 0 k i)) (fun i j => x11 (ix3 0 i j)) (y 2)

/-- The second result, row by row. -/
def arrS : FVec Ideal S2x4096x1024 .f32 := fun y =>
  row (fun k => x3 (ix3 (y 0) (y 1) k)) (modS x7 (y 0) 2) (catS x4 x5 (y 0) (y 1)) (fun k j => x9 (ix3 0 k j)) (fun k => x8 (ix2 0 k))
    (modS x7 (y 0) 4) (modS x7 (y 0) 3) (modS x7 (y 0) 5) (fun k i => x10 (ix3 0 k i)) (fun i j => x11 (ix3 0 i j)) (y 2)

/-- The reference's first result is that array. -/
theorem ref_P : val_main_v95 (F := Ideal) x0 x1 x2 x6 x8 x9 x10 x11 = arrP x0 x1 x2 x6 x8 x9 x10 x11 := by
  funext y
  obtain ⟨y0, n, j, rfl⟩ : ∃ (y0 : Fin 1) (n : Fin 4096) (j : Fin 1024), y = ix3 y0 n j := ⟨y 0, y 1, y 2, by idx_ext⟩
  obtain rfl : y0 = 0 := Subsingleton.elim _ _
  rw [v95_at, v47_at]
  rfl

/-- The reference's second result is that array. -/
theorem ref_S : val_main_v94 (F := Ideal) x3 x4 x5 x7 x8 x9 x10 x11 = arrS x8 x9 x10 x11 x3 x4 x5 x7 := by
  funext y
  obtain ⟨b, n, j, rfl⟩ : ∃ (b : Fin 2) (n : Fin 4096) (j : Fin 1024), y = ix3 b n j := ⟨y 0, y 1, y 2, by idx_ext⟩
  rw [v94_at]
  rfl

/-- The next layer's first feed-forward weights. -/
def arrU : FVec Ideal S1024x4096 .bf16 := fun y => x10 (ix3 1 (y 0) (y 1))

/-- The next layer's second feed-forward weights. -/
def arrD : FVec Ideal S4096x1024 .bf16 := fun y => x11 (ix3 1 (y 0) (y 1))

/-- The reference's third result is that array. -/
theorem ref_U : val_main_v98 (F := Ideal) x10 = arrU x10 := by
  funext y
  obtain ⟨k, i, rfl⟩ : ∃ (k : Fin 1024) (i : Fin 4096), y = ix2 k i := ⟨y 0, y 1, by idx_ext⟩
  show val_main_v98 (F := Ideal) x10 (ix2 k i) = x10 (ix3 1 k i)
  pointwise [val_main_v98, val_main_v97, val_main_v96]

/-- The reference's fourth result is that array. -/
theorem ref_D : val_main_v101 (F := Ideal) x11 = arrD x11 := by
  funext y
  obtain ⟨i, j, rfl⟩ : ∃ (i : Fin 4096) (j : Fin 1024), y = ix2 i j := ⟨y 0, y 1, by idx_ext⟩
  show val_main_v101 (F := Ideal) x11 (ix2 i j) = x11 (ix3 1 i j)
  pointwise [val_main_v101, val_main_v100, val_main_v99]

end Cert.Mlp0

end
-- ==== Proof.Mlp0.Array.lean ====
module

public import proofs.«01_k».proof.Proof.Mlp0.Host
public import proofs.«01_k».proof.Proof.Mlp.Array
public import proofs.«01_k».proof.Proof.Mlp0.Run
public import proofs.«01_k».proof.Proof.Mlp0.Ref
public import Idealize.ShloMosaic.Lib.Pipeline.ValueKit

/-!
The arrays that layer 0's call returns: every block's rows are the specification's, and the two arrays of cast weights are
the next layer's weights.
-/

@[expose] public section

set_option maxRecDepth 16384

noncomputable section

namespace Cert.Mlp0

open Idealize.ShloMosaic Idealize.ShloMosaic.TcCoe Idealize.SL.Sem Cert.Kernel4Ideal Cert.Kernel4Ideal.Gen
open Idealize.ShloMosaic.Pipeline (Dat)
open Cert.Mlp (cat row row_congr outA outB outA_at payA_at outB_at payB_at)

/-- The blocks' places. -/
theorem idx : ∀ t : Fin cfg0.N,
    win0_0.index t = ![0, min t.val 7, 0] ∧ win0_1.index t = ![0, min t.val 7, 0] ∧ win0_2.index t = ![0, min t.val 7, 0]
    ∧ win0_3.index t = ![(t.val - 8) / 8, (t.val - 8) % 8, 0] ∧ win0_4.index t = ![(t.val - 8) / 8, (t.val - 8) % 8, 0]
    ∧ win0_5.index t = ![(t.val - 8) / 8, (t.val - 8) % 8, 0]
    ∧ win0_6.index t = ![0, t.val / 8, 2, 0, 0] ∧ win0_7.index t = ![0, t.val / 8, 3, 0, 0]
    ∧ win0_8.index t = ![0, t.val / 8, 4, 0, 0] ∧ win0_9.index t = ![0, t.val / 8, 5, 0, 0]
    ∧ win0_10.index t = ![0, 0] ∧ win0_11.index t = ![0, 0, 0] ∧ win0_12.index t = ![0, 0] ∧ win0_13.index t = ![0, 0]
    ∧ win0_16.index t = ![0, min t.val 7, 0] ∧ win0_17.index t = ![(t.val - 8) / 8, (t.val - 8) % 8, 0]
    ∧ win0_14.index t = ![1, 0, min t.val 15] ∧ win0_15.index t = ![1, min t.val 15, 0]
    ∧ win0_18.index t = ![0, min t.val 15] ∧ win0_19.index t = ![min t.val 15, 0] :=
  (by decide +kernel : ∀ t : Fin grid0.N, _)

variable (m : (ℓ : Loc nD τ sig) → Buf (Elt Ideal) ℓ) (c : Dev nD)

/-- The prompt's rows, a block of it. -/
theorem blk0 (t : Fin cfg0.N) (i : Fin 8) (hi : min t.val 7 = i) (n : Fin 512) (k : Fin 1024) :
    (iblk m c 0 t : Vec Ideal S1x512x1024 .f32) (ix3 0 n k)
      = (m ((c : Thread nD τ).loc main_arg0) : FVec Ideal S16x256x1024 .f32)
          (ix3 ⟨(512 * i + n) / 256, by omega⟩ ⟨(512 * i + n) % 256, by omega⟩ k) := by
  rw [← V4_at m c ⟨512 * i + n, by omega⟩ k]
  blk_ext [iblk, idx t, hi]

/-- The prompt's first projected part, a block of it. -/
theorem blk1 (t : Fin cfg0.N) (i : Fin 8) (hi : min t.val 7 = i) (n : Fin 512) (k : Fin 512) :
    (iblk m c 1 t : Vec Ideal S1x512x512 .bf16) (ix3 0 n k)
      = (m ((c : Thread nD τ).loc main_arg1) : FVec Ideal S16x256x512 .f32)
          (ix3 ⟨(512 * i + n) / 256, by omega⟩ ⟨(512 * i + n) % 256, by omega⟩ k) := by
  rw [← V6_at m c ⟨512 * i + n, by omega⟩ k]
  blk_ext [iblk, idx t, hi]

/-- The prompt's second projected part, a block of it. -/
theorem blk2 (t : Fin cfg0.N) (i : Fin 8) (hi : min t.val 7 = i) (n : Fin 512) (k : Fin 512) :
    (iblk m c 2 t : Vec Ideal S1x512x512 .bf16) (ix3 0 n k)
      = (m ((c : Thread nD τ).loc main_arg2) : FVec Ideal S16x256x512 .f32)
          (ix3 ⟨(512 * i + n) / 256, by omega⟩ ⟨(512 * i + n) % 256, by omega⟩ k) := by
  rw [← V8_at m c ⟨512 * i + n, by omega⟩ k]
  blk_ext [iblk, idx t, hi]

/-- The sample's rows, a block of it. -/
theorem blk3 (t : Fin cfg0.N) (b : Fin 2) (i : Fin 8) (hb : (t.val - 8) / 8 = b) (hi : (t.val - 8) % 8 = i) (n : Fin 512) (k : Fin 1024) :
    (iblk m c 3 t : Vec Ideal S1x512x1024 .f32) (ix3 0 n k)
      = (m ((c : Thread nD τ).loc main_arg3) : FVec Ideal S2x4096x1024 .f32) (ix3 b ⟨512 * i + n, by omega⟩ k) := by
  rw [← V_main_arg3 m c]
  blk_ext [iblk, idx t, hb, hi]

/-- The sample's first projected part, a block of it. -/
theorem blk4 (t : Fin cfg0.N) (b : Fin 2) (i : Fin 8) (hb : (t.val - 8) / 8 = b) (hi : (t.val - 8) % 8 = i) (n : Fin 512) (k : Fin 512) :
    (iblk m c 4 t : Vec Ideal S1x512x512 .bf16) (ix3 0 n k)
      = (m ((c : Thread nD τ).loc main_arg4) : FVec Ideal S2x4096x512 .f32) (ix3 b ⟨512 * i + n, by omega⟩ k) := by
  rw [← V9_at m c b ⟨512 * i + n, by omega⟩ k]
  blk_ext [iblk, idx t, hb, hi]

/-- The sample's second projected part, a block of it. -/
theorem blk5 (t : Fin cfg0.N) (b : Fin 2) (i : Fin 8) (hb : (t.val - 8) / 8 = b) (hi : (t.val - 8) % 8 = i) (n : Fin 512) (k : Fin 512) :
    (iblk m c 5 t : Vec Ideal S1x512x512 .bf16) (ix3 0 n k)
      = (m ((c : Thread nD τ).loc main_arg5) : FVec Ideal S2x4096x512 .f32) (ix3 b ⟨512 * i + n, by omega⟩ k) := by
  rw [← V10_at m c b ⟨512 * i + n, by omega⟩ k]
  blk_ext [iblk, idx t, hb, hi]

/-- A chunk of the modulation rows, the row of a point. -/
theorem blk6 (t : Fin cfg0.N) (r : Fin 8) (hr : t.val / 8 = r) (k : Fin 1024) :
    (iblk m c 6 t : Vec Ideal S1x1x1x1x1024 .f32) (ix5 0 0 0 0 k)
      = (V m c main_v3 : FVec Ideal S2x8x6x1x1024 .f32) (ix5 0 r 2 0 k) := by
  blk_ext [iblk, idx t, hr]

/-- A chunk of the modulation rows, the row of a point. -/
theorem blk7 (t : Fin cfg0.N) (r : Fin 8) (hr : t.val / 8 = r) (k : Fin 1024) :
    (iblk m c 7 t : Vec Ideal S1x1x1x1x1024 .f32) (ix5 0 0 0 0 k)
      = (V m c main_v3 : FVec Ideal S2x8x6x1x1024 .f32) (ix5 0 r 3 0 k) := by
  blk_ext [iblk, idx t, hr]

/-- A chunk of the modulation rows, the row of a point. -/
theorem blk8 (t : Fin cfg0.N) (r : Fin 8) (hr : t.val / 8 = r) (k : Fin 1024) :
    (iblk m c 8 t : Vec Ideal S1x1x1x1x1024 .f32) (ix5 0 0 0 0 k)
      = (V m c main_v3 : FVec Ideal S2x8x6x1x1024 .f32) (ix5 0 r 4 0 k) := by
  blk_ext [iblk, idx t, hr]

/-- A chunk of the modulation rows, the row of a point. -/
theorem blk9 (t : Fin cfg0.N) (r : Fin 8) (hr : t.val / 8 = r) (k : Fin 1024) :
    (iblk m c 9 t : Vec Ideal S1x1x1x1x1024 .f32) (ix5 0 0 0 0 k)
      = (V m c main_v3 : FVec Ideal S2x8x6x1x1024 .f32) (ix5 0 r 5 0 k) := by
  blk_ext [iblk, idx t, hr]

/-- The normalisation's weights' block. -/
theorem blk10 (t : Fin cfg0.N) (k : Fin 1024) :
    (iblk m c 10 t : Vec Ideal S1x1024 .f32) (ix2 0 k) = (m ((c : Thread nD τ).loc main_arg8) : FVec Ideal S2x1024 .f32) (ix2 0 k) := by
  rw [← V13_at m c k]
  blk_ext [iblk, idx t]

/-- The projection's block. -/
theorem blk11 (t : Fin cfg0.N) (k j : Fin 1024) :
    (iblk m c 11 t : Vec Ideal S1x1024x1024 .f32) (ix3 0 k j) = (m ((c : Thread nD τ).loc main_arg9) : FVec Ideal S1x1024x1024 .f32) (ix3 0 k j) := by
  rw [← V_main_arg9 m c]
  blk_ext [iblk, idx t]

/-- The first feed-forward weights' block. -/
theorem blk12 (t : Fin cfg0.N) (k : Fin 1024) (i : Fin 4096) :
    (iblk m c 12 t : Vec Ideal S1024x4096 .bf16) (ix2 k i) = (m ((c : Thread nD τ).loc main_arg10) : FVec Ideal S2x1024x4096 .f32) (ix3 0 k i) := by
  rw [← V16_at m c k i]
  blk_ext [iblk, idx t]

/-- The second feed-forward weights' block. -/
theorem blk13 (t : Fin cfg0.N) (i : Fin 4096) (j : Fin 1024) :
    (iblk m c 13 t : Vec Ideal S4096x1024 .bf16) (ix2 i j) = (m ((c : Thread nD τ).loc main_arg11) : FVec Ideal S2x4096x1024 .f32) (ix3 0 i j) := by
  rw [← V19_at m c i j]
  blk_ext [iblk, idx t]

/-- The prompt's joined parts. -/
theorem cat_P (t : Fin cfg0.N) (i : Fin 8) (hi : min t.val 7 = i) (n : Fin 512) :
    cat (iblk m c 1 t : Vec Ideal S1x512x512 .bf16) (iblk m c 2 t : Vec Ideal S1x512x512 .bf16) n
      = catP (m ((c : Thread nD τ).loc main_arg1)) (m ((c : Thread nD τ).loc main_arg2))
          ⟨(512 * i + n) / 256, by omega⟩ ⟨(512 * i + n) % 256, by omega⟩ := by
  funext k
  unfold cat catP
  split
  · exact blk1 m c t i hi n _
  · exact blk2 m c t i hi n _

/-- The sample's joined parts. -/
theorem cat_S (t : Fin cfg0.N) (b : Fin 2) (i : Fin 8) (hb : (t.val - 8) / 8 = b) (hi : (t.val - 8) % 8 = i) (n : Fin 512) :
    cat (iblk m c 4 t : Vec Ideal S1x512x512 .bf16) (iblk m c 5 t : Vec Ideal S1x512x512 .bf16) n
      = catS (m ((c : Thread nD τ).loc main_arg4)) (m ((c : Thread nD τ).loc main_arg5)) b ⟨512 * i + n, by omega⟩ := by
  funext k
  unfold cat catS
  split
  · exact blk4 m c t b i hb hi n _
  · exact blk5 m c t b i hb hi n _

/-- A row of a block of the first result. -/
theorem blkA_at (t : Fin cfg0.N) (i : Fin 8) (hi : t.val = i) (n : Fin 512) (j : Fin 1024) :
    outA (iblk m c 0 t) (iblk m c 1 t) (iblk m c 2 t) (iblk m c 6 t) (iblk m c 7 t) (iblk m c 8 t) (iblk m c 9 t) (iblk m c 10 t) (iblk m c 11 t) (iblk m c 12 t) (iblk m c 13 t) (ix3 0 n j)
      = arrP (m ((c : Thread nD τ).loc main_arg0)) (m ((c : Thread nD τ).loc main_arg1)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) (ix3 0 ⟨512 * i + n, by omega⟩ j) := by
  have h7 : min t.val 7 = i := by omega
  have h8 : t.val / 8 = (0 : Fin 8) := by
    show t.val / 8 = 0
    omega
  refine (outA_at _ _ _ _ _ _ _ _ _ _ _ n j).trans ((payA_at _ _ _ _ _ _ _ _ _ _ _ n j).trans ?_)
  exact row_congr (funext fun k => blk0 m c t i h7 n k) (funext fun k => (blk6 m c t 0 h8 k).trans (V3_prompt m c 2 k))
    (cat_P m c t i h7 n) (funext fun k => funext fun j => blk11 m c t k j) (funext fun k => blk10 m c t k)
    (funext fun k => (blk8 m c t 0 h8 k).trans (V3_prompt m c 4 k)) (funext fun k => (blk7 m c t 0 h8 k).trans (V3_prompt m c 3 k))
    (funext fun k => (blk9 m c t 0 h8 k).trans (V3_prompt m c 5 k)) (funext fun k => funext fun i => blk12 m c t k i)
    (funext fun i => funext fun j => blk13 m c t i j) j

/-- A row of a block of the second result. -/
theorem blkB_at (t : Fin cfg0.N) (b : Fin 2) (i : Fin 8) (ht : t.val = 8 + 8 * b + i) (n : Fin 512) (j : Fin 1024) :
    outB (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 n j)
      = arrS (m ((c : Thread nD τ).loc main_arg8)) (m ((c : Thread nD τ).loc main_arg9)) (m ((c : Thread nD τ).loc main_arg10)) (m ((c : Thread nD τ).loc main_arg11)) (m ((c : Thread nD τ).loc main_arg3)) (m ((c : Thread nD τ).loc main_arg4)) (m ((c : Thread nD τ).loc main_arg5)) (m ((c : Thread nD τ).loc main_arg7)) (ix3 b ⟨512 * i + n, by omega⟩ j) := by
  have hb : (t.val - 8) / 8 = b := by omega
  have hi : (t.val - 8) % 8 = i := by omega
  have h8 : t.val / 8 = (⟨1 + b, by omega⟩ : Fin 8) := by
    show t.val / 8 = 1 + b
    omega
  refine (outB_at _ _ _ _ _ _ _ _ _ _ _ n j).trans ((payB_at _ _ _ _ _ _ _ _ _ _ _ n j).trans ((payA_at _ _ _ _ _ _ _ _ _ _ _ n j).trans ?_))
  exact row_congr (funext fun k => blk3 m c t b i hb hi n k) (funext fun k => (blk6 m c t _ h8 k).trans (V3_sample m c b 2 k))
    (cat_S m c t b i hb hi n) (funext fun k => funext fun j => blk11 m c t k j) (funext fun k => blk10 m c t k)
    (funext fun k => (blk8 m c t _ h8 k).trans (V3_sample m c b 4 k)) (funext fun k => (blk7 m c t _ h8 k).trans (V3_sample m c b 3 k))
    (funext fun k => (blk9 m c t _ h8 k).trans (V3_sample m c b 5 k)) (funext fun k => funext fun i => blk12 m c t k i)
    (funext fun i => funext fun j => blk13 m c t i j) j

/-- The first result's array, whole. -/
theorem finalA : (dats m 0 c).arrAt 16 cfg0.N = arrP (m ((c : Thread nD τ).loc main_arg0)) (m ((c : Thread nD τ).loc main_arg1)) (m ((c : Thread nD τ).loc main_arg2)) (m ((c : Thread nD τ).loc main_arg6)) (m ((c : Thread nD τ).loc main_arg8)) (m ((c : Thread nD τ).loc main_arg9)) (m ((c : Thread nD τ).loc main_arg10)) (m ((c : Thread nD τ).loc main_arg11)) := by
  refine (dats m 0 c).arrAt_eq_of_covers 16 _ (by decide +kernel) fun t _ y => ?_
  blk_simp
  rw [after0_16]
  obtain ⟨i, hi⟩ : ∃ i : Fin 8, min t.val 7 = i := ⟨⟨_, by omega⟩, rfl⟩
  obtain ⟨y0, n, j, rfl⟩ : ∃ (y0 : Fin 1) (n : Fin 512) (j : Fin 1024), y = ix3 y0 n j := ⟨y 0, y 1, y 2, by idx_ext⟩
  obtain rfl : y0 = 0 := Subsingleton.elim _ _
  have he : ((win0_16.blk t).view.emb (ix3 0 n j) : S1x4096x1024.Idx) = ix3 0 ⟨512 * i + n, by omega⟩ j := by
    blk_ext [idx t, hi]
  rw [he]
  exact blkA_at m c (tA t) i hi n j

/-- The second result's array, whole. -/
theorem finalB : (dats m 0 c).arrAt 17 cfg0.N = arrS (m ((c : Thread nD τ).loc main_arg8)) (m ((c : Thread nD τ).loc main_arg9)) (m ((c : Thread nD τ).loc main_arg10)) (m ((c : Thread nD τ).loc main_arg11)) (m ((c : Thread nD τ).loc main_arg3)) (m ((c : Thread nD τ).loc main_arg4)) (m ((c : Thread nD τ).loc main_arg5)) (m ((c : Thread nD τ).loc main_arg7)) := by
  refine (dats m 0 c).arrAt_eq_of_covers 17 _ (by decide +kernel) fun t hf y => ?_
  have h8 : 8 ≤ t.val := by
    by_contra hc
    exact Bool.false_ne_true ((flush17_lt t (by omega)).symm.trans hf)
  have h24 : t.val < 24 := t.isLt
  blk_simp
  rw [after0_17]
  obtain ⟨b, hb⟩ : ∃ b : Fin 2, (t.val - 8) / 8 = b := ⟨⟨_, by omega⟩, rfl⟩
  obtain ⟨i, hi⟩ : ∃ i : Fin 8, (t.val - 8) % 8 = i := ⟨⟨_, by omega⟩, rfl⟩
  obtain ⟨y0, n, j, rfl⟩ : ∃ (y0 : Fin 1) (n : Fin 512) (j : Fin 1024), y = ix3 y0 n j := ⟨y 0, y 1, y 2, by idx_ext⟩
  obtain rfl : y0 = 0 := Subsingleton.elim _ _
  have he : ((win0_17.blk t).view.emb (ix3 0 n j) : S2x4096x1024.Idx) = ix3 b ⟨512 * i + n, by omega⟩ j := by
    blk_ext [idx t, hb, hi]
  rw [he]
  exact blkB_at m c t b i (by omega) n j

/-- A block of the next layer's first feed-forward weights. -/
theorem blk14 (t : Fin cfg0.N) (i : Fin 16) (hi : min t.val 15 = i) (k : Fin 1024) (n : Fin 256) :
    (iblk m c 14 t : Vec Ideal S1x1024x256 .f32) (ix3 0 k n)
      = (m ((c : Thread nD τ).loc main_arg10) : FVec Ideal S2x1024x4096 .f32) (ix3 1 k ⟨256 * i + n, by omega⟩) := by
  rw [← V_main_arg10 m c]
  blk_ext [iblk, idx t, hi]

/-- A block of the next layer's second feed-forward weights. -/
theorem blk15 (t : Fin cfg0.N) (i : Fin 16) (hi : min t.val 15 = i) (n : Fin 256) (j : Fin 1024) :
    (iblk m c 15 t : Vec Ideal S1x256x1024 .f32) (ix3 0 n j)
      = (m ((c : Thread nD τ).loc main_arg11) : FVec Ideal S2x4096x1024 .f32) (ix3 1 ⟨256 * i + n, by omega⟩ j) := by
  rw [← V_main_arg11 m c]
  blk_ext [iblk, idx t, hi]

theorem castU_at (x : Vec Ideal S1x1024x256 .f32) (k : Fin 1024) (n : Fin 256) : k0_pay1 x (ix2 k n) = x (ix3 0 k n) := by
  pointwise [k0_pay1]
theorem castD_at (x : Vec Ideal S1x256x1024 .f32) (n : Fin 256) (j : Fin 1024) : k0_pay2 x (ix2 n j) = x (ix3 0 n j) := by
  pointwise [k0_pay2]
theorem ldUi (x : Vec Ideal S1x1024x256 .f32) (k : Fin 1024) (n : Fin 256) : View.ld x rUi (ix3 0 k n) = x (ix3 0 k n) := by
  pointwise
theorem ldDi (x : Vec Ideal S1x256x1024 .f32) (n : Fin 256) (j : Fin 1024) : View.ld x rDi (ix3 0 n j) = x (ix3 0 n j) := by
  pointwise

/-- An entry of the first cast block. -/
theorem outU_at (x : Vec Ideal S1x1024x256 .f32) (k : Fin 1024) (n : Fin 256) : outU x (ix2 k n) = x (ix3 0 k n) := by
  refine Eq.trans ?_ ((castU_at (View.ld x rUi) k n).trans (ldUi x k n))
  unfold outU
  generalize k0_pay1 (View.ld x rUi) = v
  canon_tiles y h
  idx_vars y
  rw [show y0 = k from Fin.ext h0.symm, show y1 = n from Fin.ext h1.symm]

/-- An entry of the second cast block. -/
theorem outD_at (x : Vec Ideal S1x256x1024 .f32) (n : Fin 256) (j : Fin 1024) : outD x (ix2 n j) = x (ix3 0 n j) := by
  refine Eq.trans ?_ ((castD_at (View.ld x rDi) n j).trans (ldDi x n j))
  unfold outD
  generalize k0_pay2 (View.ld x rDi) = v
  canon_tiles y h
  idx_vars y
  rw [show y0 = n from Fin.ext h0.symm, show y1 = j from Fin.ext h1.symm]

/-- The first cast weights' array, whole. -/
theorem finalU : (dats m 0 c).arrAt 18 cfg0.N = arrU (m ((c : Thread nD τ).loc main_arg10)) := by
  refine (dats m 0 c).arrAt_eq_of_covers 18 _ (by decide +kernel) fun t _ y => ?_
  blk_simp
  rw [after0_18]
  obtain ⟨i, hi⟩ : ∃ i : Fin 16, min t.val 15 = i := ⟨⟨_, by omega⟩, rfl⟩
  obtain ⟨k, n, rfl⟩ : ∃ (k : Fin 1024) (n : Fin 256), y = ix2 k n := ⟨y 0, y 1, by idx_ext⟩
  have he : ((win0_18.blk t).view.emb (ix2 k n) : S1024x4096.Idx) = ix2 k ⟨256 * i + n, by omega⟩ := by
    blk_ext [idx t, hi]
  rw [he]
  exact (outU_at _ k n).trans (blk14 m c t i hi k n)

/-- The second cast weights' array, whole. -/
theorem finalD : (dats m 0 c).arrAt 19 cfg0.N = arrD (m ((c : Thread nD τ).loc main_arg11)) := by
  refine (dats m 0 c).arrAt_eq_of_covers 19 _ (by decide +kernel) fun t _ y => ?_
  blk_simp
  rw [after0_19]
  obtain ⟨i, hi⟩ : ∃ i : Fin 16, min t.val 15 = i := ⟨⟨_, by omega⟩, rfl⟩
  obtain ⟨n, j, rfl⟩ : ∃ (n : Fin 256) (j : Fin 1024), y = ix2 n j := ⟨y 0, y 1, by idx_ext⟩
  have he : ((win0_19.blk t).view.emb (ix2 n j) : S4096x1024.Idx) = ix2 ⟨256 * i + n, by omega⟩ j := by
    blk_ext [idx t, hi]
  rw [he]
  exact (outD_at _ n j).trans (blk15 m c t i hi n j)

end Cert.Mlp0

end
-- ==== Proof.Mlp0.Equation.lean ====
module

public import proofs.«01_k».proof.Defs
public import proofs.«01_k».proof.Proof.Mlp0.Array
public import proofs.«01_k».proof.Proof.Mlp0.Frame
public import proofs.«01_k».proof.Proof.Mlp0.Ref
public import proofs.«01_k».proof.Proof.Gen.Reference4Ideal.Run
public import Idealize.ShloMosaic.Lib.Claim

/-!
The value claim of layer 0's block: over the extended reals the call's four arrays are the reference's.
-/

@[expose] public section

set_option maxRecDepth 16384

noncomputable section

namespace Cert.Mlp0

open Idealize.ShloMosaic Idealize.ShloMosaic.TcCoe Idealize.SL.Sem

/-- The block is computed as the reference computes it. -/
theorem algebraic : Cert.algebraic_Kernel4Ideal_Reference4Ideal := by
  pair_intro
  · run_from Cert.Mlp0.run_blocks m g
  · run_from Cert.Reference4Ideal.Value.run m' g'
    · rw [Cert.Reference4Ideal.Read.val_main_v95_eq]
      obtain ⟨a0, a1, a2, a3, a4, a5, a6, a7, a8, a9, a10, a11⟩ := hagree c
      rw [a0, a1, a2, a6, a8, a9, a10, a11]
      exact (ref_P _ _ _ _ _ _ _ _).trans (finalA m c).symm
    · rw [Cert.Reference4Ideal.Read.val_main_v94_eq]
      obtain ⟨a0, a1, a2, a3, a4, a5, a6, a7, a8, a9, a10, a11⟩ := hagree c
      rw [a3, a4, a5, a7, a8, a9, a10, a11]
      exact (ref_S _ _ _ _ _ _ _ _).trans (finalB m c).symm
    · rw [Cert.Reference4Ideal.Read.val_main_v98_eq]
      exact (ref_U _).trans (finalU m c).symm
    · rw [Cert.Reference4Ideal.Read.val_main_v101_eq]
      exact (ref_D _).trans (finalD m c).symm

end Cert.Mlp0

end
-- ==== Proof.Mlp0.Same.lean ====
module

public import proofs.«01_k».proof.Defs
public import proofs.«01_k».proof.Proof.Mlp0.Frame
public import proofs.«01_k».proof.Proof.Gen.Kernel4
public import proofs.«01_k».proof.Proof.Gen.Kernel4.Launch

/-!
Layer 0's program at the bits and its idealization have one text, so the frame of one is the frame of the other.
-/

@[expose] public section

set_option maxRecDepth 16384

noncomputable section

namespace Cert.Mlp0

open Idealize.ShloMosaic Idealize.ShloMosaic.TcCoe Idealize.SL.Sem

variable {F : FTy → Type} [FloatOps F]

set_option maxHeartbeats 2000000 in
/-- The two bodies are one. -/
theorem body_same : @Cert.Kernel4.cc0_out_mlp F _ _ = @Cert.Kernel4Ideal.cc0_out_mlp F _ _ := rfl

set_option maxHeartbeats 2000000 in
/-- The two tables of bodies are one. -/
theorem table_same : Cert.Kernel4.defs₀ (F := F) = Cert.Kernel4Ideal.defs₀ (F := F) := by
  unfold Cert.Kernel4.defs₀ Cert.Kernel4Ideal.defs₀
  refine congrArg Defs.onTc (funext fun l => ?_)
  match l with
  | 0 =>
    funext ⟨t, s⟩
    dsimp only
    rw [body_same]
    rfl
  | ⟨n + 1, h⟩ => exact absurd h (Nat.not_lt.2 (Nat.le_add_left _ _))

set_option maxHeartbeats 4000000 in
/-- The two programs' tables are one. -/
theorem defs_same : Cert.Kernel4.defs (F := F) = Cert.Kernel4Ideal.defs (F := F) :=
  congrArg (Pipeline.defs Cert.Kernel4Ideal.pcfgs) table_same

/-- The host's operations are the same. -/
theorem host_same : Cert.Kernel4.Gen.hostOps0 (F := F) = Cert.Kernel4Ideal.Gen.hostOps0 (F := F) := rfl

set_option maxHeartbeats 4000000 in
/-- The two main functions are one. -/
theorem main_same : Cert.Kernel4.main (F := F) = Cert.Kernel4Ideal.main (F := F) := by
  funext c
  refine (Cert.Kernel4.Gen.main_chain c).trans (Eq.trans ?_ (Cert.Kernel4Ideal.Gen.main_chain c).symm)
  rw [host_same]
  rfl

set_option maxHeartbeats 2000000 in
/-- The program's call leaves its arguments as they were, at the bits. -/
theorem frame_bits : Cert.quiescent_Kernel4 := by
  intro m ρ _
  rw [defs_same, main_same]
  exact frame (F := Bits) m ρ

end Cert.Mlp0

end
-- ==== Proof.Mlp.Same.lean ====
module

public import proofs.«01_k».proof.Defs
public import proofs.«01_k».proof.Proof.Mlp.Frame
public import proofs.«01_k».proof.Proof.Gen.Kernel
public import proofs.«01_k».proof.Proof.Gen.Kernel.Launch

/-!
The program at the bits and its idealization have one text, so the frame of one is the frame of the other.
-/

@[expose] public section

set_option maxRecDepth 16384

noncomputable section

namespace Cert.Mlp

open Idealize.ShloMosaic Idealize.ShloMosaic.TcCoe Idealize.SL.Sem

variable {F : FTy → Type} [FloatOps F]

set_option maxHeartbeats 2000000 in
/-- The two bodies are one. -/
theorem body_same : @Cert.Kernel.cc0_out_mlp F _ _ = @Cert.KernelIdeal.cc0_out_mlp F _ _ := rfl

set_option maxHeartbeats 2000000 in
/-- The two tables of bodies are one. -/
theorem table_same : Cert.Kernel.defs₀ (F := F) = Cert.KernelIdeal.defs₀ (F := F) := by
  unfold Cert.Kernel.defs₀ Cert.KernelIdeal.defs₀
  refine congrArg Defs.onTc (funext fun l => ?_)
  match l with
  | 0 =>
    funext ⟨t, s⟩
    dsimp only
    rw [body_same]
    rfl
  | ⟨n + 1, h⟩ => exact absurd h (Nat.not_lt.2 (Nat.le_add_left _ _))

/-- The two programs' tables are one. -/
theorem defs_same : Cert.Kernel.defs (F := F) = Cert.KernelIdeal.defs (F := F) :=
  congrArg (Pipeline.defs Cert.KernelIdeal.pcfgs) table_same

/-- The host's operations are the same. -/
theorem host_same : Cert.Kernel.Gen.hostOps0 (F := F) = Cert.KernelIdeal.Gen.hostOps0 (F := F) := rfl

set_option maxHeartbeats 4000000 in
/-- The two main functions are one. -/
theorem main_same : Cert.Kernel.main (F := F) = Cert.KernelIdeal.main (F := F) := by
  funext c
  refine (Cert.Kernel.Gen.main_chain c).trans (Eq.trans ?_ (Cert.KernelIdeal.Gen.main_chain c).symm)
  rw [host_same]
  rfl

set_option maxHeartbeats 2000000 in
/-- The program's call leaves its arguments as they were, at the bits. -/
theorem frame_bits : Cert.quiescent_Kernel := by
  intro m ρ _
  rw [defs_same, main_same]
  exact frame (F := Bits) m ρ

end Cert.Mlp

end
-- ==== Proof.Ada.Spec.lean ====
module

public import proofs.«01_k».proof.Proof.Gen.Kernel3Ideal
public import Idealize.ShloMosaic.Lib.Pipeline.ValueKit

/-!
The conditioning, as mathematics: one entry of the modulation rows.
-/

@[expose] public section

set_option maxRecDepth 16384

noncomputable section

namespace Cert.Ada

open Idealize.ShloMosaic Idealize.ShloMosaic.TcCoe Idealize.SL.Sem Cert.Kernel3Ideal

/-- The activation. -/
def silu (x : EReal) : EReal := x * Ideal.div 1 (1 + Ideal.exp (-x))

/-- One modulation: the activated conditioning row times a column of the layer's weights, and the bias. -/
def mods (z : FVec Ideal S8x1024 .f32) (w : FVec Ideal S2x1024x6144 .f32) (b : FVec Ideal S2x6144 .f32) (l : Fin 2)
    (r : Fin 8) (j : Fin 6144) : EReal :=
  ∑ k : Fin 1024, silu (z (ix2 r k)) * w (ix3 l k j) + b (ix2 l j)

/-- The modulations of both layers. -/
def modArr (z : FVec Ideal S8x1024 .f32) (w : FVec Ideal S2x1024x6144 .f32) (b : FVec Ideal S2x6144 .f32) :
    FVec Ideal S2x8x6144 .f32 := fun y => mods z w b (y 0) (y 1) (y 2)

theorem modArr_at (z : FVec Ideal S8x1024 .f32) (w : FVec Ideal S2x1024x6144 .f32) (b : FVec Ideal S2x6144 .f32) (l : Fin 2)
    (r : Fin 8) (j : Fin 6144) : modArr z w b (ix3 l r j) = mods z w b l r j := rfl

end Cert.Ada

end
-- ==== Proof.Ada.Array.lean ====
module

public import proofs.«01_k».proof.Proof.Ada.Spec
public import proofs.«01_k».proof.Proof.Gen.Kernel3Ideal.Frame
public import Idealize.ShloMosaic.Lib.Claim

/-!
The conditioning's array: every block is the specification's.
-/

@[expose] public section

set_option maxRecDepth 16384

noncomputable section

namespace Cert.Ada

open Idealize.ShloMosaic Idealize.ShloMosaic.TcCoe Idealize.SL.Sem Cert.Kernel3Ideal Cert.Kernel3Ideal.Gen
open Idealize.ShloMosaic.Pipeline (Dat)

/-- The activation as the body computes it. -/
theorem silu_eq (x : EReal) : x * Ideal.logistic x = silu x := rfl

/-- What the body stores, at an index. -/
theorem pay_at (z : Vec Ideal S8x1024 .f32) (w : Vec Ideal S1x1024x3072 .f32) (b : Vec Ideal S1x1x3072 .f32) (r : Fin 8)
    (q : Fin 3072) :
    k0_pay1 z w b (ix3 0 r q) = ∑ k : Fin 1024, silu (z (ix2 r k)) * w (ix3 0 k q) + b (ix3 0 0 q) := by
  pointwise [k0_pay1]
  rfl

theorem ld0 (z : Vec Ideal S8x1024 .f32) (r : Fin 8) (k : Fin 1024) : View.ld z r0_0 (ix2 r k) = z (ix2 r k) := by
  pointwise
theorem ld1 (w : Vec Ideal S1x1024x3072 .f32) (k : Fin 1024) (q : Fin 3072) : View.ld w r0_1 (ix3 0 k q) = w (ix3 0 k q) := by
  pointwise
theorem ld2 (b : Vec Ideal S1x1x3072 .f32) (q : Fin 3072) : View.ld b r0_2 (ix3 0 0 q) = b (ix3 0 0 q) := by
  pointwise

/-- The block that the body leaves, at an index. -/
theorem block_at (z : Vec Ideal S8x1024 .f32) (w : Vec Ideal S1x1024x3072 .f32) (b : Vec Ideal S1x1x3072 .f32) (r : Fin 8)
    (q : Fin 3072) :
    out0_3 z w b (ix3 0 r q) = ∑ k : Fin 1024, silu (z (ix2 r k)) * w (ix3 0 k q) + b (ix3 0 0 q) := by
  refine Eq.trans ?_ ((pay_at (View.ld z r0_0) (View.ld w r0_1) (View.ld b r0_2) r q).trans
    (congrArg₂ _ (Finset.sum_congr rfl fun k _ => congrArg₂ _ (congrArg silu (ld0 z r k)) (ld1 w k q)) (ld2 b q)))
  unfold out0_3
  generalize k0_pay1 (View.ld z r0_0) (View.ld w r0_1) (View.ld b r0_2) = v
  canon_tiles y h
  idx_vars y
  rw [show y0 = 0 from Subsingleton.elim _ _, show y1 = r from Fin.ext h1.symm, show y2 = q from Fin.ext h2.symm]

/-- The blocks' places. -/
theorem idx : ∀ t : Fin cfg0.N,
    win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

variable (m : (ℓ : Loc nD τ sig) → Buf (Elt Ideal) ℓ) (c : Dev nD)

/-- The bias as the call is given it. -/
theorem V3_at (l : Fin 2) (j : Fin 6144) :
    (V m c main_v3 : FVec Ideal S2x1x6144 .f32) (ix3 l 0 j) = (m ((c : Thread nD τ).loc main_arg3) : FVec Ideal S2x6144 .f32) (ix2 l j) := by
  entry_read
  pointwise

/-- The conditioning rows: the prompt's, the sample's two, and five of zeros. -/
def cond (a : FVec Ideal S1024 .f32) (b : FVec Ideal S2x1024 .f32) : FVec Ideal S8x1024 .f32 :=
  concatenate S8x1024 0 [⟨S1x1024, (broadcastInDim S1x1024 ![1] bcast_S1024_S1x1024_1 a : FVec Ideal S1x1024 .f32)⟩,
    ⟨S2x1024, b⟩, ⟨S5x1024, (broadcastInDim S5x1024 ![] bcast_S_S5x1024 (constant S_ .f32 0x00000000#32) : FVec Ideal S5x1024 .f32)⟩]
    concatenates_S1x1024_S2x1024_S5x1024_S8x1024_d0

/-- The conditioning rows as the call is given them. -/
theorem V2_eq : (V m c main_v2 : FVec Ideal S8x1024 .f32)
    = cond (m ((c : Thread nD τ).loc main_arg0)) (m ((c : Thread nD τ).loc main_arg1)) := by
  show StableHlo.after hostOps0 (fun b => m (c, b)) (Proc.tc.devRef main_v2) = _
  simp only [hostOps0, StableHlo.after_cons, StableHlo.after_nil]
  after_results_simp
  rfl

/-- The conditioning's block is its array. -/
theorem blk0 (t : Fin cfg0.N) (r : Fin 8) (k : Fin 1024) :
    (iblk m c 0 t : Vec Ideal S8x1024 .f32) (ix2 r k) = (V m c main_v2 : FVec Ideal S8x1024 .f32) (ix2 r k) := by
  blk_ext [iblk, idx t]

/-- The weights' block. -/
theorem blk1 (t : Fin cfg0.N) (l : Fin 2) (i : Fin 2) (hl : (grid0.coords t 0).val = l) (hi : (grid0.coords t 1).val = i)
    (k : Fin 1024) (q : Fin 3072) :
    (iblk m c 1 t : Vec Ideal S1x1024x3072 .f32) (ix3 0 k q)
      = (m ((c : Thread nD τ).loc main_arg2) : FVec Ideal S2x1024x6144 .f32) (ix3 l k ⟨3072 * i + q, by omega⟩) := by
  rw [← V_main_arg2 m c]
  blk_ext [iblk, idx t, hl, hi]

/-- The bias's block. -/
theorem blk2 (t : Fin cfg0.N) (l : Fin 2) (i : Fin 2) (hl : (grid0.coords t 0).val = l) (hi : (grid0.coords t 1).val = i)
    (q : Fin 3072) :
    (iblk m c 2 t : Vec Ideal S1x1x3072 .f32) (ix3 0 0 q)
      = (m ((c : Thread nD τ).loc main_arg3) : FVec Ideal S2x6144 .f32) (ix2 l ⟨3072 * i + q, by omega⟩) := by
  rw [← V3_at m c l ⟨3072 * i + q, by omega⟩]
  blk_ext [iblk, idx t, hl, hi]

/-- The result array, whole. -/
theorem final : (dats m 0 c).arrAt 3 cfg0.N
    = modArr (cond (m ((c : Thread nD τ).loc main_arg0)) (m ((c : Thread nD τ).loc main_arg1)))
        (m ((c : Thread nD τ).loc main_arg2)) (m ((c : Thread nD τ).loc main_arg3)) := by
  refine (dats m 0 c).arrAt_eq_of_covers 3 _ (by decide +kernel) fun t _ y => ?_
  blk_simp
  rw [after0_3]
  obtain ⟨l, hl⟩ : ∃ l : Fin 2, (grid0.coords t 0).val = l := ⟨⟨_, (grid0.coords t 0).isLt⟩, rfl⟩
  obtain ⟨i, hi⟩ : ∃ i : Fin 2, (grid0.coords t 1).val = i := ⟨⟨_, (grid0.coords t 1).isLt⟩, rfl⟩
  obtain ⟨y0, r, q, rfl⟩ : ∃ (y0 : Fin 1) (r : Fin 8) (q : Fin 3072), y = ix3 y0 r q := ⟨y 0, y 1, y 2, by idx_ext⟩
  obtain rfl : y0 = 0 := Subsingleton.elim _ _
  have he : ((win0_3.blk t).view.emb (ix3 0 r q) : S2x8x6144.Idx) = ix3 l r ⟨3072 * i + q, by omega⟩ := by
    blk_ext [idx t, hl, hi]
  rw [he, modArr_at]
  refine (block_at _ _ _ r q).trans ?_
  simp only [blk0, blk1 m c t l i hl hi, blk2 m c t l i hl hi, V2_eq]
  rfl

end Cert.Ada

end
-- ==== Proof.Ada.Ref.lean ====
module

public import proofs.«01_k».proof.Proof.Ada.Spec
public import proofs.«01_k».proof.Proof.Gen.Reference3Ideal.Read

/-!
The conditioning's reference at an index.
-/

@[expose] public section

set_option maxRecDepth 16384

noncomputable section

namespace Cert.Ada

open Idealize.ShloMosaic Idealize.ShloMosaic.TcCoe Idealize.SL.Sem Cert.Reference3Ideal Cert.Reference3Ideal.Gen
open Cert.Reference3Ideal.Read

variable (x0 : FVec Ideal S1024 .f32) (x1 : FVec Ideal S2x1024 .f32) (x2 : FVec Ideal S2x1024x6144 .f32)
    (x3 : FVec Ideal S2x6144 .f32)

/-- The activated rows, for the first layer. -/
theorem v3_at (r : Fin 8) (k : Fin 1024) :
    val_main_v3 (F := Ideal) x0 x1 (ix2 r k) = silu (val_main_v2 (F := Ideal) x0 x1 (ix2 r k)) := by
  unfold val_main_v3 val_main_call0_v5 val_main_call0_v4 val_main_call0_v3 val_main_call0_v2 val_main_call0_v1
    val_main_call0_v0 val_main_call0_cst val_main_call0_cst_0
  generalize val_main_v2 (F := Ideal) x0 x1 = z
  pointwise [silu]

/-- The activated rows, for the second layer. -/
theorem v12_at (r : Fin 8) (k : Fin 1024) :
    val_main_v12 (F := Ideal) x0 x1 (ix2 r k) = silu (val_main_v2 (F := Ideal) x0 x1 (ix2 r k)) := v3_at x0 x1 r k

/-- The first layer's modulations. -/
theorem v11_at (r : Fin 8) (j : Fin 6144) :
    val_main_v11 (F := Ideal) x0 x1 x2 x3 (ix2 r j) = mods (val_main_v2 (F := Ideal) x0 x1) x2 x3 0 r j := by
  unfold mods
  simp only [← v3_at]
  unfold val_main_v11 val_main_v10 val_main_v9 val_main_v8 val_main_v7 val_main_v6 val_main_v5 val_main_v4
  generalize val_main_v3 (F := Ideal) x0 x1 = z
  pointwise

/-- The second layer's modulations. -/
theorem v20_at (r : Fin 8) (j : Fin 6144) :
    val_main_v20 (F := Ideal) x0 x1 x2 x3 (ix2 r j) = mods (val_main_v2 (F := Ideal) x0 x1) x2 x3 1 r j := by
  unfold mods
  simp only [← v12_at]
  unfold val_main_v20 val_main_v19 val_main_v18 val_main_v17 val_main_v16 val_main_v15 val_main_v14 val_main_v13
  generalize val_main_v12 (F := Ideal) x0 x1 = z
  pointwise

/-- The reference's result. -/
theorem ref_out : val_main_v23 (F := Ideal) x0 x1 x2 x3 = modArr (val_main_v2 (F := Ideal) x0 x1) x2 x3 := by
  funext y
  obtain ⟨l, r, j, rfl⟩ : ∃ (l : Fin 2) (r : Fin 8) (j : Fin 6144), y = ix3 l r j := ⟨y 0, y 1, y 2, by idx_ext⟩
  rw [modArr_at]
  match l with
  | 0 =>
    rw [← v11_at]
    unfold val_main_v23 val_main_v21
    generalize val_main_v11 (F := Ideal) x0 x1 x2 x3 = a
    generalize val_main_v22 (F := Ideal) x0 x1 x2 x3 = b
    pointwise
  | 1 =>
    rw [← v20_at]
    unfold val_main_v23 val_main_v22
    generalize val_main_v20 (F := Ideal) x0 x1 x2 x3 = a
    generalize val_main_v21 (F := Ideal) x0 x1 x2 x3 = b
    pointwise

end Cert.Ada

end
-- ==== Proof.Ada.Equation.lean ====
module

public import proofs.«01_k».proof.Defs
public import proofs.«01_k».proof.Proof.Ada.Array
public import proofs.«01_k».proof.Proof.Ada.Ref
public import proofs.«01_k».proof.Proof.Gen.Kernel3Ideal.Value
public import proofs.«01_k».proof.Proof.Gen.Reference3Ideal.Run
public import Idealize.ShloMosaic.Lib.Claim

/-!
The conditioning's value claim: over the extended reals, the call's array is the reference's.
-/

@[expose] public section

set_option maxRecDepth 16384

noncomputable section

namespace Cert.Ada

open Idealize.ShloMosaic Idealize.ShloMosaic.TcCoe Idealize.SL.Sem

/-- The reference's conditioning rows are the call's. -/
theorem cond_eq (a : FVec Ideal Cert.Kernel3Ideal.S1024 .f32) (b : FVec Ideal Cert.Kernel3Ideal.S2x1024 .f32) :
    Cert.Reference3Ideal.Read.val_main_v2 (F := Ideal) a b = cond a b := rfl

/-- The conditioning is computed as the reference computes it. -/
theorem algebraic : Cert.algebraic_Kernel3Ideal_Reference3Ideal := by
  pair_intro
  · run_from Cert.Kernel3Ideal.Value.run_blocks m g
  · run_from Cert.Reference3Ideal.Value.run m' g'
    obtain ⟨a0, a1, a2, a3⟩ := hagree c
    rw [Cert.Reference3Ideal.Read.val_main_v23_eq]
    rw [a3]
    exact (ref_out _ _ _ _).trans (final m c).symm

end Cert.Ada

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Attn.Equation
public import proofs.«01_k».proof.Proof.Mlp.Equation
public import proofs.«01_k».proof.Proof.Mlp0.Equation
public import proofs.«01_k».proof.Proof.Mlp0.Same
public import proofs.«01_k».proof.Proof.Mlp.Same
public import proofs.«01_k».proof.Proof.Ada.Equation
public import Idealize.ShloMosaic.Lib.Claim
public import Idealize.ShloMosaic.Adequacy
public import Idealize.ShloMosaic.Init

/-!
The claims, assembled: the frames, the preservations, and the value claims: those of the two layers'
blocks, of the attention and of the conditioning.
-/

@[expose] public section

noncomputable section

namespace Cert.Proof

open Idealize.ShloMosaic Idealize.SL.Sem

/-- The attention's call leaves its arguments as they were, at the bits. -/
theorem frame_attn : Cert.quiescent_Kernel2 := fun m ρ _ => Cert.Kernel2.Gen.frame m ρ

/-- The attention's call leaves its arguments as they were, over the extended reals. -/
theorem frame_attn_ideal : Cert.quiescent_Kernel2Ideal := fun m ρ _ => Cert.Kernel2Ideal.Gen.frame m ρ

/-- The attention's reference leaves its arguments as they were. -/
theorem frame_attn_reference : Cert.quiescent_Reference2Ideal := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The named constant is the reciprocal of eight times the logarithm of two. -/
theorem preserves_attn : Cert.preserves_Kernel2_Kernel2Ideal :=
  IdealRules.named_const.statement Cert.Kernel2Ideal.κ "qscale" .f32 0x3E38AA3B#32 _ rfl

/-- The block's call leaves its arguments as they were, at the bits. -/
theorem frame_mlp : Cert.quiescent_Kernel := Cert.Mlp.frame_bits

/-- The block's call leaves its arguments as they were, over the extended reals. -/
theorem frame_mlp_ideal : Cert.quiescent_KernelIdeal := fun m ρ _ => Cert.Mlp.frame (F := Ideal) m ρ

/-- The block's reference leaves its arguments as they were. -/
theorem frame_mlp_reference : Cert.quiescent_ReferenceIdeal := by
  intro m ρ _
  exact (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The conditioning's call leaves its arguments as they were, at the bits. -/
theorem frame_ada : Cert.quiescent_Kernel3 := fun m ρ _ => Cert.Kernel3.Gen.frame m ρ

/-- The conditioning's call leaves its arguments as they were, over the extended reals. -/
theorem frame_ada_ideal : Cert.quiescent_Kernel3Ideal := fun m ρ _ => Cert.Kernel3Ideal.Gen.frame m ρ

/-- The conditioning's reference leaves its arguments as they were. -/
theorem frame_ada_reference : Cert.quiescent_Reference3Ideal := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The call of layer 0's block leaves its arguments as they were, at the bits. -/
theorem frame_mlp0 : Cert.quiescent_Kernel4 := Cert.Mlp0.frame_bits

/-- The call of layer 0's block leaves its arguments as they were, over the extended reals. -/
theorem frame_mlp0_ideal : Cert.quiescent_Kernel4Ideal := fun m ρ _ => Cert.Mlp0.frame (F := Ideal) m ρ

/-- The reference of layer 0's block leaves its arguments as they were. -/
theorem frame_mlp0_reference : Cert.quiescent_Reference4Ideal := by
  intro m ρ _
  exact (θ_run Cert.Reference4Ideal.defs _ _).mono
    (fun r h => ⟨fun c => (h c).2.2.2.2, Idealize.ShloMosaic.sem_eq_zero_of_no_sems (by decide) r.2⟩)
    (Cert.Reference4Ideal.Value.run (F := Ideal) m ρ)

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts,
    frame_mlp, frame_mlp_ideal, frame_mlp_reference,
    frame_attn, frame_attn_ideal, fun m ρ _ => frame_attn_ideal m ρ trivial, frame_attn_reference,
    fun m ρ _ => frame_attn_reference m ρ trivial, frame_ada, frame_ada_ideal, frame_ada_reference,
    frame_mlp0, frame_mlp0_ideal, frame_mlp0_reference,
    trivial, Cert.Mlp.algebraic, preserves_attn, Cert.Attn.algebraic, trivial, Cert.Ada.algebraic, trivial, Cert.Mlp0.algebraic⟩

end Cert.Proof

end
